-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S4096x2048 : Shape := ⟨2, ![4096, 2048]⟩
abbrev S2x1024x1024 : Shape := ⟨3, ![2, 1024, 1024]⟩
abbrev S2x2x1024x1024 : Shape := ⟨4, ![2, 2, 1024, 1024]⟩
abbrev S2x3x1024x1024 : Shape := ⟨4, ![2, 3, 1024, 1024]⟩
abbrev S2x2x4x512x1024 : Shape := ⟨5, ![2, 2, 4, 512, 1024]⟩
abbrev S2 : Shape := ⟨1, ![2]⟩
abbrev S2x2x2 : Shape := ⟨3, ![2, 2, 2]⟩
abbrev S2x3x2 : Shape := ⟨3, ![2, 3, 2]⟩
abbrev S2x2 : Shape := ⟨2, ![2, 2]⟩
abbrev S1x1 : Shape := ⟨2, ![1, 1]⟩
abbrev S_ : Shape := ⟨0, ![]⟩
abbrev S1x1024x1024 : Shape := ⟨3, ![1, 1024, 1024]⟩
abbrev S1024x1024 : Shape := ⟨2, ![1024, 1024]⟩
abbrev S1x512x1024 : Shape := ⟨3, ![1, 512, 1024]⟩
abbrev S512x1024 : Shape := ⟨2, ![512, 1024]⟩
abbrev S1x1x512x1024 : Shape := ⟨4, ![1, 1, 512, 1024]⟩
abbrev S1x1x1 : Shape := ⟨3, ![1, 1, 1]⟩
abbrev S1x1x1x512x1024 : Shape := ⟨5, ![1, 1, 1, 512, 1024]⟩
abbrev S1x1x1024x1024 : Shape := ⟨4, ![1, 1, 1024, 1024]⟩

abbrev nBuf : Space → Nat
  | .hbm => 5
  | .vmem => 7
  | .smem => 2
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x2048, .bf16⟩
  | .local _ .vmem, ⟨1, _⟩ => ⟨S2x1024x1024, .bf16⟩
  | .local _ .vmem, ⟨2, _⟩ => ⟨S2x1024x1024, .f32⟩
  | .local _ .vmem, ⟨3, _⟩ => ⟨S2x1024x1024, .f32⟩
  | .local _ .vmem, ⟨4, _⟩ => ⟨S2x2x1024x1024, .bf16⟩
  | .local _ .vmem, ⟨5, _⟩ => ⟨S2x3x1024x1024, .bf16⟩
  | .local _ .vmem, ⟨6, _⟩ => ⟨S2x2x4x512x1024, .bf16⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_off1 (d0 : Dev nD) (c4_i32_18 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v21 : BitVec 32 := Scalar.addi v2 c4_i32_18
  let c4_i32_19 : BitVec 32 := 4#32
  let v22 : BitVec 32 := Scalar.remsi v21 c4_i32_19
  let c1024_i32_20 : BitVec 32 := 1024#32
  let v23 : BitVec 32 := Scalar.muli v22 c1024_i32_20
  let c0_i32_25 : BitVec 32 := 0#32
  ![v23.toNat, 0]
def k0_dev1 (d0 : Dev nD) : Nat :=
  let c0_i32_111 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_110 : BitVec 32 := 1#32
  let v108 : BitVec 32 := Scalar.muli v5 c1_i32_110
  let v109 : BitVec 32 := Scalar.addi c0_i32_111 v108
  v109.toNat
def k0_dev2 (d0 : Dev nD) : Nat :=
  let c0_i32_114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_113 : BitVec 32 := 1#32
  let v110 : BitVec 32 := Scalar.muli v7 c1_i32_113
  let v111 : BitVec 32 := Scalar.addi c0_i32_114 v110
  v111.toNat
def k0_dev3 (d0 : Dev nD) : Nat :=
  let c0_i32_126 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_125 : BitVec 32 := 1#32
  let v112 : BitVec 32 := Scalar.muli v7 c1_i32_125
  let v113 : BitVec 32 := Scalar.addi c0_i32_126 v112
  v113.toNat
def k0_dev4 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_141 : BitVec 32 := 1#32
  let v122 : BitVec 32 := Scalar.muli v5 c1_i32_141
  let v123 : BitVec 32 := Scalar.addi c0_i32_142 v122
  v123.toNat
def k0_dev5 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_172 : BitVec 32 := 1#32
  let v145 : BitVec 32 := Scalar.muli v7 c1_i32_172
  let v146 : BitVec 32 := Scalar.addi c0_i32_173 v145
  v146.toNat
def k0_dev6 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_203 : BitVec 32 := 1#32
  let v168 : BitVec 32 := Scalar.muli v5 c1_i32_203
  let v169 : BitVec 32 := Scalar.addi c0_i32_204 v168
  v169.toNat
def k0_dev7 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_317 : BitVec 32 := 1#32
  let v264 : BitVec 32 := Scalar.muli v7 c1_i32_317
  let v265 : BitVec 32 := Scalar.addi c0_i32_318 v264
  v265.toNat
def k0_dev8 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_360 : BitVec 32 := 1#32
  let v292 : BitVec 32 := Scalar.muli v5 c1_i32_360
  let v293 : BitVec 32 := Scalar.addi c0_i32_361 v292
  v293.toNat
def k0_dev9 (d0 : Dev nD) : Nat :=
  let c0_i32_404 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_403 : BitVec 32 := 1#32
  let v320 : BitVec 32 := Scalar.muli v7 c1_i32_403
  let v321 : BitVec 32 := Scalar.addi c0_i32_404 v320
  v321.toNat
def k0_dev10 (d0 : Dev nD) : Nat :=
  let c0_i32_447 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_446 : BitVec 32 := 1#32
  let v348 : BitVec 32 := Scalar.muli v5 c1_i32_446
  let v349 : BitVec 32 := Scalar.addi c0_i32_447 v348
  v349.toNat
def k0_dev11 (d0 : Dev nD) : Nat :=
  let c0_i32_561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_560 : BitVec 32 := 1#32
  let v434 : BitVec 32 := Scalar.muli v7 c1_i32_560
  let v435 : BitVec 32 := Scalar.addi c0_i32_561 v434
  v435.toNat
def k0_dev12 (d0 : Dev nD) : Nat :=
  let c0_i32_619 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_618 : BitVec 32 := 1#32
  let v468 : BitVec 32 := Scalar.muli v5 c1_i32_618
  let v469 : BitVec 32 := Scalar.addi c0_i32_619 v468
  v469.toNat
def k0_dev13 (d0 : Dev nD) : Nat :=
  let c0_i32_677 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_676 : BitVec 32 := 1#32
  let v502 : BitVec 32 := Scalar.muli v7 c1_i32_676
  let v503 : BitVec 32 := Scalar.addi c0_i32_677 v502
  v503.toNat
def k0_dev14 (d0 : Dev nD) : Nat :=
  let c0_i32_735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_734 : BitVec 32 := 1#32
  let v536 : BitVec 32 := Scalar.muli v5 c1_i32_734
  let v537 : BitVec 32 := Scalar.addi c0_i32_735 v536
  v537.toNat
def k0_off2 (d0 : Dev nD) (c4_i32_814 : BitVec 32) : Fin 5 → Nat :=
  let c0_i32_818 : BitVec 32 := 0#32
  let c0_i32_819 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_812 : BitVec 32 := 1#32
  let v611 : BitVec 32 := Scalar.addi v2 c1_i32_812
  let c4_i32_813 : BitVec 32 := 4#32
  let v612 : BitVec 32 := Scalar.remsi v611 c4_i32_813
  let v613 : BitVec 32 := Scalar.addi v612 c4_i32_814
  let c4_i32_815 : BitVec 32 := 4#32
  let v614 : BitVec 32 := Scalar.remsi v613 c4_i32_815
  let c0_i32_828 : BitVec 32 := 0#32
  let c0_i32_829 : BitVec 32 := 0#32
  ![0, 0, v614.toNat, 0, 0]
def k0_dev15 (d0 : Dev nD) : Nat :=
  let c0_i32_827 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_826 : BitVec 32 := 1#32
  let v615 : BitVec 32 := Scalar.muli v7 c1_i32_826
  let v616 : BitVec 32 := Scalar.addi c0_i32_827 v615
  v616.toNat
def k0_off3 (d0 : Dev nD) (c0_i32_867 : BitVec 32) : Fin 5 → Nat :=
  let c1_i32_871 : BitVec 32 := 1#32
  let c0_i32_872 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_865 : BitVec 32 := 3#32
  let v654 : BitVec 32 := Scalar.addi v2 c3_i32_865
  let c4_i32_866 : BitVec 32 := 4#32
  let v655 : BitVec 32 := Scalar.remsi v654 c4_i32_866
  let v656 : BitVec 32 := Scalar.addi v655 c0_i32_867
  let c4_i32_868 : BitVec 32 := 4#32
  let v657 : BitVec 32 := Scalar.remsi v656 c4_i32_868
  let c0_i32_881 : BitVec 32 := 0#32
  let c0_i32_882 : BitVec 32 := 0#32
  ![1, 0, v657.toNat, 0, 0]
def k0_dev16 (d0 : Dev nD) : Nat :=
  let c0_i32_880 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_879 : BitVec 32 := 1#32
  let v658 : BitVec 32 := Scalar.muli v5 c1_i32_879
  let v659 : BitVec 32 := Scalar.addi c0_i32_880 v658
  v659.toNat
def k0_off4 (d0 : Dev nD) (c4_i32_920 : BitVec 32) : Fin 5 → Nat :=
  let c0_i32_924 : BitVec 32 := 0#32
  let c1_i32_925 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_918 : BitVec 32 := 1#32
  let v697 : BitVec 32 := Scalar.addi v2 c1_i32_918
  let c4_i32_919 : BitVec 32 := 4#32
  let v698 : BitVec 32 := Scalar.remsi v697 c4_i32_919
  let v699 : BitVec 32 := Scalar.addi v698 c4_i32_920
  let c4_i32_921 : BitVec 32 := 4#32
  let v700 : BitVec 32 := Scalar.remsi v699 c4_i32_921
  let c0_i32_934 : BitVec 32 := 0#32
  let c0_i32_935 : BitVec 32 := 0#32
  ![0, 1, v700.toNat, 0, 0]
def k0_dev17 (d0 : Dev nD) : Nat :=
  let c0_i32_933 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_932 : BitVec 32 := 1#32
  let v701 : BitVec 32 := Scalar.muli v7 c1_i32_932
  let v702 : BitVec 32 := Scalar.addi c0_i32_933 v701
  v702.toNat
def k0_off5 (d0 : Dev nD) (c0_i32_973 : BitVec 32) : Fin 5 → Nat :=
  let c1_i32_977 : BitVec 32 := 1#32
  let c1_i32_978 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_971 : BitVec 32 := 3#32
  let v740 : BitVec 32 := Scalar.addi v2 c3_i32_971
  let c4_i32_972 : BitVec 32 := 4#32
  let v741 : BitVec 32 := Scalar.remsi v740 c4_i32_972
  let v742 : BitVec 32 := Scalar.addi v741 c0_i32_973
  let c4_i32_974 : BitVec 32 := 4#32
  let v743 : BitVec 32 := Scalar.remsi v742 c4_i32_974
  let c0_i32_987 : BitVec 32 := 0#32
  let c0_i32_988 : BitVec 32 := 0#32
  ![1, 1, v743.toNat, 0, 0]
def k0_dev18 (d0 : Dev nD) : Nat :=
  let c0_i32_986 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_985 : BitVec 32 := 1#32
  let v744 : BitVec 32 := Scalar.muli v5 c1_i32_985
  let v745 : BitVec 32 := Scalar.addi c0_i32_986 v744
  v745.toNat
def k0_off6 (d0 : Dev nD) (c0_i32_1009 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_991 : BitVec 32 := 1#32
  let v754 : BitVec 32 := Scalar.addi v2 c1_i32_991
  let c4_i32_992 : BitVec 32 := 4#32
  let v755 : BitVec 32 := Scalar.remsi v754 c4_i32_992
  let c1024_i32_1008 : BitVec 32 := 1024#32
  let v779 : BitVec 32 := Scalar.muli v755 c1024_i32_1008
  let v780 : BitVec 32 := Scalar.addi v779 c0_i32_1009
  let c0_i32_1013 : BitVec 32 := 0#32
  ![v780.toNat, 0]
def k0_off7 (d0 : Dev nD) (c0_i32_1042 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1024 : BitVec 32 := 3#32
  let v793 : BitVec 32 := Scalar.addi v2 c3_i32_1024
  let c4_i32_1025 : BitVec 32 := 4#32
  let v794 : BitVec 32 := Scalar.remsi v793 c4_i32_1025
  let c1024_i32_1041 : BitVec 32 := 1024#32
  let v818 : BitVec 32 := Scalar.muli v794 c1024_i32_1041
  let v819 : BitVec 32 := Scalar.addi v818 c0_i32_1042
  let c1024_i32_1046 : BitVec 32 := 1024#32
  ![v819.toNat, 1024]
def k0_dev19 (d0 : Dev nD) : Nat :=
  let c0_i32_1088 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1087 : BitVec 32 := 1#32
  let v844 : BitVec 32 := Scalar.muli v7 c1_i32_1087
  let v845 : BitVec 32 := Scalar.addi c0_i32_1088 v844
  v845.toNat
def k0_off8 (d0 : Dev nD) (c3_i32_1095 : BitVec 32) (c0_i32_1112 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1093 : BitVec 32 := 1#32
  let v854 : BitVec 32 := Scalar.addi v2 c1_i32_1093
  let c4_i32_1094 : BitVec 32 := 4#32
  let v855 : BitVec 32 := Scalar.remsi v854 c4_i32_1094
  let v856 : BitVec 32 := Scalar.addi v855 c3_i32_1095
  let c4_i32_1096 : BitVec 32 := 4#32
  let v857 : BitVec 32 := Scalar.remsi v856 c4_i32_1096
  let c1024_i32_1111 : BitVec 32 := 1024#32
  let v875 : BitVec 32 := Scalar.muli v857 c1024_i32_1111
  let v876 : BitVec 32 := Scalar.addi v875 c0_i32_1112
  let c0_i32_1116 : BitVec 32 := 0#32
  ![v876.toNat, 0]
def k0_dev20 (d0 : Dev nD) : Nat :=
  let c0_i32_1150 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1149 : BitVec 32 := 1#32
  let v894 : BitVec 32 := Scalar.muli v5 c1_i32_1149
  let v895 : BitVec 32 := Scalar.addi c0_i32_1150 v894
  v895.toNat
def k0_off9 (d0 : Dev nD) (c1_i32_1157 : BitVec 32) (c0_i32_1174 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1155 : BitVec 32 := 3#32
  let v904 : BitVec 32 := Scalar.addi v2 c3_i32_1155
  let c4_i32_1156 : BitVec 32 := 4#32
  let v905 : BitVec 32 := Scalar.remsi v904 c4_i32_1156
  let v906 : BitVec 32 := Scalar.addi v905 c1_i32_1157
  let c4_i32_1158 : BitVec 32 := 4#32
  let v907 : BitVec 32 := Scalar.remsi v906 c4_i32_1158
  let c1024_i32_1173 : BitVec 32 := 1024#32
  let v925 : BitVec 32 := Scalar.muli v907 c1024_i32_1173
  let v926 : BitVec 32 := Scalar.addi v925 c0_i32_1174
  let c1024_i32_1178 : BitVec 32 := 1024#32
  ![v926.toNat, 1024]
def k0_dev21 (d0 : Dev nD) : Nat :=
  let c0_i32_1212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1211 : BitVec 32 := 1#32
  let v944 : BitVec 32 := Scalar.muli v7 c1_i32_1211
  let v945 : BitVec 32 := Scalar.addi c0_i32_1212 v944
  v945.toNat
def k0_dev22 (d0 : Dev nD) : Nat :=
  let c0_i32_1274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1273 : BitVec 32 := 1#32
  let v994 : BitVec 32 := Scalar.muli v5 c1_i32_1273
  let v995 : BitVec 32 := Scalar.addi c0_i32_1274 v994
  v995.toNat
def k0_dev23 (d0 : Dev nD) : Nat :=
  let c0_i32_1336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1335 : BitVec 32 := 1#32
  let v1044 : BitVec 32 := Scalar.muli v7 c1_i32_1335
  let v1045 : BitVec 32 := Scalar.addi c0_i32_1336 v1044
  v1045.toNat
def k0_dev24 (d0 : Dev nD) : Nat :=
  let c0_i32_1398 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1397 : BitVec 32 := 1#32
  let v1094 : BitVec 32 := Scalar.muli v5 c1_i32_1397
  let v1095 : BitVec 32 := Scalar.addi c0_i32_1398 v1094
  v1095.toNat
def k0_dev25 (d0 : Dev nD) : Nat :=
  let c0_i32_1460 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1459 : BitVec 32 := 1#32
  let v1144 : BitVec 32 := Scalar.muli v7 c1_i32_1459
  let v1145 : BitVec 32 := Scalar.addi c0_i32_1460 v1144
  v1145.toNat
def k0_dev26 (d0 : Dev nD) : Nat :=
  let c0_i32_1522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1521 : BitVec 32 := 1#32
  let v1194 : BitVec 32 := Scalar.muli v5 c1_i32_1521
  let v1195 : BitVec 32 := Scalar.addi c0_i32_1522 v1194
  v1195.toNat
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .hbm, ⟨5, _⟩ => ⟨S1, .f32⟩
  | .hbm, ⟨6, _⟩ => ⟨S1x1, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Ops.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Memref
public import Idealize.ShloMosaic.Lib.Tactic

/-!
# Single steps on owned blocks

Every block of memory the kernel touches is held as `owns c M q v`: the memref `M` reads the vector `v`.
The lemmas here run one load, store, local transfer or wait on such a block.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra of the ring's rounds; a barrier's two duties are told apart by a `Bool`. -/
abbrev UB : Type := URounds (GSem nD τ sig) Bool
/-- The pipeline's algebra, the ring's, and the counters of the local transfers. -/
abbrev UU : Type := UR sig nD τ × (UB × Counters)

local notation "𝕄" => MT nD τ sig Unit (Elt F) ℕ UU ℕ

/-- Where the pipeline's rounds live. -/
abbrev EP : Emb (UR sig nD τ) (MT nD τ sig Unit (Elt F) ℕ UU ℕ) := embL
/-- Where the ring's rounds live. -/
def ER : Emb UB (MT nD τ sig Unit (Elt F) ℕ UU ℕ) := (Emb.inl : Emb UB (UB × Counters)).trans embR

instance ER_landsIn : (ER (F := F)).LandsIn (upEmb : UEmb _ 𝕄) := by unfold ER; infer_instance

/-- Where the counters of the local transfers live. -/
abbrev EC : UEmb Counters (MT nD τ sig Unit (Elt F) ℕ UU ℕ) := countersEmb (U := UU)

/-- The block `M` of device `c`, held at share `q` and reading `v`. -/
abbrev own' (c : Dev nD) {sp : Space} {sh : Shape} {e : EltTy} (M : Memref sig .tc sp sh e) (q : PosShare TreeShare)
    (v : sh.Idx → Elt F e) : sProp 𝕄 :=
  owns (Ix := Unit) (Name := ℕ) (U := UU) (Lvl := ℕ) (c : Thread nD τ) M q v

section Steps

variable (𝒱₀ : Variants) {c : Dev nD} {α : Type} {Q : α → sProp (MT nD τ sig Unit (Elt F) ℕ UU ℕ)}

/-- The weakest precondition of a program of device `c`'s kernel. -/
abbrev wpc (𝒱₀ : Variants) (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A slice of a memref depends on its offsets only. -/
theorem slice_congr {sp : Space} {s : Shape} {e : EltTy} (m : Memref sig .tc sp s e) {off off' sz : Fin s.rank → ℕ} (h : off = off')
    (i : ∀ a, off a + sz a ≤ s.size a) (i' : ∀ a, off' a + sz a ≤ s.size a) (u) (u') :
    m.slice (Rect.unit off sz i) u = m.slice (Rect.unit off' sz i') u' := by subst h; rfl

/-- A squeezed slice of a memref depends on its offsets only. -/
theorem squeeze_congr {sp : Space} {s : Shape} {e : EltTy} (m : Memref sig .tc sp s e) {off off' sz : Fin s.rank → ℕ} (h : off = off')
    (i : ∀ a, off a + sz a ≤ s.size a) (i' : ∀ a, off' a + sz a ≤ s.size a) (u) (u') (t : Shape) (hq hq') :
    (m.slice (Rect.unit off sz i) u).squeeze t hq = (m.slice (Rect.unit off' sz i') u').squeeze t hq' := by subst h; rfl

/-- Squeezing unit axes off a held block re-indexes what it reads. -/
theorem own_squeeze {sp : Space} {s s' : Shape} {e : EltTy} (m : Memref sig .tc sp s e) (h : s.Squeezes s') (q : PosShare TreeShare)
    (v : s.Idx → Elt F e) : (own' c (m.squeeze s' h) q (shapeCast s' v h.numel_eq) : sProp 𝕄) = own' c m q v := by
  unfold own' owns
  simp only [View.set_reshape]
  have hr : ∀ f, ((m.squeeze s' h).view.read (Elt F) f = shapeCast s' v h.numel_eq) = (m.view.read (Elt F) f = v) := fun f => by
    apply propext
    have : (m.squeeze s' h).view.read (Elt F) f = fun j => m.view.read (Elt F) f (Shape.reshapeEquiv h.numel_eq j) := rfl
    rw [this]
    constructor
    · intro hh; funext i
      have := congrFun hh ((Shape.reshapeEquiv h.numel_eq).symm i)
      simpa [shapeCast] using this
    · intro hh; subst hh; rfl
  simp only [hr]

/-- A load of a whole held block. -/
theorem ld0 {s : Shape} {e : EltTy} {cs : CoreSpace} {m : Memref sig .tc cs s e} {r : Rect s} {hl : m.view.LoadsAt r}
    {hr : ∀ a, r.stride a = 1} {k : (r.shape.Idx → Elt F e) → Prog (TpuEff nD τ sig (Elt F) Λ₀ .tc) α} {q : PosShare TreeShare}
    {v : r.shape.Idx → Elt F e} (M : Memref sig .tc cs r.shape e) (hM : m.slice r hr = M) :
    (own' c M q v : sProp 𝕄) ⊢ iprop((own' c M q v -∗ wpc 𝒱₀ c (k v) Q) -∗ wpc 𝒱₀ c (.op (.load m r hl) k) Q) := by
  subst hM
  unfold own' owns
  iintro ⟨%f, %hf, H⟩ Hk
  iapply (wp_load_rect 𝒱₀ (c : Thread nD τ) none Set.univ (m := m) (r := r) (S := (m.slice r hr).view.set) (f := f) (q := q) subset_rfl) $$ H
  iintro H
  have hf' : (m.access r).read (Elt F) f = v := hf
  rw [hf']
  iapply Hk
  iexists f; isplitr; · ipureintro; exact hf
  iexact H

/-- A store of a whole held block. -/
theorem st0 {s : Shape} {e : EltTy} {cs : CoreSpace} {m : Memref sig .tc cs s e} {r : Rect s} {w : r.shape.Idx → Elt F e} {hx : (m.access r).Stores Finset.univ}
    {hm : (Finset.univ : Finset r.shape.Idx) = Finset.univ ∨ ∀ a, r.stride a = 1}
    {hr : ∀ a, r.stride a = 1} {k : PUnit → Prog (TpuEff nD τ sig (Elt F) Λ₀ .tc) α}
    {v : r.shape.Idx → Elt F e} (M : Memref sig .tc cs r.shape e) (hM : m.slice r hr = M) (w' : r.shape.Idx → Elt F e) (hw : w = w') :
    (own' c M fullShare v : sProp 𝕄) ⊢ iprop((own' c M fullShare w' -∗ wpc 𝒱₀ c (k ⟨⟩) Q)
      -∗ wpc 𝒱₀ c (.op (.store m r w Finset.univ hx hm) k) Q) := by
  subst hM hw
  unfold own' owns
  iintro ⟨%f, %hf, H⟩ Hk
  iapply (wp_store 𝒱₀ (c : Thread nD τ) none Set.univ (m := m) (r := r) (S := (m.slice r hr).view.set) (f := f) (Mk := Finset.univ)
    subset_rfl) $$ H
  iintro H
  iapply Hk
  iexists _; isplitr; swap
  · iexact H
  · ipureintro; exact View.read_write_univ _ _

/-- A load of a held block that the program addresses with unit axes in front. -/
theorem ld {s : Shape} {e : EltTy} {cs : CoreSpace} {m : Memref sig .tc cs s e} {r : Rect s} {hl : m.view.LoadsAt r} {s' : Shape}
    {hr : ∀ a, r.stride a = 1} {h : r.shape.Squeezes s'} {k : (r.shape.Idx → Elt F e) → Prog (TpuEff nD τ sig (Elt F) Λ₀ .tc) α}
    {q : PosShare TreeShare} {v : s'.Idx → Elt F e} (M : Memref sig .tc cs s' e) (hM : (m.slice r hr).squeeze s' h = M) :
    (own' c M q v : sProp 𝕄) ⊢ iprop((own' c M q v -∗ wpc 𝒱₀ c (k (shapeCast r.shape v h.numel_eq.symm)) Q)
      -∗ wpc 𝒱₀ c (.op (.load m r hl) k) Q) := by
  subst hM
  have hv : v = shapeCast s' (shapeCast r.shape v h.numel_eq.symm) h.numel_eq := (shapeCast_shapeCast v h.numel_eq.symm h.numel_eq).symm
  have e1 : (own' c ((m.slice r hr).squeeze s' h) q v : sProp 𝕄) = own' c (m.slice r hr) q (shapeCast r.shape v h.numel_eq.symm) := by
    conv_lhs => rw [hv]
    rw [own_squeeze]
  rw [e1]
  exact ld0 𝒱₀ _ rfl

/-- A store of a held block that the program addresses with unit axes in front. -/
theorem st {s : Shape} {e : EltTy} {cs : CoreSpace} {m : Memref sig .tc cs s e} {r : Rect s} {w : r.shape.Idx → Elt F e} {hx : (m.access r).Stores Finset.univ}
    {hm : (Finset.univ : Finset r.shape.Idx) = Finset.univ ∨ ∀ a, r.stride a = 1}
    {s' : Shape} {h : r.shape.Squeezes s'}
    {hr : ∀ a, r.stride a = 1} {k : PUnit → Prog (TpuEff nD τ sig (Elt F) Λ₀ .tc) α}
    {v : s'.Idx → Elt F e} (M : Memref sig .tc cs s' e) (hM : (m.slice r hr).squeeze s' h = M) (w' : s'.Idx → Elt F e)
    (hw : w = shapeCast r.shape w' h.numel_eq.symm) :
    (own' c M fullShare v : sProp 𝕄) ⊢ iprop((own' c M fullShare w' -∗ wpc 𝒱₀ c (k ⟨⟩) Q)
      -∗ wpc 𝒱₀ c (.op (.store m r w Finset.univ hx hm) k) Q) := by
  subst hM
  have e1 (v : s'.Idx → Elt F e) : (own' c ((m.slice r hr).squeeze s' h) fullShare v : sProp 𝕄)
      = own' c (m.slice r hr) fullShare (shapeCast r.shape v h.numel_eq.symm) := by
    conv_lhs => rw [(shapeCast_shapeCast v h.numel_eq.symm h.numel_eq).symm]
    rw [own_squeeze]
  rw [e1, e1]
  exact st0 𝒱₀ _ rfl _ hw

/-- What a transfer in flight on device `c`'s semaphore `j` will deliver. -/
abbrev flight (c : Dev nD) (j : DmaSem sig) (N : ℕ) (D : sProp 𝕄) : sProp 𝕄 :=
  Transfers.Flight (EC (F := F)) (c : Thread nD τ) (.dma j) () N D

/-- The start of a local transfer between two held blocks. -/
theorem dmaStart {s : Shape} {e : EltTy} {sp sp' : Space} {src : Memref sig .tc sp s e} {dst : Memref sig .tc sp' s e} {sem : DmaSem sig}
    {hsrc : src.view.WordExact} {hdst : dst.view.WordExact} {hsem : DmaTarget.Typed (nD := nD) (τ := τ) (p := .tc) sp (.dma sem) (.here dst)}
    {k : PUnit → Prog (TpuEff nD τ sig (Elt F) Λ₀ .tc) α} {q : PosShare TreeShare} {v w : s.Idx → Elt F e}
    (S : Memref sig .tc sp s e) (D : Memref sig .tc sp' s e) (j : DmaSem sig) (hS : src = S) (hD : dst = D) (hj : sem = j)
    (hn : 0 < s.numel) :
    iprop(own' c S q v ∗ own' c D fullShare w ∗ semVal ((c : Thread nD τ), .dma j) 0)
      ⊢ iprop((flight c j D.view.dmaCredit iprop(own' c D fullShare v ∗ own' c S q v) -∗ wpc 𝒱₀ c (k ⟨⟩) Q)
        -∗ wpc 𝒱₀ c (.op (.enqueueDma src (.here dst) (.dma sem) hsrc hdst hsem) k) Q : sProp 𝕄) := by
  subst hS hD hj
  unfold own' owns
  iintro ⟨⟨%f, %hf, Hs⟩, ⟨%g, %hg, Hd⟩, Hv⟩ Hk
  iapply (Transfers.wp_dmaLocal (EC (F := F)) 𝒱₀ (c : Thread nD τ) none (src := src) (dst := dst) (fs := f) (fd := g) (q := q) (Sd := dst.view.set)
    () dst.view.dmaCredit rfl (View.dmaCredit_pos _ hn) subset_rfl) $$ [Hs Hd Hv]
  · isplitl [Hs]; · iexact Hs
    isplitl [Hd]; · iexact Hd
    iexact Hv
  iintro HF
  iapply Hk
  iapply (Transfers.Flight_mono (EC (F := F)) (c : Thread nD τ) (show _ ⊢ _ from ?_)) $$ HF
  iintro ⟨Hd, Hs⟩
  isplitl [Hd]
  · iexists _; isplitr; swap
    · iexact Hd
    · ipureintro
      rw [View.read_write_univ]; exact hf
  · iexists f; isplitr; · ipureintro; exact hf
    iexact Hs

/-- The wait for a local transfer: both blocks come back, and the semaphore is at rest again. -/
theorem dmaWait {s : Shape} {e : EltTy} {sp sp' : Space} {srcw : Memref sig .tc sp s e} {dstw : Memref sig .tc sp' s e} {sem : DmaSem sig}
    {hsrc : srcw.view.WordExact} {hdst : dstw.view.WordExact} {k : PUnit → Prog (TpuEff nD τ sig (Elt F) Λ₀ .tc) α} {O : CellTallies nD τ sig Unit}
    (j : DmaSem sig) (N : ℕ) (D : sProp 𝕄) (hj : sem = j) (hN : dstw.view.dmaCredit = N)
    (hO : O = 0) :
    iprop(flight c j N D ∗ (∃ W, owes (c : Thread nD τ) O W))
      ⊢ iprop((D -∗ semVal ((c : Thread nD τ), .dma j) 0 -∗ (∃ W, owes (c : Thread nD τ) O W) -∗ wpc 𝒱₀ c (k ⟨⟩) Q)
        -∗ wpc 𝒱₀ c (.op (.waitDma2 sem srcw dstw hsrc hdst) k) Q : sProp 𝕄) := by
  subst hj hO
  iintro ⟨HF, %W, HO⟩ Hk
  iapply (Transfers.wp_waitLocalO (EC (F := F)) 𝒱₀ (c : Thread nD τ) none (D := D) (O := 0) (W := W) () hN) $$ [HF HO]
  · isplitl [HF]; · iexact HF
    isplitl [HO]; · iexact HO
    rw [MayWait_zero]; iempintro
  iintro ⟨HD, Hv, HO⟩
  iapply Hk $$ HD Hv
  iexists _; iexact HO

end Steps

end Cert.KProof

end
-- ==== Proof.Blocks.lean ====
module

public import proofs.«01_k».proof.Proof.Ops

/-!
# The blocks of the kernel's buffers

Every buffer is cut into the rectangles that the program moves as units; unit axes are squeezed off, so a block reads a matrix.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Cut

variable {c : Dev nD} {sp : Space} {s : Shape} {e : EltTy}

/-- A slice of a slice is one slice at the sum of the offsets. -/
theorem own_sub (m : Memref sig .tc sp s e) {o sz o2 sz2 o3 : Fin s.rank → ℕ} (i : ∀ a, o a + sz a ≤ s.size a)
    (i2 : ∀ a, o2 a + sz2 a ≤ sz a) (i3 : ∀ a, o3 a + sz2 a ≤ s.size a) (ho : ∀ a, o3 a = o a + o2 a) (u u2 u3) (q : PosShare TreeShare)
    (v : (⟨s.rank, sz2⟩ : Shape).Idx → Elt F e) :
    (own' c ((m.slice (Rect.unit o sz i) u).slice (Rect.unit (s := ⟨s.rank, sz⟩) o2 sz2 i2) u2) q v : sProp 𝕄)
      = own' c (m.slice (Rect.unit o3 sz2 i3) u3) q v := by
  have he : ((m.slice (Rect.unit o sz i) u).slice (Rect.unit (s := ⟨s.rank, sz⟩) o2 sz2 i2) u2).view.emb = (m.slice (Rect.unit o3 sz2 i3) u3).view.emb := by
    apply Function.Embedding.ext
    intro j
    show m.view.emb _ = m.view.emb _
    congr 1
    funext a
    apply Fin.ext
    show o a + 1 * (o2 a + 1 * (j a).val) = o3 a + 1 * (j a).val
    rw [ho a]; omega
  unfold own' owns
  have hs : ((m.slice (Rect.unit o sz i) u).slice (Rect.unit (s := ⟨s.rank, sz⟩) o2 sz2 i2) u2).view.set = (m.slice (Rect.unit o3 sz2 i3) u3).view.set := by
    show Finset.univ.map _ = Finset.univ.map _
    rw [he]
  have hr : ∀ f, ((m.slice (Rect.unit o sz i) u).slice (Rect.unit (s := ⟨s.rank, sz⟩) o2 sz2 i2) u2).view.read (Elt F) f
      = (m.slice (Rect.unit o3 sz2 i3) u3).view.read (Elt F) f := by
    intro f
    funext j
    exact congrArg (m.view.read (Elt F) f) (by
      funext a
      apply Fin.ext
      show o a + 1 * (o2 a + 1 * (j a).val) = o3 a + 1 * (j a).val
      rw [ho a]; omega)
  simp only [hr, hs]

/-- Two unit rectangles apart along one axis are disjoint. -/
theorem unit_disj {o o' sz sz' : Fin s.rank → ℕ} (i : ∀ a, o a + sz a ≤ s.size a) (i' : ∀ a, o' a + sz' a ≤ s.size a) (a : Fin s.rank)
    (h : o a + sz a ≤ o' a ∨ o' a + sz' a ≤ o a) : Disjoint (Rect.unit o sz i).set (Rect.unit o' sz' i').set := by
  rw [Finset.disjoint_left]
  intro x hx hx'
  have h1 := (Rect.mem_set_unit.mp hx) a
  have h2 := (Rect.mem_set_unit.mp hx') a
  omega

/-- The rectangles `r` reach every index. -/
def Covers {T : Type} [Fintype T] [DecidableEq T] {s : Shape} (r : T → Rect s) : Prop :=
  (Finset.univ : Finset T).biUnion (fun t => (r t).set) = Finset.univ

/-- A family of rectangles with a member at every index covers the shape. -/
theorem covers_of {T : Type} [Fintype T] [DecidableEq T] (r : T → Rect s) (h : ∀ x : s.Idx, ∃ t, x ∈ (r t).set) : Covers r := by
  unfold Covers
  ext x
  simp only [Finset.mem_biUnion, Finset.mem_univ, true_and, iff_true]
  exact h x

/-- Holding a memref at some contents is holding each rectangle of a disjoint cover at some contents. -/
theorem own_cut {T : Type} [Fintype T] [DecidableEq T] (m : Memref sig .tc sp s e) (r : T → Rect s) (hr : ∀ t a, (r t).stride a = 1)
    (hd : ∀ t t', t ≠ t' → Disjoint (r t).set (r t').set) (hcov : Covers r) :
    iprop(∃ v, own' c m fullShare v) ⊢ (BI.bigSep Finset.univ fun t => iprop(∃ v, own' c (m.slice (r t) (hr t)) fullShare v) : sProp 𝕄) := by
  refine exists_elim fun v => (owns_rects (c : Thread nD τ) m fullShare r hr hd hcov v).trans ?_
  exact bigSep_mono fun t _ => exists_intro (Φ := fun v => own' c (m.slice (r t) (hr t)) fullShare v) _

/-- The converse: the pieces make up the whole. -/
theorem own_glue {T : Type} [Fintype T] [DecidableEq T] (m : Memref sig .tc sp s e) (r : T → Rect s) (hr : ∀ t a, (r t).stride a = 1)
    (hd : ∀ t t', t ≠ t' → Disjoint (r t).set (r t').set) (hcov : Covers r) :
    (BI.bigSep Finset.univ fun t => iprop(∃ v, own' c (m.slice (r t) (hr t)) fullShare v)) ⊢ (iprop(∃ v, own' c m fullShare v) : sProp 𝕄) := by
  refine (BI.bigSep_exists_pi Finset.univ _).trans (exists_elim fun V => ?_)
  have hmem : ∀ x : s.Idx, ∃ p : (Σ t, (r t).shape.Idx), (r p.1).emb p.2 = x := by
    intro x
    have hx : x ∈ (Finset.univ : Finset T).biUnion (fun t => (r t).set) := hcov ▸ Finset.mem_univ x
    obtain ⟨t, -, ht⟩ := Finset.mem_biUnion.mp hx
    rw [← Rect.map_emb_univ, Finset.mem_map] at ht
    obtain ⟨j, -, hj⟩ := ht
    exact ⟨⟨t, j⟩, hj⟩
  have hX : ∀ t (j : (r t).shape.Idx), V (hmem ((r t).emb j)).choose.1 (hmem ((r t).emb j)).choose.2 = V t j := by
    intro t j
    have hs := (hmem ((r t).emb j)).choose_spec
    generalize (hmem ((r t).emb j)).choose = p at hs
    obtain ⟨t', j'⟩ := p
    have ht : t' = t := by
      by_contra hne
      have h1 : (r t).emb j ∈ (r t').set := by rw [← Rect.map_emb_univ, Finset.mem_map]; exact ⟨j', Finset.mem_univ _, hs⟩
      exact Finset.disjoint_left.mp (hd t' t hne) h1 (by rw [← Rect.map_emb_univ, Finset.mem_map]; exact ⟨j, Finset.mem_univ _, rfl⟩)
    subst ht
    rw [(r t').emb.injective hs]
  refine BIBase.Entails.trans ?_ (exists_intro (Φ := fun v => own' c m fullShare v) fun x => V (hmem x).choose.1 (hmem x).choose.2)
  refine BIBase.Entails.trans (bigSep_mono fun t _ => ?_) (owns_of_rects (c : Thread nD τ) m fullShare r hr hd hcov _)
  rw [show (fun j => V (hmem ((r t).emb j)).choose.1 (hmem ((r t).emb j)).choose.2) = V t from funext (hX t)]
  exact .refl _

/-- A block held outright is the block held at its two half shares. -/
theorem own_split (m : Memref sig .tc sp s e) (v : s.Idx → Elt F e) :
    (own' c m fullShare v : sProp 𝕄) ⊢ iprop(own' c m fullShare.left v ∗ own' c m fullShare.right v) := by
  unfold own' owns
  iintro ⟨%f, %hf, H⟩
  ihave H := (pointsTo_share (PosShare.mem_left_op_right fullShare)).1 $$ H
  icases H with ⟨H1, H2⟩
  isplitl [H1]
  · iexists f; isplitr; · ipureintro; exact hf
    iexact H1
  · iexists f; isplitr; · ipureintro; exact hf
    iexact H2

/-- And back. -/
theorem own_unsplit (m : Memref sig .tc sp s e) (v v' : s.Idx → Elt F e) :
    iprop(own' c m fullShare.left v ∗ own' c m fullShare.right v') ⊢ (own' c m fullShare v : sProp 𝕄) := by
  unfold own' owns
  iintro ⟨⟨%f, %hf, H1⟩, ⟨%g, %hg, H2⟩⟩
  ihave #Ha := (pointsTo_agree (ℓ := m.view.loc (c : Thread nD τ)) (f := f) (g := g)) $$ [H1 H2]
  · isplitl [H1]; · iexact H1
    iexact H2
  icases Ha with %ha
  iexists f
  isplitr; · ipureintro; exact hf
  iapply (pointsTo_share (PosShare.mem_left_op_right fullShare)).2
  isplitl [H1]; · iexact H1
  rw [pointsTo_congr (ℓ := m.view.loc (c : Thread nD τ)) (f := f) (g := g) fun i hi => (ha i (Finset.mem_inter.mpr ⟨hi, hi⟩)).1]
  iexact H2

end Cut

/-! ### The blocks -/

/-- The half `d` of the device's weights. -/
abbrev wM (d : Fin 2) : Memref sig .tc .hbm S1024x1024 .f32 :=
  (Memref.whole main_arg1).slice (Rect.unit (s := S1024x2048) ![0, 1024 * d.val] S1024x1024.size (by revert d; decide)) (fun _ => rfl)

/-- The rows of the device's activations that belong to chunk `k`. -/
abbrev xM (k : Fin 4) : Memref sig .tc .hbm S1024x1024 .f32 :=
  (Memref.whole main_arg0).slice (Rect.unit (s := S4096x1024) ![1024 * k.val, 0] S1024x1024.size (by revert k; decide)) (fun _ => rfl)

/-- The half `s` of chunk `k` of the result, in the columns of direction `d`. -/
abbrev outM (k : Fin 4) (s d : Fin 2) : Memref sig .tc .hbm S512x1024 .f32 :=
  (Memref.whole main_v1).slice (Rect.unit (s := S4096x2048) ![1024 * k.val + 512 * s.val, 1024 * d.val] S512x1024.size (by revert k s d; decide)) (fun _ => rfl)

/-- The half `d` of the rounded weights. -/
abbrev wbM (d : Fin 2) : Memref sig .tc .vmem S1024x1024 .bf16 :=
  (Memref.whole cc0_scratch0).slice (Rect.unit (s := S1024x2048) ![0, 1024 * d.val] S1024x1024.size (by revert d; decide)) (fun _ => rfl)

/-- The plane `d` of a pair of planes. -/
abbrev pl3 {e : EltTy} (m : Memref sig .tc .vmem S2x1024x1024 e) (d : Fin 2) : Memref sig .tc .vmem S1024x1024 e :=
  (m.slice (Rect.unit (s := S2x1024x1024) ![d.val, 0, 0] S1x1024x1024.size (by revert d; decide)) (fun _ => rfl)).squeeze
    S1024x1024 squeezes_S1x1024x1024_S1024x1024

/-- The half `s` of plane `d` of a pair of planes. -/
abbrev hf3 {e : EltTy} (m : Memref sig .tc .vmem S2x1024x1024 e) (d s : Fin 2) : Memref sig .tc .vmem S512x1024 e :=
  (m.slice (Rect.unit (s := S2x1024x1024) ![d.val, 512 * s.val, 0] S1x512x1024.size (by revert d s; decide)) (fun _ => rfl)).squeeze
    S512x1024 squeezes_S1x512x1024_S512x1024

/-- The plane `d` of the rounded activations. -/
abbrev xsM (d : Fin 2) : Memref sig .tc .vmem S1024x1024 .bf16 := pl3 (Memref.whole cc0_scratch1) d
/-- The half `s` of plane `d` of the rounded activations. -/
abbrev xsH (d s : Fin 2) : Memref sig .tc .vmem S512x1024 .bf16 := hf3 (Memref.whole cc0_scratch1) d s
/-- The plane `d` of the staged activations. -/
abbrev x32M (d : Fin 2) : Memref sig .tc .vmem S1024x1024 .f32 := pl3 (Memref.whole cc0_scratch2) d
/-- The plane `d` of the accumulators. -/
abbrev acM (d : Fin 2) : Memref sig .tc .vmem S1024x1024 .f32 := pl3 (Memref.whole cc0_scratch3) d
/-- The half `s` of plane `d` of the accumulators. -/
abbrev acH (d s : Fin 2) : Memref sig .tc .vmem S512x1024 .f32 := hf3 (Memref.whole cc0_scratch3) d s

/-- The half `s` of the send buffer `slot` of direction `d`. -/
abbrev sbM (d slot s : Fin 2) : Memref sig .tc .vmem S512x1024 .bf16 :=
  ((Memref.whole cc0_scratch4).slice (Rect.unit (s := S2x2x1024x1024) ![d.val, slot.val, 512 * s.val, 0] S1x1x512x1024.size (by revert d slot s; decide))
    (fun _ => rfl)).squeeze S512x1024 squeezes_S1x1x512x1024_S512x1024

/-- A block with two unit axes in front is a matrix. -/
theorem squeezes_plane : S1x1x1024x1024.Squeezes S1024x1024 := by decide

/-- The half `s` of the plane of direction `d`, hop `h`. -/
abbrev hf4 {e : EltTy} (m : Memref sig .tc .vmem S2x3x1024x1024 e) (d : Fin 2) (h : Fin 3) (s : Fin 2) : Memref sig .tc .vmem S512x1024 e :=
  (m.slice (Rect.unit (s := S2x3x1024x1024) ![d.val, h.val, 512 * s.val, 0] S1x1x512x1024.size (by revert d h s; decide))
    (fun _ => rfl)).squeeze S512x1024 squeezes_S1x1x512x1024_S512x1024

/-- The plane of direction `d`, hop `h`. -/
abbrev pl4 {e : EltTy} (m : Memref sig .tc .vmem S2x3x1024x1024 e) (d : Fin 2) (h : Fin 3) : Memref sig .tc .vmem S1024x1024 e :=
  (m.slice (Rect.unit (s := S2x3x1024x1024) ![d.val, h.val, 0, 0] S1x1x1024x1024.size (by revert d h; decide))
    (fun _ => rfl)).squeeze S1024x1024 squeezes_plane

/-- The half `s` of the landing buffer of direction `d`, hop `h`. -/
abbrev rrM (d : Fin 2) (h : Fin 3) (s : Fin 2) : Memref sig .tc .vmem S512x1024 .bf16 := hf4 (Memref.whole cc0_scratch5) d h s
/-- The landing buffer of direction `d`, hop `h`. -/
abbrev rrP (d : Fin 2) (h : Fin 3) : Memref sig .tc .vmem S1024x1024 .bf16 := pl4 (Memref.whole cc0_scratch5) d h

/-- The half `s` of chunk `k` in the gathered blocks of direction `d`. -/
abbrev agM (d s : Fin 2) (k : Fin 4) : Memref sig .tc .vmem S512x1024 .bf16 :=
  ((Memref.whole cc0_scratch6).slice (Rect.unit (s := S2x2x4x512x1024) ![d.val, s.val, k.val, 0, 0] S1x1x1x512x1024.size (by revert d s k; decide))
    (fun _ => rfl)).squeeze S512x1024 squeezes_S1x1x1x512x1024_S512x1024

/-! ### Halves of a plane -/

/-- The rows of half `s`. -/
abbrev half (s : Fin 2) : Rect S1024x1024 := Rect.unit (s := S1024x1024) ![512 * s.val, 0] S512x1024.size (by revert s; decide)

/-- The half `s` of a matrix. -/
def rows {α : Type} (s : Fin 2) (v : S1024x1024.Idx → α) : S512x1024.Idx → α := fun j => v ((half s).emb j)

/-- The two halves of a matrix are apart. -/
theorem half_disj (s s' : Fin 2) (h : s ≠ s') : Disjoint (half s).set (half s').set :=
  unit_disj _ _ (0 : Fin 2) (by revert h; revert s s'; decide)

/-- The two halves of a matrix are all of it. -/
theorem half_cov : Covers half := by
  refine covers_of _ fun x => ?_
  have h0 : (x 0).val < 1024 := (x 0).isLt
  have h1 : (x 1).val < 1024 := (x 1).isLt
  refine ⟨⟨(x 0).val / 512, by omega⟩, Rect.mem_set_unit.mpr fun a => ?_⟩
  match a with
  | ⟨0, _⟩ =>
    show 512 * ((x 0).val / 512) ≤ (x 0).val ∧ (x 0).val < 512 * ((x 0).val / 512) + 512
    omega
  | ⟨1, _⟩ =>
    show 0 ≤ (x 1).val ∧ (x 1).val < 0 + 1024
    omega

/-- Two halves, one above the other. -/
def vcat {α : Type} (v : Fin 2 → S512x1024.Idx → α) : S1024x1024.Idx → α := fun x =>
  v ⟨(x 0).val / 512, by have : (x 0).val < 1024 := (x 0).isLt; omega⟩
    (fun a => match a with
      | ⟨0, _⟩ => (⟨(x 0).val % 512, Nat.mod_lt _ (by decide)⟩ : Fin 512)
      | ⟨1, _⟩ => (x 1 : Fin 1024))

/-- A half of two halves put together is that half. -/
theorem rows_vcat {α : Type} (v : Fin 2 → S512x1024.Idx → α) (s : Fin 2) : rows s (vcat v) = v s := by
  funext j
  have h0 : (j 0).val < 512 := (j 0).isLt
  have e0 : (((half s).emb j) 0).val = 512 * s.val + 1 * (j 0).val := rfl
  have e1 : (((half s).emb j) 1).val = 0 + 1 * (j 1).val := rfl
  have hs : (⟨(((half s).emb j) 0).val / 512, by have : (((half s).emb j) 0).val < 1024 := (((half s).emb j) 0).isLt; omega⟩ : Fin 2) = s := by
    apply Fin.ext
    show (((half s).emb j) 0).val / 512 = s.val
    rw [e0]; omega
  show v _ _ = v s j
  rw [hs]
  congr 1
  funext a
  match a with
  | ⟨0, _⟩ =>
    apply Fin.ext
    show (((half s).emb j) 0).val % 512 = (j 0).val
    rw [e0]; omega
  | ⟨1, _⟩ =>
    apply Fin.ext
    show (((half s).emb j) 1).val = (j 1).val
    rw [e1]; omega

/-- Re-indexing through a third shape is re-indexing directly. -/
theorem shapeCast_shapeCast_trans {α : Type} {s t u : Shape} (v : s.Idx → α) (h : s.ShapeCasts t) (h' : t.ShapeCasts u) (h'' : s.ShapeCasts u) :
    shapeCast u (shapeCast t v h) h' = shapeCast u v h'' := by
  funext j
  unfold shapeCast
  exact congrArg v (Shape.reshapeEquiv_reshapeEquiv _ _ j)

section Halves

variable {c : Dev nD}

/-- What a half of an unsqueezed plane reads, squeezed, is the half of what the plane reads. -/
theorem rows_cast3 {α : Type} (s : Fin 2) (v : S1024x1024.Idx → α) (h1 : S1024x1024.ShapeCasts S1x1024x1024) (h2 : S1x512x1024.ShapeCasts S512x1024)
    (i : ∀ a, (![0, 512 * s.val, 0] : Fin 3 → ℕ) a + S1x512x1024.size a ≤ S1x1024x1024.size a) :
    shapeCast S512x1024 (fun j => shapeCast S1x1024x1024 v h1 ((Rect.unit (s := S1x1024x1024) ![0, 512 * s.val, 0] S1x512x1024.size i).emb j)) h2
      = rows s v := by
  funext j
  refine (shapeCast_dropUnit_apply (n := 2) ![512, 1024] _ h2 j).trans ?_
  refine (shapeCast_addUnit_apply (n := 2) ![1024, 1024] v h1 _).trans ?_
  refine congrArg v (funext fun a => Fin.ext ?_)
  match a with
  | ⟨0, _⟩ => rfl
  | ⟨1, _⟩ => rfl

/-- The two halves of a plane as rectangles of the unsqueezed plane. -/
abbrev r3 (s : Fin 2) : Rect S1x1024x1024 := Rect.unit (s := S1x1024x1024) ![0, 512 * s.val, 0] S1x512x1024.size (by revert s; decide)

/-- The two halves of a plane with one unit axis are apart. -/
theorem r3_disj (s s' : Fin 2) (h : s ≠ s') : Disjoint (r3 s).set (r3 s').set :=
  unit_disj _ _ (1 : Fin 3) (by revert h; revert s s'; decide)

/-- The two halves of a plane with one unit axis are all of it. -/
theorem r3_cov : Covers r3 := by
  refine covers_of _ fun x => ?_
  have h0 : (x 0).val < 1 := (x 0).isLt
  have h1 : (x 1).val < 1024 := (x 1).isLt
  have h2 : (x 2).val < 1024 := (x 2).isLt
  refine ⟨⟨(x 1).val / 512, by omega⟩, Rect.mem_set_unit.mpr fun a => ?_⟩
  match a with
  | ⟨0, _⟩ =>
    show 0 ≤ (x 0).val ∧ (x 0).val < 0 + 1
    omega
  | ⟨1, _⟩ =>
    show 512 * ((x 1).val / 512) ≤ (x 1).val ∧ (x 1).val < 512 * ((x 1).val / 512) + 512
    omega
  | ⟨2, _⟩ =>
    show 0 ≤ (x 2).val ∧ (x 2).val < 0 + 1024
    omega

/-- A half of a plane of a pair, cut after the plane, is the half as the kernel addresses it, with the same contents. -/
theorem half3_eq {e : EltTy} (m : Memref sig .tc .vmem S2x1024x1024 e) (d s : Fin 2) (q : PosShare TreeShare) (v : S1024x1024.Idx → Elt F e) (i u) :
    (owns (Ix := Unit) (Name := ℕ) (U := UU) (Lvl := ℕ) (c : Thread nD τ) ((m.slice (Rect.unit (s := S2x1024x1024) ![d.val, 0, 0] S1x1024x1024.size i) u).slice (r3 s) (fun _ => rfl)) q
      (fun j => shapeCast S1x1024x1024 v squeezes_S1x1024x1024_S1024x1024.numel_eq.symm ((r3 s).emb j)) : sProp 𝕄) = own' c (hf3 m d s) q (rows s v) := by
  rw [← rows_cast3 s v squeezes_S1x1024x1024_S1024x1024.numel_eq.symm squeezes_S1x512x1024_S512x1024.numel_eq (by revert s; decide)]
  unfold hf3
  rw [own_squeeze]
  exact own_sub m _ _ _ (fun a => match a with
    | ⟨0, _⟩ => rfl
    | ⟨1, _⟩ => (Nat.zero_add _).symm
    | ⟨2, _⟩ => rfl) _ _ _ q _

/-- A held plane is its two held halves. -/
theorem halves3 {e : EltTy} (m : Memref sig .tc .vmem S2x1024x1024 e) (d : Fin 2) (q : PosShare TreeShare) (v : S1024x1024.Idx → Elt F e) :
    (own' c (pl3 m d) q v : sProp 𝕄) ⊣⊢ iprop(own' c (hf3 m d 0) q (rows 0 v) ∗ own' c (hf3 m d 1) q (rows 1 v)) := by
  have hv : v = shapeCast S1024x1024 (shapeCast S1x1024x1024 v squeezes_S1x1024x1024_S1024x1024.numel_eq.symm) squeezes_S1x1024x1024_S1024x1024.numel_eq :=
    (shapeCast_shapeCast v _ _).symm
  have e1 : (own' c (pl3 m d) q v : sProp 𝕄) = own' c (m.slice (Rect.unit (s := S2x1024x1024) ![d.val, 0, 0] S1x1024x1024.size (by revert d; decide)) (fun _ => rfl)) q
      (shapeCast S1x1024x1024 v squeezes_S1x1024x1024_S1024x1024.numel_eq.symm) := by
    conv_lhs => rw [hv]
    unfold pl3
    rw [own_squeeze]
  have e2 : (BI.bigSep (Finset.univ : Finset (Fin 2)) fun s => own' (F := F) c (hf3 m d s) q (rows s v)) = iprop(own' c (hf3 m d 0) q (rows 0 v) ∗ own' c (hf3 m d 1) q (rows 1 v)) :=
    bigSep_univ_two _
  rw [e1, ← e2]
  constructor
  · refine (owns_rects (c : Thread nD τ) _ q r3 (fun _ _ => rfl) r3_disj r3_cov _).trans (bigSep_mono fun s _ => ?_)
    rw [half3_eq]; exact .refl _
  · refine BIBase.Entails.trans (bigSep_mono fun s _ => ?_) (owns_of_rects (c : Thread nD τ) _ q r3 (fun _ _ => rfl) r3_disj r3_cov _)
    rw [half3_eq]; exact .refl _

/-- The two halves of a landing buffer as rectangles of the unsqueezed plane. -/
abbrev r4 (s : Fin 2) : Rect S1x1x1024x1024 := Rect.unit (s := S1x1x1024x1024) ![0, 0, 512 * s.val, 0] S1x1x512x1024.size (by revert s; decide)

/-- The two halves of a plane with two unit axes are apart. -/
theorem r4_disj (s s' : Fin 2) (h : s ≠ s') : Disjoint (r4 s).set (r4 s').set :=
  unit_disj _ _ (2 : Fin 4) (by revert h; revert s s'; decide)

/-- The two halves of a plane with two unit axes are all of it. -/
theorem r4_cov : Covers r4 := by
  refine covers_of _ fun x => ?_
  have h0 : (x 0).val < 1 := (x 0).isLt
  have h1 : (x 1).val < 1 := (x 1).isLt
  have h2 : (x 2).val < 1024 := (x 2).isLt
  have h3 : (x 3).val < 1024 := (x 3).isLt
  refine ⟨⟨(x 2).val / 512, by omega⟩, Rect.mem_set_unit.mpr fun a => ?_⟩
  match a with
  | ⟨0, _⟩ => show 0 ≤ (x 0).val ∧ (x 0).val < 0 + 1; omega
  | ⟨1, _⟩ => show 0 ≤ (x 1).val ∧ (x 1).val < 0 + 1; omega
  | ⟨2, _⟩ => show 512 * ((x 2).val / 512) ≤ (x 2).val ∧ (x 2).val < 512 * ((x 2).val / 512) + 512; omega
  | ⟨3, _⟩ => show 0 ≤ (x 3).val ∧ (x 3).val < 0 + 1024; omega

/-- What a half of an unsqueezed landing buffer reads, squeezed, is the half of what the buffer reads. -/
theorem rows_cast4 {α : Type} (s : Fin 2) (v : S1024x1024.Idx → α) (h1 : S1024x1024.ShapeCasts S1x1x1024x1024) (h2 : S1x1x512x1024.ShapeCasts S512x1024) :
    shapeCast S512x1024 (fun j => shapeCast S1x1x1024x1024 v h1 ((r4 s).emb j)) h2 = rows s v := by
  have g1 : S1x1x512x1024.ShapeCasts S1x512x1024 := by decide
  have g2 : S1x512x1024.ShapeCasts S512x1024 := by decide
  have g3 : S1024x1024.ShapeCasts S1x1024x1024 := by decide
  have g4 : S1x1024x1024.ShapeCasts S1x1x1024x1024 := by decide
  funext j
  rw [← shapeCast_shapeCast_trans _ g1 g2 h2, ← shapeCast_shapeCast_trans v g3 g4 h1]
  refine (shapeCast_dropUnit_apply (n := 2) ![512, 1024] _ g2 j).trans ?_
  refine (shapeCast_dropUnit_apply (n := 3) ![1, 512, 1024] _ g1 _).trans ?_
  refine (shapeCast_addUnit_apply (n := 3) ![1, 1024, 1024] _ g4 _).trans ?_
  refine (shapeCast_addUnit_apply (n := 2) ![1024, 1024] v g3 _).trans ?_
  refine congrArg v (funext fun a => Fin.ext ?_)
  match a with
  | ⟨0, _⟩ => rfl
  | ⟨1, _⟩ => rfl

/-- A half of a landing plane, cut after the plane, is the half as the kernel addresses it, with the same contents. -/
theorem half4_eq {e : EltTy} (m : Memref sig .tc .vmem S2x3x1024x1024 e) (d : Fin 2) (h : Fin 3) (s : Fin 2) (q : PosShare TreeShare) (v : S1024x1024.Idx → Elt F e) (i u) :
    (owns (Ix := Unit) (Name := ℕ) (U := UU) (Lvl := ℕ) (c : Thread nD τ) ((m.slice (Rect.unit (s := S2x3x1024x1024) ![d.val, h.val, 0, 0] S1x1x1024x1024.size i) u).slice (r4 s) (fun _ => rfl)) q
      (fun j => shapeCast S1x1x1024x1024 v squeezes_plane.numel_eq.symm ((r4 s).emb j)) : sProp 𝕄) = own' c (hf4 m d h s) q (rows s v) := by
  rw [← rows_cast4 s v squeezes_plane.numel_eq.symm squeezes_S1x1x512x1024_S512x1024.numel_eq]
  unfold hf4
  rw [own_squeeze]
  exact own_sub _ _ _ _ (fun a => match a with
    | ⟨0, _⟩ => rfl
    | ⟨1, _⟩ => rfl
    | ⟨2, _⟩ => (Nat.zero_add _).symm
    | ⟨3, _⟩ => rfl) _ _ _ q _

/-- The two held halves of a landing buffer are the held buffer. -/
theorem halves4 {e : EltTy} (m : Memref sig .tc .vmem S2x3x1024x1024 e) (d : Fin 2) (h : Fin 3) (q : PosShare TreeShare) (v : S1024x1024.Idx → Elt F e) :
    (own' c (pl4 m d h) q v : sProp 𝕄) ⊣⊢ iprop(own' c (hf4 m d h 0) q (rows 0 v) ∗ own' c (hf4 m d h 1) q (rows 1 v)) := by
  have hv : v = shapeCast S1024x1024 (shapeCast S1x1x1024x1024 v squeezes_plane.numel_eq.symm) squeezes_plane.numel_eq :=
    (shapeCast_shapeCast v _ _).symm
  have e1 : (own' c (pl4 m d h) q v : sProp 𝕄) = own' c (m.slice (Rect.unit (s := S2x3x1024x1024) ![d.val, h.val, 0, 0] S1x1x1024x1024.size (by revert d h; decide)) (fun _ => rfl)) q
      (shapeCast S1x1x1024x1024 v squeezes_plane.numel_eq.symm) := by
    conv_lhs => rw [hv]
    unfold pl4
    rw [own_squeeze]
  have e2 : (BI.bigSep (Finset.univ : Finset (Fin 2)) fun s => own' (F := F) c (hf4 m d h s) q (rows s v)) = iprop(own' c (hf4 m d h 0) q (rows 0 v) ∗ own' c (hf4 m d h 1) q (rows 1 v)) :=
    bigSep_univ_two _
  rw [e1, ← e2]
  constructor
  · refine (owns_rects (c : Thread nD τ) _ q r4 (fun _ _ => rfl) r4_disj r4_cov _).trans (bigSep_mono fun s _ => ?_)
    rw [half4_eq]; exact .refl _
  · refine BIBase.Entails.trans (bigSep_mono fun s _ => ?_) (owns_of_rects (c : Thread nD τ) _ q r4 (fun _ _ => rfl) r4_disj r4_cov _)
    rw [half4_eq]; exact .refl _

end Halves

end Cert.KProof

end
-- ==== Proof.Cuts.lean ====
module

public import proofs.«01_k».proof.Proof.Blocks

/-!
# Cutting the buffers into blocks

Each buffer, held whole, is its blocks; and the blocks, held together, are the buffer.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section General

variable {c : Dev nD} {sp : Space} {s s' : Shape} {e : EltTy} {T : Type} [Fintype T] [DecidableEq T]

/-- A block at some contents is the same block without its unit axes at some contents. -/
theorem own_sq_ex (m : Memref sig .tc sp s e) (h : s.Squeezes s') :
    (iprop(∃ v, own' c m fullShare v) : sProp 𝕄) ⊣⊢ iprop(∃ v, own' c (m.squeeze s' h) fullShare v) := by
  constructor
  · refine exists_elim fun v => ?_
    rw [← own_squeeze m h]
    exact exists_intro (Φ := fun v => own' c (m.squeeze s' h) fullShare v) _
  · refine exists_elim fun v => ?_
    rw [show v = shapeCast s' (shapeCast s v h.numel_eq.symm) h.numel_eq from (shapeCast_shapeCast v _ _).symm, own_squeeze m h]
    exact exists_intro (Φ := fun v => own' c m fullShare v) _

/-- A buffer at some contents is its squeezed blocks at some contents. -/
theorem own_cut_sq (m : Memref sig .tc sp s e) (r : T → Rect s) (hr : ∀ t a, (r t).stride a = 1)
    (hd : ∀ t t', t ≠ t' → Disjoint (r t).set (r t').set) (hcov : Covers r) (hs : ∀ t, (r t).shape.Squeezes s') :
    (iprop(∃ v, own' c m fullShare v) : sProp 𝕄)
      ⊣⊢ BI.bigSep Finset.univ fun t => iprop(∃ v, own' c ((m.slice (r t) (hr t)).squeeze s' (hs t)) fullShare v) := by
  constructor
  · exact (own_cut m r hr hd hcov).trans (bigSep_mono fun t _ => (own_sq_ex _ (hs t)).1)
  · exact BIBase.Entails.trans (bigSep_mono fun t _ => (own_sq_ex _ (hs t)).2) (own_glue m r hr hd hcov)

end General

/-- Two different multiples of a length are at least that length apart. -/
theorem apart {m n : ℕ} {a b : Fin m} (h : a ≠ b) : n * a.val + n ≤ n * b.val ∨ n * b.val + n ≤ n * a.val := by
  have h' : a.val ≠ b.val := fun e => h (Fin.ext e)
  rcases Nat.lt_or_gt_of_ne h' with h' | h'
  · exact .inl (by have := Nat.mul_le_mul_left n h'; rw [Nat.mul_succ] at this; exact this)
  · exact .inr (by have := Nat.mul_le_mul_left n h'; rw [Nat.mul_succ] at this; exact this)

/-- Two different numbers are at least one apart. -/
theorem apart1 {m : ℕ} {a b : Fin m} (h : a ≠ b) : a.val + 1 ≤ b.val ∨ b.val + 1 ≤ a.val :=
  Nat.lt_or_gt_of_ne fun e => h (Fin.ext e)

/-! ### The rectangles of each buffer -/

/-- Column halves of `1024 × 2048`. -/
abbrev rCol (d : Fin 2) : Rect S1024x2048 := Rect.unit (s := S1024x2048) ![0, 1024 * d.val] S1024x1024.size (by revert d; decide)

/-- The column halves are apart. -/
theorem rCol_disj (t t' : Fin 2) (h : t ≠ t') : Disjoint (rCol t).set (rCol t').set :=
  unit_disj _ _ (1 : Fin 2) (by revert h; revert t t'; decide)

/-- The column halves are all of the weights. -/
theorem rCol_cov : Covers rCol := by
  refine covers_of _ fun x => ?_
  have h0 : (x 0).val < 1024 := (x 0).isLt
  have h1 : (x 1).val < 2048 := (x 1).isLt
  refine ⟨⟨(x 1).val / 1024, by omega⟩, Rect.mem_set_unit.mpr fun a => ?_⟩
  match a with
  | ⟨0, _⟩ => show 0 ≤ (x 0).val ∧ (x 0).val < 0 + 1024; omega
  | ⟨1, _⟩ => show 1024 * ((x 1).val / 1024) ≤ (x 1).val ∧ (x 1).val < 1024 * ((x 1).val / 1024) + 1024; omega

/-- The chunks of rows of `4096 × 1024`. -/
abbrev rRow (k : Fin 4) : Rect S4096x1024 := Rect.unit (s := S4096x1024) ![1024 * k.val, 0] S1024x1024.size (by revert k; decide)

/-- The chunks of rows are apart. -/
theorem rRow_disj (t t' : Fin 4) (h : t ≠ t') : Disjoint (rRow t).set (rRow t').set :=
  unit_disj _ _ (0 : Fin 2) (by revert h; revert t t'; decide)

/-- The chunks of rows are all of the activations. -/
theorem rRow_cov : Covers rRow := by
  refine covers_of _ fun x => ?_
  have h0 : (x 0).val < 4096 := (x 0).isLt
  have h1 : (x 1).val < 1024 := (x 1).isLt
  refine ⟨⟨(x 0).val / 1024, by omega⟩, Rect.mem_set_unit.mpr fun a => ?_⟩
  match a with
  | ⟨0, _⟩ => show 1024 * ((x 0).val / 1024) ≤ (x 0).val ∧ (x 0).val < 1024 * ((x 0).val / 1024) + 1024; omega
  | ⟨1, _⟩ => show 0 ≤ (x 1).val ∧ (x 1).val < 0 + 1024; omega

/-- The blocks of the result: chunk, half, direction. -/
abbrev rOut (t : Fin 4 × Fin 2 × Fin 2) : Rect S4096x2048 :=
  Rect.unit (s := S4096x2048) ![1024 * t.1.val + 512 * t.2.1.val, 1024 * t.2.2.val] S512x1024.size (by revert t; decide)

/-- The blocks of the result are apart. -/
theorem rOut_disj (t t' : Fin 4 × Fin 2 × Fin 2) (h : t ≠ t') : Disjoint (rOut t).set (rOut t').set := by
  by_cases h2 : t.2.2 = t'.2.2
  · exact unit_disj _ _ (0 : Fin 2) (by revert h2 h; revert t t'; decide)
  · exact unit_disj _ _ (1 : Fin 2) (apart (n := 1024) h2)

/-- The blocks of the result are all of it. -/
theorem rOut_cov : Covers rOut := by
  refine covers_of _ fun x => ?_
  have h0 : (x 0).val < 4096 := (x 0).isLt
  have h1 : (x 1).val < 2048 := (x 1).isLt
  refine ⟨(⟨(x 0).val / 1024, by omega⟩, ⟨(x 0).val % 1024 / 512, by omega⟩, ⟨(x 1).val / 1024, by omega⟩), Rect.mem_set_unit.mpr fun a => ?_⟩
  match a with
  | ⟨0, _⟩ =>
    show 1024 * ((x 0).val / 1024) + 512 * ((x 0).val % 1024 / 512) ≤ (x 0).val
      ∧ (x 0).val < 1024 * ((x 0).val / 1024) + 512 * ((x 0).val % 1024 / 512) + 512
    omega
  | ⟨1, _⟩ => show 1024 * ((x 1).val / 1024) ≤ (x 1).val ∧ (x 1).val < 1024 * ((x 1).val / 1024) + 1024; omega

/-- The planes of a pair. -/
abbrev rPl (d : Fin 2) : Rect S2x1024x1024 := Rect.unit (s := S2x1024x1024) ![d.val, 0, 0] S1x1024x1024.size (by revert d; decide)

/-- The two planes are apart. -/
theorem rPl_disj (t t' : Fin 2) (h : t ≠ t') : Disjoint (rPl t).set (rPl t').set :=
  unit_disj _ _ (0 : Fin 3) (by revert h; revert t t'; decide)

/-- The two planes are all of the pair. -/
theorem rPl_cov : Covers rPl := by
  refine covers_of _ fun x => ?_
  have h0 : (x 0).val < 2 := (x 0).isLt
  have h1 : (x 1).val < 1024 := (x 1).isLt
  have h2 : (x 2).val < 1024 := (x 2).isLt
  refine ⟨⟨(x 0).val, by omega⟩, Rect.mem_set_unit.mpr fun a => ?_⟩
  match a with
  | ⟨0, _⟩ => show (x 0).val ≤ (x 0).val ∧ (x 0).val < (x 0).val + 1; omega
  | ⟨1, _⟩ => show 0 ≤ (x 1).val ∧ (x 1).val < 0 + 1024; omega
  | ⟨2, _⟩ => show 0 ≤ (x 2).val ∧ (x 2).val < 0 + 1024; omega

/-- The blocks of the send buffers: direction, slot, half. -/
abbrev rSb (t : Fin 2 × Fin 2 × Fin 2) : Rect S2x2x1024x1024 :=
  Rect.unit (s := S2x2x1024x1024) ![t.1.val, t.2.1.val, 512 * t.2.2.val, 0] S1x1x512x1024.size (by revert t; decide)

/-- The blocks of the send buffers are apart. -/
theorem rSb_disj (t t' : Fin 2 × Fin 2 × Fin 2) (h : t ≠ t') : Disjoint (rSb t).set (rSb t').set := by
  by_cases h1 : t.1 = t'.1
  · by_cases h2 : t.2.1 = t'.2.1
    · exact unit_disj _ _ (2 : Fin 4) (by revert h2 h1 h; revert t t'; decide)
    · exact unit_disj _ _ (1 : Fin 4) (apart1 h2)
  · exact unit_disj _ _ (0 : Fin 4) (apart1 h1)

/-- The blocks of the send buffers are all of them. -/
theorem rSb_cov : Covers rSb := by
  refine covers_of _ fun x => ?_
  have h0 : (x 0).val < 2 := (x 0).isLt
  have h1 : (x 1).val < 2 := (x 1).isLt
  have h2 : (x 2).val < 1024 := (x 2).isLt
  have h3 : (x 3).val < 1024 := (x 3).isLt
  refine ⟨(⟨(x 0).val, h0⟩, ⟨(x 1).val, h1⟩, ⟨(x 2).val / 512, by omega⟩), Rect.mem_set_unit.mpr fun a => ?_⟩
  match a with
  | ⟨0, _⟩ => show (x 0).val ≤ (x 0).val ∧ (x 0).val < (x 0).val + 1; omega
  | ⟨1, _⟩ => show (x 1).val ≤ (x 1).val ∧ (x 1).val < (x 1).val + 1; omega
  | ⟨2, _⟩ => show 512 * ((x 2).val / 512) ≤ (x 2).val ∧ (x 2).val < 512 * ((x 2).val / 512) + 512; omega
  | ⟨3, _⟩ => show 0 ≤ (x 3).val ∧ (x 3).val < 0 + 1024; omega

/-- The blocks of the landing buffers: direction, hop, half. -/
abbrev rRr (t : Fin 2 × Fin 3 × Fin 2) : Rect S2x3x1024x1024 :=
  Rect.unit (s := S2x3x1024x1024) ![t.1.val, t.2.1.val, 512 * t.2.2.val, 0] S1x1x512x1024.size (by revert t; decide)

/-- The landing blocks are apart. -/
theorem rRr_disj (t t' : Fin 2 × Fin 3 × Fin 2) (h : t ≠ t') : Disjoint (rRr t).set (rRr t').set := by
  by_cases h1 : t.1 = t'.1
  · by_cases h2 : t.2.1 = t'.2.1
    · exact unit_disj _ _ (2 : Fin 4) (by revert h2 h1 h; revert t t'; decide)
    · exact unit_disj _ _ (1 : Fin 4) (apart1 h2)
  · exact unit_disj _ _ (0 : Fin 4) (apart1 h1)

/-- The landing blocks are all of the landing buffers. -/
theorem rRr_cov : Covers rRr := by
  refine covers_of _ fun x => ?_
  have h0 : (x 0).val < 2 := (x 0).isLt
  have h1 : (x 1).val < 3 := (x 1).isLt
  have h2 : (x 2).val < 1024 := (x 2).isLt
  have h3 : (x 3).val < 1024 := (x 3).isLt
  refine ⟨(⟨(x 0).val, h0⟩, ⟨(x 1).val, h1⟩, ⟨(x 2).val / 512, by omega⟩), Rect.mem_set_unit.mpr fun a => ?_⟩
  match a with
  | ⟨0, _⟩ => show (x 0).val ≤ (x 0).val ∧ (x 0).val < (x 0).val + 1; omega
  | ⟨1, _⟩ => show (x 1).val ≤ (x 1).val ∧ (x 1).val < (x 1).val + 1; omega
  | ⟨2, _⟩ => show 512 * ((x 2).val / 512) ≤ (x 2).val ∧ (x 2).val < 512 * ((x 2).val / 512) + 512; omega
  | ⟨3, _⟩ => show 0 ≤ (x 3).val ∧ (x 3).val < 0 + 1024; omega

/-- The gathered blocks: direction, half, chunk. -/
abbrev rAg (t : Fin 2 × Fin 2 × Fin 4) : Rect S2x2x4x512x1024 :=
  Rect.unit (s := S2x2x4x512x1024) ![t.1.val, t.2.1.val, t.2.2.val, 0, 0] S1x1x1x512x1024.size (by revert t; decide)

/-- The gathered blocks are apart. -/
theorem rAg_disj (t t' : Fin 2 × Fin 2 × Fin 4) (h : t ≠ t') : Disjoint (rAg t).set (rAg t').set := by
  by_cases h1 : t.1 = t'.1
  · by_cases h2 : t.2.1 = t'.2.1
    · exact unit_disj _ _ (2 : Fin 5) (by revert h2 h1 h; revert t t'; decide)
    · exact unit_disj _ _ (1 : Fin 5) (apart1 h2)
  · exact unit_disj _ _ (0 : Fin 5) (apart1 h1)

/-- The gathered blocks are all of the gathering buffer. -/
theorem rAg_cov : Covers rAg := by
  refine covers_of _ fun x => ?_
  have h0 : (x 0).val < 2 := (x 0).isLt
  have h1 : (x 1).val < 2 := (x 1).isLt
  have h2 : (x 2).val < 4 := (x 2).isLt
  have h3 : (x 3).val < 512 := (x 3).isLt
  have h4 : (x 4).val < 1024 := (x 4).isLt
  refine ⟨(⟨(x 0).val, h0⟩, ⟨(x 1).val, h1⟩, ⟨(x 2).val, h2⟩), Rect.mem_set_unit.mpr fun a => ?_⟩
  match a with
  | ⟨0, _⟩ => show (x 0).val ≤ (x 0).val ∧ (x 0).val < (x 0).val + 1; omega
  | ⟨1, _⟩ => show (x 1).val ≤ (x 1).val ∧ (x 1).val < (x 1).val + 1; omega
  | ⟨2, _⟩ => show (x 2).val ≤ (x 2).val ∧ (x 2).val < (x 2).val + 1; omega
  | ⟨3, _⟩ => show 0 ≤ (x 3).val ∧ (x 3).val < 0 + 512; omega
  | ⟨4, _⟩ => show 0 ≤ (x 4).val ∧ (x 4).val < 0 + 1024; omega

/-! ### The buffers as their blocks -/

section Buffers

variable {c : Dev nD}

/-- A block of device `c` at some contents. -/
abbrev some' (c : Dev nD) {sp : Space} {sh : Shape} {e : EltTy} (M : Memref sig .tc sp sh e) : sProp 𝕄 :=
  iprop(∃ v, own' c M fullShare v)

/-- A buffer at some contents, as the location and as the whole reference. -/
theorem whole_some (b : Ref sig .tc) :
    (iprop(∃ f : Buf (Elt F) ((c : Thread nD τ).loc b), ((c : Thread nD τ).loc b) ↦{fullShare} f) : sProp 𝕄) = some' c (Memref.whole b) := by
  unfold some' own'
  simp only [owns_whole]

/-- The rounded weights are their two halves. -/
theorem cut_wb : (some' c (Memref.whole cc0_scratch0) : sProp 𝕄) ⊣⊢ BI.bigSep Finset.univ fun d => some' c (wbM d) :=
  ⟨own_cut _ rCol (fun _ _ => rfl) rCol_disj rCol_cov, own_glue _ rCol (fun _ _ => rfl) rCol_disj rCol_cov⟩

/-- A pair of planes is its two planes. -/
theorem cut_pl {e : EltTy} (m : Memref sig .tc .vmem S2x1024x1024 e) : (some' c m : sProp 𝕄) ⊣⊢ BI.bigSep Finset.univ fun d => some' c (pl3 m d) :=
  own_cut_sq m rPl (fun _ _ => rfl) rPl_disj rPl_cov fun _ => squeezes_S1x1024x1024_S1024x1024

/-- The send buffers are their blocks. -/
theorem cut_sb : (some' c (Memref.whole cc0_scratch4) : sProp 𝕄)
    ⊣⊢ BI.bigSep Finset.univ fun t : Fin 2 × Fin 2 × Fin 2 => some' c (sbM t.1 t.2.1 t.2.2) :=
  own_cut_sq _ rSb (fun _ _ => rfl) rSb_disj rSb_cov fun _ => squeezes_S1x1x512x1024_S512x1024

/-- The landing buffers are their blocks. -/
theorem cut_rr : (some' c (Memref.whole cc0_scratch5) : sProp 𝕄)
    ⊣⊢ BI.bigSep Finset.univ fun t : Fin 2 × Fin 3 × Fin 2 => some' c (rrM t.1 t.2.1 t.2.2) :=
  own_cut_sq _ rRr (fun _ _ => rfl) rRr_disj rRr_cov fun _ => squeezes_S1x1x512x1024_S512x1024

/-- The gathered buffer is its blocks. -/
theorem cut_ag : (some' c (Memref.whole cc0_scratch6) : sProp 𝕄)
    ⊣⊢ BI.bigSep Finset.univ fun t : Fin 2 × Fin 2 × Fin 4 => some' c (agM t.1 t.2.1 t.2.2) :=
  own_cut_sq _ rAg (fun _ _ => rfl) rAg_disj rAg_cov fun _ => squeezes_S1x1x1x512x1024_S512x1024

/-- The result's array is its blocks. -/
theorem cut_out : (some' c (Memref.whole main_v1) : sProp 𝕄)
    ⊢ BI.bigSep Finset.univ fun t : Fin 4 × Fin 2 × Fin 2 => some' c (outM t.1 t.2.1 t.2.2) :=
  own_cut _ rOut (fun _ _ => rfl) rOut_disj rOut_cov

/-- The result's blocks, at their parts of `X`, are the array at `X`. -/
theorem glue_out (X : S4096x2048.Idx → Elt F .f32) :
    (BI.bigSep Finset.univ fun t : Fin 4 × Fin 2 × Fin 2 => own' (F := F) c (outM t.1 t.2.1 t.2.2) fullShare fun j => X ((rOut t).emb j))
      ⊢ (own' c (Memref.whole main_v1) fullShare X : sProp 𝕄) :=
  owns_of_rects (c : Thread nD τ) _ fullShare rOut (fun _ _ => rfl) rOut_disj rOut_cov X

/-- The chunk `k` of activations. -/
def xCh (X : S4096x1024.Idx → Elt F .f32) (k : Fin 4) : S1024x1024.Idx → Elt F .f32 := fun j => X ((rRow k).emb j)
/-- The half `d` of weights. -/
def wCol (W : S1024x2048.Idx → Elt F .f32) (d : Fin 2) : S1024x1024.Idx → Elt F .f32 := fun j => W ((rCol d).emb j)

/-- The activations are their chunks. -/
theorem cut_x (q : PosShare TreeShare) (X : S4096x1024.Idx → Elt F .f32) :
    (own' c (Memref.whole main_arg0) q X : sProp 𝕄) ⊣⊢ BI.bigSep Finset.univ fun k => own' c (xM k) q (xCh X k) :=
  ⟨owns_rects (c : Thread nD τ) _ q rRow (fun _ _ => rfl) rRow_disj rRow_cov X, owns_of_rects (c : Thread nD τ) _ q rRow (fun _ _ => rfl) rRow_disj rRow_cov X⟩

/-- The weights are their halves. -/
theorem cut_w (q : PosShare TreeShare) (W : S1024x2048.Idx → Elt F .f32) :
    (own' c (Memref.whole main_arg1) q W : sProp 𝕄) ⊣⊢ BI.bigSep Finset.univ fun d => own' c (wM d) q (wCol W d) :=
  ⟨owns_rects (c : Thread nD τ) _ q rCol (fun _ _ => rfl) rCol_disj rCol_cov W, owns_of_rects (c : Thread nD τ) _ q rCol (fun _ _ => rfl) rCol_disj rCol_cov W⟩

end Buffers

end Cert.KProof

end
-- ==== Proof.Values.lean ====
module

public import proofs.«01_k».proof.Proof.Cuts

/-!
# The values the kernel computes

The partial sums that travel around the ring, the complete sums that are gathered, and the result.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The matrices the kernel moves. -/
abbrev Plane (F : FTy → Type) (φ : FTy) : Type := S1024x1024.Idx → F φ
/-- Half a matrix. -/
abbrev Half (F : FTy → Type) (φ : FTy) : Type := S512x1024.Idx → F φ

/-- What the devices start from: the activations, the weights, the two scales. -/
structure Ins (F : FTy → Type) where
  /-- each device's columns of the activations -/
  x : Dev nD → S4096x1024.Idx → F .f32
  /-- each device's rows of the weights -/
  w : Dev nD → S1024x2048.Idx → F .f32
  /-- the scale of the activations -/
  sx : Dev nD → F .f32
  /-- the scale of the weights -/
  sw : Dev nD → F .f32

/-! ### The ring -/

/-- The device that direction `d` sends to. -/
def tgt (d : Fin 2) (c : Dev nD) : Dev nD := ⟨(c.val + (![1, 3] : Fin 2 → ℕ) d) % 4, Nat.mod_lt _ (by decide)⟩
/-- The device that direction `d` receives from. -/
def src (d : Fin 2) (c : Dev nD) : Dev nD := ⟨(c.val + (![3, 1] : Fin 2 → ℕ) d) % 4, Nat.mod_lt _ (by decide)⟩

/-- The device before the device after is the device itself. -/
theorem src_tgt (d : Fin 2) (c : Dev nD) : src d (tgt d c) = c := by revert d c; decide
/-- The device after the device before is the device itself. -/
theorem tgt_src (d : Fin 2) (c : Dev nD) : tgt d (src d c) = c := by revert d c; decide

/-- The ring as a permutation. -/
def ring (d : Fin 2) : Dev nD ≃ Dev nD := ⟨tgt d, src d, src_tgt d, tgt_src d⟩

/-- The chunk that device `c` adds to at step `h` of direction `d`; also the chunk that lands on it at gathering step `h`. -/
def rsc (d : Fin 2) (h : ℕ) (c : Dev nD) : Fin 4 := ⟨(c.val + (![4 - h, h] : Fin 2 → ℕ) d) % 4, Nat.mod_lt _ (by decide)⟩
/-- The chunk that device `c` sends at gathering step `a` of direction `d`. -/
def sc (d : Fin 2) (a : ℕ) (c : Dev nD) : Fin 4 := ⟨(c.val + (![5 - a, 3 + a] : Fin 2 → ℕ) d) % 4, Nat.mod_lt _ (by decide)⟩
/-- The device that completes chunk `k` of direction `d`. -/
def owner (d : Fin 2) (k : Fin 4) : Dev nD := ⟨(k.val + (![3, 1] : Fin 2 → ℕ) d) % 4, Nat.mod_lt _ (by decide)⟩

/-! ### The arithmetic -/

/-- Rounding to the short format. -/
abbrev tr {s : Shape} (v : s.Idx → F .f32) : s.Idx → F .bf16 := truncf (F := F) (s := s) .bf16 v bitsLt_bf16_f32
/-- Reading the short format back. -/
abbrev ex {s : Shape} (v : s.Idx → F .bf16) : s.Idx → F .f32 := extf (F := F) (s := s) .f32 v bitsLt_bf16_f32
/-- The product of two matrices. -/
abbrev mm (a b : Plane F .bf16) : Plane F .f32 :=
  matmul dot_S1024x1024_S1024x1024_S1024x1024_1_0_0_1_n_n none a b (constant S1024x1024 .f32 0x00000000#32)
/-- The product of half a matrix and a matrix. -/
abbrev mmh (a : Half F .bf16) (b : Plane F .bf16) : Half F .f32 :=
  matmul dot_S512x1024_S1024x1024_S512x1024_1_0_0_1_n_n none a b (constant S512x1024 .f32 0x00000000#32)
/-- The sum of what is there and what arrived. -/
abbrev pls {s : Shape} (a : s.Idx → F .f32) (b : s.Idx → F .bf16) : s.Idx → F .f32 := addf (F := F) (s := s) a (ex b)
/-- The scaled value times its logistic, as the kernel computes it. -/
abbrev epi {s : Shape} (z : F .f32) (v : s.Idx → F .f32) : s.Idx → F .f32 :=
  mulf (F := F) (s := s) (mulf v (broadcast s z))
    (divf (broadcast s (Scalar.ofBits .f32 0x3F800000#32))
      (addf (broadcast s (Scalar.ofBits .f32 0x3F800000#32))
        (exp (subf (broadcast s (Scalar.ofBits .f32 0x00000000#32))
          (minimumf (broadcast s (Scalar.ofBits .f32 0x42700000#32))
            (maximumf (broadcast s (Scalar.ofBits .f32 0xC2700000#32)) (mulf v (broadcast s z))))))))

variable (I : Ins F)

/-- Device `c`'s rounded chunk `k` of activations. -/
def xb (c : Dev nD) (k : Fin 4) : Plane F .bf16 := tr (xCh (F := F) (I.x c) k)
/-- Device `c`'s rounded half `d` of weights. -/
def wb (c : Dev nD) (d : Fin 2) : Plane F .bf16 := tr (wCol (F := F) (I.w c) d)
/-- Device `c`'s own product at step `h` of direction `d`. -/
def pr (h : ℕ) (d : Fin 2) (c : Dev nD) : Plane F .f32 := mm (xb I c (rsc d h c)) (wb I c d)

/-- The partial sum that device `c` has after step `h` of direction `d`, for half `s`. -/
def SV : ℕ → Fin 2 → Fin 2 → Dev nD → Half F .bf16
  | 0, d, s, c => tr (mmh (rows s (xb I c (rsc d 0 c))) (wb I c d))
  | h + 1, d, s, c => tr (pls (rows s (pr I (h + 1) d c)) (SV h d s (src d c)))

/-- The complete sum of chunk `k`. -/
def AV (d s : Fin 2) (k : Fin 4) : Half F .bf16 := SV I 3 d s (owner d k)

/-- What device `c` sends in transfer `t` of direction `d`, half `s`. -/
def sval (d : Fin 2) (t : Fin 6) (s : Fin 2) (c : Dev nD) : Half F .bf16 :=
  if t.val < 3 then SV I t.val d s c else AV I d s (sc d (t.val - 3) c)

/-- What lands on device `c` in transfer `t` of direction `d`, half `s`. -/
def lval (d : Fin 2) (t : Fin 6) (s : Fin 2) (c : Dev nD) : Half F .bf16 := sval I d t s (src d c)

/-- The product of the two scales on device `c`. -/
def scl (c : Dev nD) : F .f32 := k0_pay1 (I.sx c) (I.sw c)

/-- The result on the chunk that device `c` completes itself. -/
def ownOut (d : Fin 2) (c : Dev nD) : Plane F .f32 := epi (scl I c) (pls (pr I 3 d c) (vcat fun s => lval I d 2 s c))

/-- The result of device `c` on half `s` of chunk `k`, columns of direction `d`. -/
def outv (c : Dev nD) (k : Fin 4) (s d : Fin 2) : Half F .f32 :=
  if k = rsc d 3 c then rows s (ownOut I d c) else epi (scl I c) (ex (AV I d s k))

end Cert.KProof

end
-- ==== Proof.Protocol.lean ====
module

public import proofs.«01_k».proof.Proof.Values

/-!
# The protocol of the ring

Which semaphore counts which transfer, what each wait hands over, what each device owes, and the levels that order the waits.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ### The transfers

Transfer `i` has direction `i % 2`, half `i / 2 % 2` and step `i / 4`: steps 0–2 carry partial sums, steps 3–5 complete sums. -/

/-- The direction of transfer `i`. -/
def dd (i : Fin 24) : Fin 2 := ⟨i.val % 2, Nat.mod_lt _ (by decide)⟩
/-- The half of transfer `i`. -/
def ss (i : Fin 24) : Fin 2 := ⟨i.val / 2 % 2, Nat.mod_lt _ (by decide)⟩
/-- The step of transfer `i`. -/
def tt (i : Fin 24) : Fin 6 := ⟨i.val / 4, by have := i.isLt; omega⟩

/-- The semaphore of transfer `i` on the sending side. -/
def sSem (i : Fin 24) : Fin 52 :=
  if i.val / 4 < 3 then ⟨4 + 4 * (i.val % 2) + 2 * (i.val / 4 % 2) + i.val / 2 % 2, by omega⟩
  else ⟨24 + 6 * (i.val % 2) + 2 * ((i.val / 4 - 3) % 3) + i.val / 2 % 2, by omega⟩
/-- The semaphore of transfer `i` on the receiving side. -/
def rSem (i : Fin 24) : Fin 52 :=
  if i.val / 4 < 3 then ⟨12 + 6 * (i.val % 2) + 2 * (i.val / 4 % 3) + i.val / 2 % 2, by omega⟩
  else ⟨36 + 6 * (i.val % 2) + 2 * ((i.val / 4 - 3) % 3) + i.val / 2 % 2, by omega⟩
/-- The round of its sending semaphore that transfer `i` is: step 2 uses step 0's semaphores again. -/
def rd (i : Fin 24) : ℕ := if i.val / 4 = 2 then 1 else 0

/-- The transfer that round `r` of semaphore `j` counts, on its sending side (left) or receiving side (right). -/
def role (j : Fin 52) (r : ℕ) : Option (Fin 24 ⊕ Fin 24) :=
  match (List.finRange 24).find? (fun i => decide (sSem i = j ∧ rd i = r)) with
  | some i => some (.inl i)
  | none => match (List.finRange 24).find? (fun i => decide (rSem i = j ∧ r = 0)) with
    | some i => some (.inr i)
    | none => none

/-- A sending semaphore's round belongs to its transfer. -/
theorem role_s (i : Fin 24) : role (sSem i) (rd i) = some (.inl i) := by revert i; decide
/-- A receiving semaphore's first round belongs to its transfer. -/
theorem role_r (i : Fin 24) : role (rSem i) 0 = some (.inr i) := by revert i; decide

/-- A round that no transfer names is nobody's. -/
theorem role_none {j : Fin 52} {r : ℕ} (h : ∀ i, ¬ (sSem i = j ∧ rd i = r)) (h' : ∀ i, ¬ (rSem i = j ∧ r = 0)) : role j r = none := by
  unfold role
  rw [List.find?_eq_none.mpr fun i _ => by simpa using h i]
  dsimp only
  rw [List.find?_eq_none.mpr fun i _ => by simpa using h' i]

/-- No sending semaphore is a receiving one. -/
theorem sSem_ne_rSem : ∀ i i' : Fin 24, sSem i ≠ rSem i' := by decide
/-- The rounds of a sending semaphore: two where it is used again, one elsewhere. -/
theorem sSem_rd : ∀ i i' : Fin 24, sSem i' = sSem i → rd i' ≤ if i.val / 4 = 0 ∨ i.val / 4 = 2 then 1 else 0 := by decide

/-- A receiving semaphore's later rounds are nobody's. -/
theorem role_r_later (i : Fin 24) (r : ℕ) (hr : 1 ≤ r) : role (rSem i) r = none :=
  role_none (fun i' h => sSem_ne_rSem i' i h.1) (fun i' h => by omega)

/-- A sending semaphore's rounds after its last are nobody's. -/
theorem role_s_later (i : Fin 24) (r : ℕ) (hr : (if i.val / 4 = 0 ∨ i.val / 4 = 2 then 2 else 1) ≤ r) : role (sSem i) r = none :=
  role_none (fun i' h => by
    have h1 := sSem_rd i i' h.1
    by_cases hc : i.val / 4 = 0 ∨ i.val / 4 = 2
    · rw [if_pos hc] at h1 hr; omega
    · rw [if_neg hc] at h1 hr; omega) (fun i' h => sSem_ne_rSem i i' h.1.symm)

/-- The block transfer `i` reads on device `c`. -/
def srcM (i : Fin 24) (c : Dev nD) : Memref sig .tc .vmem S512x1024 .bf16 :=
  if i.val / 4 < 3 then sbM (dd i) ⟨i.val / 4 % 2, Nat.mod_lt _ (by decide)⟩ (ss i) else agM (dd i) (ss i) (sc (dd i) (i.val / 4 - 3) c)
/-- The block transfer `i` fills on device `c`. -/
def landM (i : Fin 24) (c : Dev nD) : Memref sig .tc .vmem S512x1024 .bf16 :=
  if i.val / 4 < 3 then rrM (dd i) ⟨i.val / 4 % 3, Nat.mod_lt _ (by decide)⟩ (ss i) else agM (dd i) (ss i) (rsc (dd i) (i.val / 4 - 3) c)
/-- The share of its source that transfer `i` holds: a complete sum is read by the device while it travels on. -/
def shr (i : Fin 24) : PosShare TreeShare := if i.val / 4 < 3 then fullShare else fullShare.left

/-- The credit of a transfer. -/
abbrev NN : ℕ := (rrM 0 0 0).view.dmaCredit
/-- A transfer has a positive amount. -/
theorem NN_pos : 0 < NN := View.dmaCredit_pos _ (by decide)

variable (I : Ins F)

/-- What transfer `i` reads on device `c`. -/
abbrev sv (i : Fin 24) (c : Dev nD) : Half F .bf16 := sval I (dd i) (tt i) (ss i) c
/-- What transfer `i` leaves on device `c`. -/
abbrev lvl (i : Fin 24) (c : Dev nD) : Half F .bf16 := lval I (dd i) (tt i) (ss i) c

/-- What lands on the device that a transfer goes to is what was sent. -/
theorem lvl_tgt (i : Fin 24) (c : Dev nD) : lvl I i (tgt (dd i) c) = sv I i c := by
  show sval I (dd i) (tt i) (ss i) (src (dd i) (tgt (dd i) c)) = _
  rw [src_tgt]

/-! ### The schedule -/

/-- The barrier's semaphore. -/
abbrev barS : Sem sig := (SemArray.scalar (sig.barrier 0 rfl) : Sems sig S_).sem

/-- The cells of device `c`. -/
abbrev barCell (c : Dev nD) : GSem nD τ sig := ((c : Thread nD τ), .reg barS)
/-- Transfer `i`'s sending semaphore on device `c`. -/
abbrev sCell (c : Dev nD) (i : Fin 24) : GSem nD τ sig := ((c : Thread nD τ), .dma (sSem i : DmaSem sig))
/-- Transfer `i`'s receiving semaphore on device `c`. -/
abbrev rCell (c : Dev nD) (i : Fin 24) : GSem nD τ sig := ((c : Thread nD τ), .dma (rSem i : DmaSem sig))

/-- The direction whose landing blocks barrier duty `b` hands over. -/
def bdir (b : Bool) : Fin 2 := if b then 1 else 0

/-- What a signal hands device `c`: the blocks it fills on the neighbour that signalled. -/
def barPay (c : Dev nD) (b : Bool) : sProp 𝕄 :=
  BI.bigSep Finset.univ fun i : Fin 24 => if dd i = bdir b then some' (tgt (dd i) c) (landM i (tgt (dd i) c)) else iprop(emp)

/-- What the end of transfer `i` gives back on its sending device. -/
def sendPay (i : Fin 24) (c : Dev nD) : sProp 𝕄 := own' c (srcM i c) (shr i) (sv I i c)
/-- What the end of transfer `i` gives its receiving device. -/
def recvPay (i : Fin 24) (c : Dev nD) : sProp 𝕄 := own' c (landM i c) fullShare (lvl I i c)

instance barPay_storable (c : Dev nD) (b : Bool) : BI.Storable (upEmb : UEmb _ 𝕄) (barPay (F := F) c b) := by
  unfold barPay
  have (i : Fin 24) : BI.Storable (upEmb : UEmb _ 𝕄) (if dd i = bdir b then some' (F := F) (tgt (dd i) c) (landM i (tgt (dd i) c)) else iprop(emp)) := by
    split <;> infer_instance
  infer_instance
instance sendPay_storable (i : Fin 24) (c : Dev nD) : BI.Storable (upEmb : UEmb _ 𝕄) (sendPay I i c) := by unfold sendPay; infer_instance
instance recvPay_storable (i : Fin 24) (c : Dev nD) : BI.Storable (upEmb : UEmb _ 𝕄) (recvPay I i c) := by unfold recvPay; infer_instance

/-- The ring's schedule. -/
def Rd : Rounds.Schedule (GSem nD τ sig) Bool 𝕄 where
  duties g r := if g.1.2 = .tc then
      (match g.2 with
        | .reg b => if b = barS ∧ r = 0 then Finset.univ else ∅
        | .dma j => if (role j r).isSome then {false} else ∅)
    else ∅
  unitless _ := False
  amount g _ _ := match g.2 with
    | .reg _ => 1
    | .dma _ => NN
  payload g r b := match g.2 with
    | .reg _ => barPay g.1.1 b
    | .dma j => match role j r with
      | none => iprop(emp)
      | some (.inl i) => sendPay I i g.1.1
      | some (.inr i) => recvPay I i g.1.1
  amount_pos g _ _ _ := by
    rcases g.2 with b | j
    · exact Nat.one_pos
    · exact NN_pos

instance Rd_storable (g : GSem nD τ sig) (r : ℕ) (b : Bool) : BI.Storable (upEmb : UEmb _ 𝕄) ((Rd I).payload g r b) := by
  obtain ⟨t, sm⟩ := g
  rcases sm with s | j
  · show BI.Storable upEmb (barPay t.1 b); infer_instance
  · show BI.Storable upEmb (match role j r with
      | none => iprop(emp)
      | some (.inl i) => sendPay I i t.1
      | some (.inr i) => recvPay I i t.1)
    rcases role j r with _ | i | i <;> dsimp only <;> infer_instance

section Sched

variable (c : Dev nD) (i : Fin 24)

/-- The barrier's round has both duties. -/
theorem duties_bar : (Rd I).duties (barCell c) 0 = Finset.univ := by
  show (if (Proc.tc : Proc τ) = .tc then (if barS = barS ∧ 0 = 0 then Finset.univ else ∅) else ∅) = _
  rw [if_pos rfl, if_pos ⟨rfl, rfl⟩]
/-- The barrier has no later round. -/
theorem duties_bar_later (r : ℕ) (hr : 1 ≤ r) : (Rd I).duties (barCell c) r = ∅ := by
  show (if (Proc.tc : Proc τ) = .tc then (if barS = barS ∧ r = 0 then Finset.univ else ∅) else ∅) = _
  rw [if_pos rfl, if_neg (fun h => by omega)]
/-- A transfer semaphore has one duty in a round that belongs to a transfer, and none in another. -/
theorem duties_dma (j : DmaSem sig) (r : ℕ) : (Rd I).duties ((c : Thread nD τ), .dma j) r = if (role j r).isSome then {false} else ∅ := by
  show (if (Proc.tc : Proc τ) = .tc then (if (role j r).isSome then {false} else ∅) else ∅) = _
  rw [if_pos rfl]
/-- A sending semaphore's round has one duty. -/
theorem duties_s : (Rd I).duties (sCell c i) (rd i) = {false} := by
  rw [duties_dma, show role (sSem i : DmaSem sig) (rd i) = _ from role_s i]; rfl
/-- A receiving semaphore's first round has one duty. -/
theorem duties_r : (Rd I).duties (rCell c i) 0 = {false} := by
  rw [duties_dma, show role (rSem i : DmaSem sig) 0 = _ from role_r i]; rfl
/-- A receiving semaphore has no later round. -/
theorem duties_r_later (r : ℕ) (hr : 1 ≤ r) : (Rd I).duties (rCell c i) r = ∅ := by
  rw [duties_dma, show role (rSem i : DmaSem sig) r = _ from role_r_later i r hr]; rfl
/-- A sending semaphore has no round after its last. -/
theorem duties_s_later (r : ℕ) (hr : (if i.val / 4 = 0 ∨ i.val / 4 = 2 then 2 else 1) ≤ r) : (Rd I).duties (sCell c i) r = ∅ := by
  rw [duties_dma, show role (sSem i : DmaSem sig) r = _ from role_s_later i r hr]; rfl

/-- A barrier signal counts one. -/
theorem amount_bar (d : Bool) : (Rd I).amount (barCell c) 0 d = 1 := rfl
/-- The barrier waits for two signals. -/
theorem expect_bar : (Rd I).expect (barCell c) 0 = 2 := by
  unfold Schedule.expect Schedule.amountOf
  rw [duties_bar, Finset.sum_congr rfl fun d _ => amount_bar I c d, Finset.sum_const, Finset.card_univ, Fintype.card_bool, smul_eq_mul]
/-- A sending semaphore waits for one transfer. -/
theorem expect_s : (Rd I).expect (sCell c i) (rd i) = NN := by
  unfold Schedule.expect Schedule.amountOf; rw [duties_s, Finset.sum_singleton]; rfl
/-- A receiving semaphore waits for one transfer. -/
theorem expect_r : (Rd I).expect (rCell c i) 0 = NN := by
  unfold Schedule.expect Schedule.amountOf; rw [duties_r, Finset.sum_singleton]; rfl

/-- What a sending duty hands over. -/
theorem payload_s (b : Bool) : (Rd I).payload (sCell c i) (rd i) b = sendPay I i c := by
  show (match role (sSem i) (rd i) with
      | none => iprop(emp)
      | some (.inl i) => sendPay I i c
      | some (.inr i) => recvPay I i c) = _
  rw [role_s]
/-- What a receiving duty hands over. -/
theorem payload_r (b : Bool) : (Rd I).payload (rCell c i) 0 b = recvPay I i c := by
  show (match role (rSem i) 0 with
      | none => iprop(emp)
      | some (.inl i) => sendPay I i c
      | some (.inr i) => recvPay I i c) = _
  rw [role_r]

/-- What a wait on a sending semaphore brings. -/
theorem rest_s : bigSep ((Rd I).duties (sCell c i) (rd i) \ ∅) (fun d => (Rd I).payload (sCell c i) (rd i) d) = sendPay I i c := by
  rw [Finset.sdiff_empty, duties_s, bigSep_singleton, payload_s]
/-- What a wait on a receiving semaphore brings. -/
theorem rest_r : bigSep ((Rd I).duties (rCell c i) 0 \ ∅) (fun d => (Rd I).payload (rCell c i) 0 d) = recvPay I i c := by
  rw [Finset.sdiff_empty, duties_r, bigSep_singleton, payload_r]
/-- What a wait on the barrier brings. -/
theorem rest_bar : bigSep ((Rd I).duties (barCell c) 0 \ ∅) (fun d => (Rd I).payload (barCell c) 0 d) = iprop(barPay c false ∗ barPay c true) := by
  rw [Finset.sdiff_empty, duties_bar, bigSep_univ_eq_bigSepL [false, true] (by decide) (by decide), bigSepL_cons_cons, bigSepL_singleton]
  rfl

end Sched

/-! ### Levels, and what a device owes -/

/-- The index of the levels: one for each semaphore of a TensorCore. -/
def L (g : GSem nD τ sig) : Finset Unit := if g.1.2 = .tc then {()} else ∅
/-- Off the TensorCores there is none. -/
theorem L_of_ne (g : GSem nD τ sig) (h : g.1.2 ≠ .tc) : L g = ∅ := if_neg h
/-- On a TensorCore there is one. -/
theorem L_tc (c : Dev nD) (sm : SemLoc sig) : L ((c : Thread nD τ), sm) = {()} := if_pos rfl

/-- The level of a semaphore: a receiving one stands at its step plus two, the barrier at one, all others at zero. -/
def lvj (j : Fin 52) : ℕ :=
  if 12 ≤ j.val ∧ j.val < 24 then 2 + (j.val - 12) % 6 / 2 else if 36 ≤ j.val ∧ j.val < 48 then 5 + (j.val - 36) % 6 / 2 else 0
/-- The level of a semaphore. -/
def lv (g : GSem nD τ sig) (_ : Unit) : ℕ := match g.2 with
  | .reg _ => 1
  | .dma j => lvj j

/-- A receiving semaphore stands at its step plus two. -/
theorem lvj_r (i : Fin 24) : lvj (rSem i) = 2 + i.val / 4 := by revert i; decide
/-- A sending semaphore stands at the lowest level. -/
theorem lvj_s (i : Fin 24) : lvj (sSem i) = 0 := by revert i; decide

/-- The cell that a device pays when `k` payments are left after it: the two barriers first, then the transfers in order. -/
def ocell (c : Dev nD) (k : ℕ) : GSem nD τ sig :=
  if h : k < 24 then rCell (tgt (dd ⟨23 - k, by omega⟩) c) ⟨23 - k, by omega⟩ else if k = 24 then barCell (tgt 0 c) else barCell (tgt 1 c)
/-- The amount of a payment. -/
def oamt (k : ℕ) : ℕ := if k < 24 then NN else 1

/-- What a device owes with `k` payments left. -/
def owed (c : Dev nD) : ℕ → CellTallies nD τ sig Unit
  | 0 => 0
  | k + 1 => owed c k + tallyAt (ocell c k) () (oamt k)

/-- A send pays the next of what a device owes. -/
theorem owed_send (c : Dev nD) (i : Fin 24) : owed c (24 - i.val) = owed c (24 - (i.val + 1)) + tallyAt (rCell (tgt (dd i) c) i) () NN := by
  have hi := i.isLt
  obtain ⟨k, hk⟩ : ∃ k, 24 - i.val = k + 1 := ⟨23 - i.val, by omega⟩
  have hk' : 24 - (i.val + 1) = k := by omega
  have e : (⟨23 - k, by omega⟩ : Fin 24) = i := Fin.ext (by show 23 - k = i.val; omega)
  rw [hk, hk']
  show owed c k + tallyAt (ocell c k) () (oamt k) = _
  unfold ocell oamt
  rw [dif_pos (by omega), if_pos (by omega), e]

/-- What is owed is owed to the semaphore of a payment still to come. -/
theorem owed_pos {c : Dev nD} {k : ℕ} {g : GSem nD τ sig} {u : Unit} (h : 0 < owed c k g u) : ∃ j < k, g = ocell c j := by
  induction k with
  | zero => exact absurd h (Nat.lt_irrefl 0)
  | succ k ih =>
    have h' : 0 < owed c k g u + tallyAt (ocell c k) () (oamt k) g u := h
    rw [tallyAt_apply] at h'
    by_cases e : g = ocell c k ∧ u = ()
    · exact ⟨k, Nat.lt_succ_self k, e.1⟩
    · rw [if_neg e, Nat.add_zero] at h'
      obtain ⟨j, hj, hg⟩ := ih h'
      exact ⟨j, Nat.lt_succ_of_lt hj, hg⟩

/-- The semaphores that a device pays have a level. -/
theorem ocell_L (c : Dev nD) (k : ℕ) (u : Unit) : u ∈ L (ocell c k) := by
  unfold ocell; split
  · exact Finset.mem_singleton_self _
  · split <;> exact Finset.mem_singleton_self _
/-- The level of the semaphore that a payment goes to. -/
theorem ocell_lv (c : Dev nD) (k : ℕ) (u : Unit) : lv (ocell c k) u = if k < 24 then 2 + (23 - k) / 4 else 1 := by
  unfold ocell
  by_cases h : k < 24
  · rw [dif_pos h, if_pos h]; exact lvj_r _
  · rw [dif_neg h, if_neg h]; split <;> rfl

/-- A device may wait on a semaphore below everything that it still owes. -/
theorem mayWait (c : Dev nD) (sm : SemLoc sig) (k b : ℕ) (hb : lv ((c : Thread nD τ), sm) () ≤ b)
    (hk : ∀ j < k, b < if j < 24 then 2 + (23 - j) / 4 else 1) : (levAts L lv : sProp 𝕄) ⊢ MayWait (c : Thread nD τ) sm () (owed c k) :=
  MayOwe.of_cut (L := L) (lev := lv) b (fun p hp => by rw [Finset.mem_singleton.mp hp, L_tc]; exact Finset.mem_singleton_self _)
    (fun g u hg => by obtain ⟨j, _, rfl⟩ := owed_pos hg; exact ocell_L c j u)
    (fun p hp => by rw [Finset.mem_singleton.mp hp]; exact hb)
    (fun g u hg => by obtain ⟨j, hj, rfl⟩ := owed_pos hg; rw [ocell_lv]; exact hk j hj)

/-- A wait at the lowest level is always allowed. -/
theorem mayWait_low (c : Dev nD) (sm : SemLoc sig) (k : ℕ) (hb : lv ((c : Thread nD τ), sm) () = 0) :
    (levAts L lv : sProp 𝕄) ⊢ MayWait (c : Thread nD τ) sm () (owed c k) :=
  mayWait c sm k 0 hb.le fun j hj => by split <;> omega

end Cert.KProof

end
-- ==== Proof.Ring.lean ====
module

public import proofs.«01_k».proof.Proof.Protocol

/-!
# The ring on one device

The state of all transfers of a device, counted by how many were started, seen to end and seen to arrive; and the step each effect takes in it.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- One member of a family changes. -/
theorem bigSep_swap {n : ℕ} (i : Fin n) (f g : Fin n → sProp 𝕄) (h : ∀ j, j ≠ i → f j = g j) {a b : sProp 𝕄} (ha : f i = a) (hb : g i = b) :
    BI.bigSep Finset.univ f ⊢ iprop(a ∗ (b -∗ BI.bigSep Finset.univ g)) := by
  subst ha hb
  rw [BI.bigSep_univ_at f i, BI.bigSep_univ_at g i]
  have e : BI.bigSep (Finset.univ.erase i) f = BI.bigSep (Finset.univ.erase i) g :=
    bigSep_congr fun j hj => h j (Finset.ne_of_mem_erase hj)
  rw [e]
  iintro ⟨H, Hr⟩
  isplitl [H]; · iexact H
  iintro H
  isplitl [H]; · iexact H
  iexact Hr

variable (I : Ins F)

/-! ### The state of the ring on one device -/

/-- The semaphores of the ring, in order: the barrier, then the transfers'. -/
def csem (k : Fin 45) : SemLoc sig := if h : k.val = 0 then .reg barS else .dma ((⟨k.val + 3, by omega⟩ : Fin 52) : DmaSem sig)
/-- The cell of a semaphore of the ring. -/
abbrev kcell (p : Dev nD × Fin 45) : GSem nD τ sig := ((p.1 : Thread nD τ), csem p.2)
/-- The place of semaphore `j` in that order. -/
def kdx (j : Fin 52) : Fin 45 := ⟨(j.val - 3) % 45, Nat.mod_lt _ (by decide)⟩

/-- The barrier's place in the list. -/
theorem csem_bar : csem 0 = .reg barS := rfl
/-- A sending semaphore's place in the list. -/
theorem csem_s (i : Fin 24) : csem (kdx (sSem i)) = .dma (sSem i : DmaSem sig) := by
  have h : ∀ i : Fin 24, (kdx (sSem i)).val ≠ 0 ∧ (kdx (sSem i)).val + 3 = (sSem i).val := by decide
  unfold csem
  rw [dif_neg (h i).1]
  exact congrArg SemLoc.dma (Fin.ext (h i).2)
/-- A receiving semaphore's place in the list. -/
theorem csem_r (i : Fin 24) : csem (kdx (rSem i)) = .dma (rSem i : DmaSem sig) := by
  have h : ∀ i : Fin 24, (kdx (rSem i)).val ≠ 0 ∧ (kdx (rSem i)).val + 3 = (rSem i).val := by decide
  unfold csem
  rw [dif_neg (h i).1]
  exact congrArg SemLoc.dma (Fin.ext (h i).2)

/-- What everyone knows throughout: the cells' invariants, that all cells have begun, and the levels. -/
def Rec (K : Dev nD × Fin 45 → ℕ) : sProp 𝕄 :=
  iprop((BI.bigSep Finset.univ fun p => iprop(cellInv ER (Rd I) (K p) (kcell p) ∗ reached ER (kcell p) 0)) ∗ levAts L lv)

instance Rec_persistent (K : Dev nD × Fin 45 → ℕ) : BI.Persistent (Rec I K) := by unfold Rec; infer_instance

/-- The record holds the invariant of each cell. -/
theorem Rec_at (K : Dev nD × Fin 45 → ℕ) (p : Dev nD × Fin 45) (g : GSem nD τ sig) (hg : kcell p = g) :
    Rec I K ⊢ iprop(cellInv ER (Rd I) (K p) g ∗ reached ER g 0) := by
  subst hg
  unfold Rec
  iintro ⟨H, -⟩
  iapply (show _ ⊢ _ from bigSep_elim (Finset.mem_univ p)) $$ H

/-- The record holds the levels. -/
theorem Rec_lev (K : Dev nD × Fin 45 → ℕ) : Rec I K ⊢ (levAts L lv : sProp 𝕄) := by
  unfold Rec
  iintro ⟨-, H⟩; iexact H

/-- A sending semaphore's cell. -/
theorem kcell_s (c : Dev nD) (i : Fin 24) : kcell (c, kdx (sSem i)) = sCell c i := by show ((c : Thread nD τ), csem _) = _; rw [csem_s]
/-- A receiving semaphore's cell. -/
theorem kcell_r (c : Dev nD) (i : Fin 24) : kcell (c, kdx (rSem i)) = rCell c i := by show ((c : Thread nD τ), csem _) = _; rw [csem_r]

/-- What device `c` owes with `k` payments left, whatever it has waited for. -/
def OW (c : Dev nD) (k : ℕ) : sProp 𝕄 := iprop(∃ W, owes (c : Thread nD τ) (owed c k) W)

/-- The position on the sending semaphore of transfer `i`, kept with transfer `i` unless its semaphore is in its second round. -/
def posS (c : Dev nD) (i : Fin 24) : sProp 𝕄 := if i.val / 4 = 2 then iprop(emp) else atPos ER (sCell c i) 0 ∅ 0
/-- The right to make transfer `i`. -/
def kit (c : Dev nD) (i : Fin 24) : sProp 𝕄 :=
  iprop(dutyTok ER (sCell c i) (rd i) false ∗ dutyTok ER (rCell (tgt (dd i) c) i) 0 false)
/-- The block that transfer `i` of device `c` will fill. -/
def lnd (c : Dev nD) (i : Fin 24) : sProp 𝕄 := some' (tgt (dd i) c) (landM i (tgt (dd i) c))
/-- What is left of a transfer whose end has been seen. -/
def done (c : Dev nD) (i : Fin 24) : sProp 𝕄 :=
  if i.val / 4 = 0 then iprop(emp) else iprop(semVal (sCell c i) 0 ∗ sendPay I i c)

/-- Transfer `i` of device `c` when `n` transfers have been started and `m` seen to end. -/
def sItem (c : Dev nD) (n m : ℕ) (i : Fin 24) : sProp 𝕄 :=
  if i.val < m then done I c i
  else if i.val < n then iprop(cred (tallyAt (sCell c i) () NN) ∗ posS c i)
  else iprop(kit c i ∗ lnd c i ∗ posS c i)

/-- The arrival of transfer `i` on device `c` when `r` arrivals have been seen. -/
def rItem (c : Dev nD) (r : ℕ) (i : Fin 24) : sProp 𝕄 :=
  if i.val < r then semVal (rCell c i) 0 else iprop(cred (tallyAt (rCell c i) () NN) ∗ atPos ER (rCell c i) 0 ∅ 0)

/-- The state of the ring on device `c`: `n` transfers started, `m` seen to end, `r` arrivals seen. -/
def Ring (c : Dev nD) (n m r : ℕ) : sProp 𝕄 :=
  iprop(OW c (24 - n) ∗ BI.bigSep Finset.univ (sItem I c n m) ∗ BI.bigSep Finset.univ (rItem (F := F) c r))

/-- What device `c` keeps of the first round of a sending semaphore that has a second one. -/
def sec (c : Dev nD) (i : Fin 24) : sProp 𝕄 := iprop(atPos ER (sCell c i) 1 ∅ 0 ∗ reached ER (sCell c i) 1)

/-- Each landing has the same amount. -/
theorem landM_credit (i : Fin 24) (c : Dev nD) : (landM i c).view.dmaCredit = NN := by unfold landM; split <;> rfl

section Steps

variable (𝒱₀ : Variants) (K : Dev nD × Fin 45 → ℕ) {c : Dev nD} {α : Type} {Q : α → sProp (MT nD τ sig Unit (Elt F) ℕ UU ℕ)} {n m r : ℕ}

/-- The start of transfer `i`. -/
theorem sendX (i : Fin 24) {N : Dev nD} {s d : Memref sig .tc .vmem S512x1024 .bf16} {sm sm' : DmaSem sig}
    {hsc : (d : Memref sig (Dev.tc N : Thread nD τ).2.kind .vmem S512x1024 .bf16).view.ref.isScScratch = false}
    {hsrc : s.view.WordExact} {hdst : d.view.WordExact}
    {hsem : DmaTarget.Typed .vmem (.dma sm') (.remote (Dev.tc N : Thread nD τ) d (.dma sm) hsc)}
    {k : PUnit → Prog (TpuEff nD τ sig (Elt F) Λ₀ .tc) α}
    (hN : N = tgt (dd i) c) (hs : s = srcM i c) (hd : d = landM i (tgt (dd i) c)) (hsm : sm = sSem i) (hsm' : sm' = rSem i)
    (hn : i.val = n) (hm : m ≤ n) :
    iprop(Rec I K ∗ reached ER (sCell c i) (rd i) ∗ Ring I c n m r ∗ own' c (srcM i c) (shr i) (sv I i c))
      ⊢ iprop((Ring I c (n + 1) m r -∗ wpc 𝒱₀ c (k ⟨⟩) Q)
        -∗ wpc 𝒱₀ c (.op (.enqueueDma s (.remote (Dev.tc N : Thread nD τ) d (.dma sm) hsc) (.dma sm') hsrc hdst hsem) k) Q : sProp 𝕄) := by
  subst hN hs hd hsm hsm' hn
  have e1 : sItem I c i.val m i = iprop(kit c i ∗ lnd c i ∗ posS c i) := by
    unfold sItem; rw [if_neg (by omega), if_neg (by omega)]
  have e2 : sItem I c (i.val + 1) m i = iprop(cred (tallyAt (sCell c i) () NN) ∗ posS c i) := by
    unfold sItem; rw [if_neg (by omega), if_pos (by omega)]
  unfold Ring OW own' owns
  rw [owed_send c i]
  iintro ⟨#HR, #Hr, ⟨⟨%W, HO⟩, HS, HV⟩, ⟨%fs, %hfs, Hs⟩⟩ Hk
  ihave HS := (bigSep_swap i (sItem I c i.val m) (sItem I c (i.val + 1) m) (fun j hj => by
    have hj' : j.val ≠ i.val := fun e => hj (Fin.ext e)
    unfold sItem
    by_cases h1 : j.val < m
    · rw [if_pos h1, if_pos h1]
    · rw [if_neg h1, if_neg h1]
      by_cases h2 : j.val < i.val
      · rw [if_pos h2, if_pos (by omega)]
      · rw [if_neg h2, if_neg (by omega)]) e1 e2) $$ HS
  unfold kit lnd some' own' owns
  icases HS with ⟨⟨⟨Ht1, Ht2⟩, ⟨%v0, %f0, -, Hd⟩, Hpos⟩, HS⟩
  ihave #H1 := (Rec_at I K (c, kdx (sSem i)) (sCell c i) (kcell_s c i)) $$ HR
  ihave #H2 := (Rec_at I K (tgt (dd i) c, kdx (rSem i)) (rCell (tgt (dd i) c) i) (kcell_r _ i)) $$ HR
  icases H1 with ⟨#I1, -⟩
  icases H2 with ⟨#I2, #R2⟩
  iapply (Rounds.wp_send_pointsTo 𝒱₀ ER (Rd I) (c : Thread nD τ) none (κ₁ := K (c, kdx (sSem i))) (κ₂ := K (tgt (dd i) c, kdx (rSem i)))
    (r₁ := rd i) (r₂ := 0) (d₁ := false) (d₂ := false) (fd := f0) (fs := fs) (q := shr i)
    (by rw [duties_s]; exact Finset.mem_singleton_self _) (by rw [duties_r]; exact Finset.mem_singleton_self _)
    () () NN (show (landM i (tgt (dd i) c)).view.amount (.dma (rSem i : DmaSem sig)) = NN from landM_credit i _) rfl rfl (owed c (24 - (i.val + 1))) rfl (W := W)
    (by
      rw [payload_s]; unfold sendPay own' owns
      iintro H; iexists fs; isplitr; · ipureintro; exact hfs
      iexact H)
    (by
      rw [payload_r]; unfold recvPay own' owns
      iintro H; iexists _; isplitr; swap
      · iexact H
      · ipureintro
        rw [View.read_write_univ, hfs, lvl_tgt])) $$ [Hs Hd HO Ht1 Ht2]
  · isplitr; · iexact I1
    isplitr; · iexact I2
    isplitl [Hs]; · iexact Hs
    isplitl [Hd]; · iexact Hd
    isplitl [HO]; · iexact HO
    isplitl [Ht1]; · iexact Ht1
    isplitr; · iexact Hr
    isplitl [Ht2]; · iexact Ht2
    iexact R2
  iintro ⟨Hc, HO⟩
  iapply Hk
  isplitl [HO]; · iexists W; iexact HO
  isplitr [HV]
  · iapply HS
    isplitl [Hc]; · iexact Hc
    iexact Hpos
  iexact HV

/-- The start of a transfer in the first round of its semaphore. -/
theorem send (i : Fin 24) {n1 : ℕ} {N : Dev nD} {s d : Memref sig .tc .vmem S512x1024 .bf16} {sm sm' : DmaSem sig}
    {hsc : (d : Memref sig (Dev.tc N : Thread nD τ).2.kind .vmem S512x1024 .bf16).view.ref.isScScratch = false}
    {hsrc : s.view.WordExact} {hdst : d.view.WordExact}
    {hsem : DmaTarget.Typed .vmem (.dma sm') (.remote (Dev.tc N : Thread nD τ) d (.dma sm) hsc)}
    {k : PUnit → Prog (TpuEff nD τ sig (Elt F) Λ₀ .tc) α}
    (hN : N = tgt (dd i) c) (hs : s = srcM i c) (hd : d = landM i (tgt (dd i) c)) (hsm : sm = sSem i) (hsm' : sm' = rSem i)
    (hn : i.val = n) (hm : m ≤ n) (hr : i.val / 4 ≠ 2) (hn1 : n1 = n + 1) :
    iprop(Rec I K ∗ Ring I c n m r ∗ own' c (srcM i c) (shr i) (sv I i c))
      ⊢ iprop((Ring I c n1 m r -∗ wpc 𝒱₀ c (k ⟨⟩) Q)
        -∗ wpc 𝒱₀ c (.op (.enqueueDma s (.remote (Dev.tc N : Thread nD τ) d (.dma sm) hsc) (.dma sm') hsrc hdst hsem) k) Q : sProp 𝕄) := by
  subst hn1
  iintro ⟨#HR, Hg, Hs⟩
  ihave #H1 := (Rec_at I K (c, kdx (sSem i)) (sCell c i) (kcell_s c i)) $$ HR
  icases H1 with ⟨-, #R1⟩
  iapply (sendX I 𝒱₀ K i hN hs hd hsm hsm' hn hm)
  isplitr; · iexact HR
  isplitr
  · rw [show rd i = 0 from if_neg hr]; iexact R1
  isplitl [Hg]; · iexact Hg
  iexact Hs

/-- The start of a transfer in the second round of its semaphore. -/
theorem send2 (i : Fin 24) {n1 : ℕ} {N : Dev nD} {s d : Memref sig .tc .vmem S512x1024 .bf16} {sm sm' : DmaSem sig}
    {hsc : (d : Memref sig (Dev.tc N : Thread nD τ).2.kind .vmem S512x1024 .bf16).view.ref.isScScratch = false}
    {hsrc : s.view.WordExact} {hdst : d.view.WordExact}
    {hsem : DmaTarget.Typed .vmem (.dma sm') (.remote (Dev.tc N : Thread nD τ) d (.dma sm) hsc)}
    {k : PUnit → Prog (TpuEff nD τ sig (Elt F) Λ₀ .tc) α}
    (hN : N = tgt (dd i) c) (hs : s = srcM i c) (hd : d = landM i (tgt (dd i) c)) (hsm : sm = sSem i) (hsm' : sm' = rSem i)
    (hn : i.val = n) (hm : m ≤ n) (hr : i.val / 4 = 2) (hn1 : n1 = n + 1) :
    iprop(Rec I K ∗ sec c i ∗ Ring I c n m r ∗ own' c (srcM i c) (shr i) (sv I i c))
      ⊢ iprop((sec c i -∗ Ring I c n1 m r -∗ wpc 𝒱₀ c (k ⟨⟩) Q)
        -∗ wpc 𝒱₀ c (.op (.enqueueDma s (.remote (Dev.tc N : Thread nD τ) d (.dma sm) hsc) (.dma sm') hsrc hdst hsem) k) Q : sProp 𝕄) := by
  subst hn1
  unfold sec
  iintro ⟨#HR, ⟨Hp, #R1⟩, Hg, Hs⟩ Hk
  iapply (sendX I 𝒱₀ K i hN hs hd hsm hsm' hn hm) $$ [Hg Hs]
  · isplitr; · iexact HR
    isplitr
    · rw [show rd i = 1 from if_pos hr]; iexact R1
    isplitl [Hg]; · iexact Hg
    iexact Hs
  iintro Hg
  iapply Hk $$ [Hp] Hg
  isplitl [Hp]; · iexact Hp
  iexact R1

/-- The wait for arrival `i`: what it brought is the device's. -/
theorem recv (i : Fin 24) {r1 : ℕ} {sp : Space} {sh : Shape} {e : EltTy} {s : Memref sig .tc sp sh e} {d : Memref sig .tc .vmem S512x1024 .bf16} {sm : DmaSem sig}
    {hsrc : s.view.WordExact} {hdst : d.view.WordExact} {k : PUnit → Prog (TpuEff nD τ sig (Elt F) Λ₀ .tc) α}
    (hsm : sm = rSem i) (hd : d.view.dmaCredit = NN) (hr : i.val = r) (hn : i.val / 4 < n / 4) (hr1 : r1 = r + 1) :
    iprop(Rec I K ∗ Ring I c n m r)
      ⊢ iprop((Ring I c n m r1 -∗ own' c (landM i c) fullShare (lvl I i c) -∗ wpc 𝒱₀ c (k ⟨⟩) Q)
        -∗ wpc 𝒱₀ c (.op (.waitDma2 sm s d hsrc hdst) k) Q : sProp 𝕄) := by
  subst hr1
  subst hsm hr
  have e1 : rItem (F := F) c i.val i = iprop(cred (tallyAt (rCell c i) () NN) ∗ atPos ER (rCell c i) 0 ∅ 0) := by
    unfold rItem; rw [if_neg (by omega)]
  have e2 : rItem (F := F) c (i.val + 1) i = semVal (rCell c i) 0 := by
    unfold rItem; rw [if_pos (by omega)]
  unfold Ring OW
  iintro ⟨#HR, ⟨%W, HO⟩, HS, HV⟩ Hk
  ihave HV := (bigSep_swap i (rItem (F := F) c i.val) (rItem (F := F) c (i.val + 1)) (fun j hj => by
    have hj' : j.val ≠ i.val := fun e => hj (Fin.ext e)
    unfold rItem
    by_cases h2 : j.val < i.val
    · rw [if_pos h2, if_pos (by omega)]
    · rw [if_neg h2, if_neg (by omega)]) e1 e2) $$ HV
  icases HV with ⟨⟨Hc, Hat⟩, HV⟩
  ihave #H1 := (Rec_at I K (c, kdx (rSem i)) (rCell c i) (kcell_r c i)) $$ HR
  icases H1 with ⟨#I1, -⟩
  ihave #Hl := (Rec_lev I K) $$ HR
  iapply (Rounds.wp_wait_rest_token 𝒱₀ ER (Rd I) (c : Thread nD τ) none (κ := K (c, kdx (rSem i)))
    (wpE_waitDma2_eq 𝒱₀ (c : Thread nD τ) none Set.univ) (Set.mem_univ _) () (O := owed c (24 - n)) (W := W) (R := 0) (m := 0) (T := ∅)
    (by rw [Nat.zero_add, expect_r, hd])) $$ [Hc HO Hat]
  · isplitr; · iexact I1
    isplitl [Hc]; · rw [hd]; iexact Hc
    isplitl [HO]; · iexact HO
    isplitr
    · iapply (mayWait c (.dma (rSem i : DmaSem sig)) (24 - n) (2 + i.val / 4) (le_of_eq (lvj_r i)) (fun j hj => by
        rw [if_pos (by omega)]; omega)); iexact Hl
    iexact Hat
  iintro ⟨HO, Hat, -, Hpay⟩
  ihave Hp := (Entails.of_eq ((rest_r I c i).trans (rfl : recvPay I i c = own' c (landM i c) fullShare (lvl I i c)))) $$ Hpay
  imod (Rounds.cell_close ER (Rd I) (Set.mem_univ (K (c, kdx (rSem i)))) (fun h => h) (R := 0 + 1) (fun r hr => duties_r_later I c i r hr)) $$ [Hat] with Hz
  · isplitr; · iexact I1
    iexact Hat
  unfold recvPay
  iapply Hk $$ [HO HS HV Hz] [Hp]
  · isplitl [HO]; · iexists _; iexact HO
    isplitl [HS]; · iexact HS
    iapply HV; iexact Hz
  iexact Hp

/-- The wait for the end of transfer `i`, at the device's position on its semaphore. -/
theorem swaitX (i : Fin 24) {sp : Space} {sh : Shape} {e : EltTy} {s : Memref sig .tc sp sh e} {d : Memref sig .tc .vmem S512x1024 .bf16} {sm : DmaSem sig}
    {hsrc : s.view.WordExact} {hdst : d.view.WordExact} {k : PUnit → Prog (TpuEff nD τ sig (Elt F) Λ₀ .tc) α}
    (hsm : sm = sSem i) (hd : d.view.dmaCredit = NN) (hr : i.val = m) (hn : m < n) :
    iprop(Rec I K ∗ Ring I c n m r ∗ (posS c i -∗ atPos ER (sCell c i) (rd i) ∅ 0))
      ⊢ iprop(((done I c i -∗ Ring I c n (m + 1) r) -∗ sendPay I i c -∗ atPos ER (sCell c i) (rd i + 1) ∅ 0 -∗ reached ER (sCell c i) (rd i + 1) -∗ wpc 𝒱₀ c (k ⟨⟩) Q)
        -∗ wpc 𝒱₀ c (.op (.waitDma2 sm s d hsrc hdst) k) Q : sProp 𝕄) := by
  subst hsm hr
  have e1 : sItem I c n i.val i = iprop(cred (tallyAt (sCell c i) () NN) ∗ posS c i) := by
    unfold sItem; rw [if_neg (by omega), if_pos hn]
  have e2 : sItem I c n (i.val + 1) i = done I c i := by
    unfold sItem; rw [if_pos (by omega)]
  unfold Ring OW
  iintro ⟨#HR, ⟨⟨%W, HO⟩, HS, HV⟩, Hpp⟩ Hk
  ihave HS := (bigSep_swap i (sItem I c n i.val) (sItem I c n (i.val + 1)) (fun j hj => by
    have hj' : j.val ≠ i.val := fun e => hj (Fin.ext e)
    unfold sItem
    by_cases h2 : j.val < i.val
    · rw [if_pos h2, if_pos (by omega)]
    · rw [if_neg h2, if_neg (c := j.val < i.val + 1) (by omega)]) e1 e2) $$ HS
  icases HS with ⟨⟨Hc, Hat⟩, HS⟩
  ihave Hat := Hpp $$ Hat
  ihave #H1 := (Rec_at I K (c, kdx (sSem i)) (sCell c i) (kcell_s c i)) $$ HR
  icases H1 with ⟨#I1, -⟩
  ihave #Hl := (Rec_lev I K) $$ HR
  iapply (Rounds.wp_wait_rest_token 𝒱₀ ER (Rd I) (c : Thread nD τ) none (κ := K (c, kdx (sSem i)))
    (wpE_waitDma2_eq 𝒱₀ (c : Thread nD τ) none Set.univ) (Set.mem_univ _) () (O := owed c (24 - n)) (W := W) (R := rd i) (m := 0) (T := ∅)
    (by rw [Nat.zero_add, expect_s, hd])) $$ [Hc HO Hat]
  · isplitr; · iexact I1
    isplitl [Hc]; · rw [hd]; iexact Hc
    isplitl [HO]; · iexact HO
    isplitr
    · iapply (mayWait_low c (.dma (sSem i : DmaSem sig)) (24 - n) (lvj_s i)); iexact Hl
    iexact Hat
  iintro ⟨HO, Hat, Hre, Hpay⟩
  ihave Hp := (Entails.of_eq (rest_s I c i)) $$ Hpay
  iapply Hk $$ [HO HS HV] Hp Hat Hre
  iintro Hd
  isplitl [HO]; · iexists _; iexact HO
  isplitr [HV]
  · iapply HS; iexact Hd
  iexact HV

/-- The wait for the end of a transfer of step 0: its block comes back, and its semaphore is in its second round. -/
theorem swaitA (i : Fin 24) {m1 : ℕ} {sp : Space} {sh : Shape} {e : EltTy} {s : Memref sig .tc sp sh e} {d : Memref sig .tc .vmem S512x1024 .bf16} {sm : DmaSem sig}
    {hsrc : s.view.WordExact} {hdst : d.view.WordExact} {k : PUnit → Prog (TpuEff nD τ sig (Elt F) Λ₀ .tc) α} (i2 : Fin 24)
    (hsm : sm = sSem i) (hd : d.view.dmaCredit = NN) (hr : i.val = m) (hn : m < n) (hi : i.val / 4 = 0) (h2 : sSem i2 = sSem i) (hm1 : m1 = m + 1) :
    iprop(Rec I K ∗ Ring I c n m r)
      ⊢ iprop((Ring I c n m1 r -∗ own' c (srcM i c) (shr i) (sv I i c) -∗ sec c i2 -∗ wpc 𝒱₀ c (k ⟨⟩) Q)
        -∗ wpc 𝒱₀ c (.op (.waitDma2 sm s d hsrc hdst) k) Q : sProp 𝕄) := by
  subst hm1
  have e0 : rd i = 0 := if_neg (by omega)
  have e1 : sCell c i2 = sCell c i := by show ((c : Thread nD τ), (SemLoc.dma (sSem i2 : DmaSem sig) : SemLoc sig)) = _; rw [h2]
  iintro ⟨#HR, Hg⟩ Hk
  iapply (swaitX I 𝒱₀ K i hsm hd hr hn) $$ [Hg]
  · isplitr; · iexact HR
    isplitl [Hg]; · iexact Hg
    unfold posS; rw [if_neg (by omega), e0]
    iintro H; iexact H
  iintro Hg Hp Hat #Hre
  rw [e0]
  unfold sendPay
  iapply Hk $$ [Hg] Hp [Hat]
  · iapply Hg; unfold done; rw [if_pos hi]; iempintro
  · unfold sec; rw [e1]
    isplitl [Hat]; · iexact Hat
    iexact Hre

/-- The wait for the end of a transfer that is the only one of its semaphore. -/
theorem swaitB (i : Fin 24) {m1 : ℕ} {sp : Space} {sh : Shape} {e : EltTy} {s : Memref sig .tc sp sh e} {d : Memref sig .tc .vmem S512x1024 .bf16} {sm : DmaSem sig}
    {hsrc : s.view.WordExact} {hdst : d.view.WordExact} {k : PUnit → Prog (TpuEff nD τ sig (Elt F) Λ₀ .tc) α}
    (hsm : sm = sSem i) (hd : d.view.dmaCredit = NN) (hr : i.val = m) (hn : m < n) (hi : i.val / 4 ≠ 0 ∧ i.val / 4 ≠ 2) (hm1 : m1 = m + 1) :
    iprop(Rec I K ∗ Ring I c n m r)
      ⊢ iprop((Ring I c n m1 r -∗ wpc 𝒱₀ c (k ⟨⟩) Q)
        -∗ wpc 𝒱₀ c (.op (.waitDma2 sm s d hsrc hdst) k) Q : sProp 𝕄) := by
  subst hm1
  have e0 : rd i = 0 := if_neg hi.2
  iintro ⟨#HR, Hg⟩ Hk
  iapply (swaitX I 𝒱₀ K i hsm hd hr hn) $$ [Hg]
  · isplitr; · iexact HR
    isplitl [Hg]; · iexact Hg
    unfold posS; rw [if_neg hi.2, e0]
    iintro H; iexact H
  iintro Hg Hp Hat #Hre
  rw [e0]
  ihave #H1 := (Rec_at I K (c, kdx (sSem i)) (sCell c i) (kcell_s c i)) $$ HR
  icases H1 with ⟨#I1, -⟩
  imod (Rounds.cell_close ER (Rd I) (Set.mem_univ (K (c, kdx (sSem i)))) (fun h => h) (R := 0 + 1)
    (fun r hr => duties_s_later I c i r (by rw [if_neg (by omega)]; exact hr))) $$ [Hat] with Hz
  · isplitr; · iexact I1
    iexact Hat
  iapply Hk
  iapply Hg; unfold done; rw [if_neg hi.1]
  isplitl [Hz]; · iexact Hz
  iexact Hp

/-- The wait for the end of a transfer in the second round of its semaphore. -/
theorem swaitC (i : Fin 24) {m1 : ℕ} {sp : Space} {sh : Shape} {e : EltTy} {s : Memref sig .tc sp sh e} {d : Memref sig .tc .vmem S512x1024 .bf16} {sm : DmaSem sig}
    {hsrc : s.view.WordExact} {hdst : d.view.WordExact} {k : PUnit → Prog (TpuEff nD τ sig (Elt F) Λ₀ .tc) α}
    (hsm : sm = sSem i) (hd : d.view.dmaCredit = NN) (hr : i.val = m) (hn : m < n) (hi : i.val / 4 = 2) (hm1 : m1 = m + 1) :
    iprop(Rec I K ∗ Ring I c n m r ∗ sec c i)
      ⊢ iprop((Ring I c n m1 r -∗ wpc 𝒱₀ c (k ⟨⟩) Q)
        -∗ wpc 𝒱₀ c (.op (.waitDma2 sm s d hsrc hdst) k) Q : sProp 𝕄) := by
  subst hm1
  have e0 : rd i = 1 := if_pos hi
  iintro ⟨#HR, Hg, Hs⟩ Hk
  iapply (swaitX I 𝒱₀ K i hsm hd hr hn) $$ [Hg Hs]
  · isplitr; · iexact HR
    isplitl [Hg]; · iexact Hg
    unfold sec; rw [e0]
    icases Hs with ⟨Hs, -⟩
    iintro -; iexact Hs
  iintro Hg Hp Hat #Hre
  rw [e0]
  ihave #H1 := (Rec_at I K (c, kdx (sSem i)) (sCell c i) (kcell_s c i)) $$ HR
  icases H1 with ⟨#I1, -⟩
  imod (Rounds.cell_close ER (Rd I) (Set.mem_univ (K (c, kdx (sSem i)))) (fun h => h) (R := 1 + 1)
    (fun r hr => duties_s_later I c i r (by rw [if_pos (.inr hi)]; exact hr))) $$ [Hat] with Hz
  · isplitr; · iexact I1
    iexact Hat
  iapply Hk
  iapply Hg; unfold done; rw [if_neg (by omega)]
  isplitl [Hz]; · iexact Hz
  iexact Hp

/-- The wait for a local transfer while the ring runs: both blocks come back. -/
theorem lwait {s : Shape} {e : EltTy} {sp sp' : Space} {srcw : Memref sig .tc sp s e} {dstw : Memref sig .tc sp' s e} {sem : DmaSem sig}
    {hsrc : srcw.view.WordExact} {hdst : dstw.view.WordExact} {k : PUnit → Prog (TpuEff nD τ sig (Elt F) Λ₀ .tc) α}
    (j : DmaSem sig) (N : ℕ) (D : sProp 𝕄) (hj : sem = j) (hN : dstw.view.dmaCredit = N) (hl : lvj j = 0) :
    iprop(flight c j N D ∗ Rec I K ∗ Ring I c n m r)
      ⊢ iprop((D -∗ semVal ((c : Thread nD τ), .dma j) 0 -∗ Ring I c n m r -∗ wpc 𝒱₀ c (k ⟨⟩) Q)
        -∗ wpc 𝒱₀ c (.op (.waitDma2 sem srcw dstw hsrc hdst) k) Q : sProp 𝕄) := by
  subst hj
  unfold Ring OW
  iintro ⟨HF, #HR, ⟨%W, HO⟩, HS, HV⟩ Hk
  ihave #Hl := (Rec_lev I K) $$ HR
  iapply (Transfers.wp_waitLocalO (EC (F := F)) 𝒱₀ (c : Thread nD τ) none (D := D) (O := owed c (24 - n)) (W := W) () hN) $$ [HF HO]
  · isplitl [HF]; · iexact HF
    isplitl [HO]; · iexact HO
    iapply (mayWait_low c (.dma sem) (24 - n) hl); iexact Hl
  iintro ⟨HD, Hv, HO⟩
  iapply Hk $$ HD Hv
  isplitl [HO]; · iexists _; iexact HO
  isplitl [HS]; · iexact HS
  iexact HV

/-- The same wait before the ring starts. -/
theorem lwait0 {s : Shape} {e : EltTy} {sp sp' : Space} {srcw : Memref sig .tc sp s e} {dstw : Memref sig .tc sp' s e} {sem : DmaSem sig}
    {hsrc : srcw.view.WordExact} {hdst : dstw.view.WordExact} {k : PUnit → Prog (TpuEff nD τ sig (Elt F) Λ₀ .tc) α} {o : ℕ}
    (j : DmaSem sig) (N : ℕ) (D : sProp 𝕄) (hj : sem = j) (hN : dstw.view.dmaCredit = N) (hl : lvj j = 0) :
    iprop(flight c j N D ∗ Rec I K ∗ OW c o)
      ⊢ iprop((D -∗ semVal ((c : Thread nD τ), .dma j) 0 -∗ OW c o -∗ wpc 𝒱₀ c (k ⟨⟩) Q)
        -∗ wpc 𝒱₀ c (.op (.waitDma2 sem srcw dstw hsrc hdst) k) Q : sProp 𝕄) := by
  subst hj
  unfold OW
  iintro ⟨HF, #HR, %W, HO⟩ Hk
  ihave #Hl := (Rec_lev I K) $$ HR
  iapply (Transfers.wp_waitLocalO (EC (F := F)) 𝒱₀ (c : Thread nD τ) none (D := D) (O := owed c o) (W := W) () hN) $$ [HF HO]
  · isplitl [HF]; · iexact HF
    isplitl [HO]; · iexact HO
    iapply (mayWait_low c (.dma sem) o hl); iexact Hl
  iintro ⟨HD, Hv, HO⟩
  iapply Hk $$ HD Hv
  iexists _; iexact HO

end Steps

end Cert.KProof

end
-- ==== Proof.Start.lean ====
module

public import proofs.«01_k».proof.Proof.Ring

/-!
# The barrier

The first meeting of the devices, after which every transfer of the ring may be made.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

/-- A load of part of a held buffer. -/
theorem lds {s : Shape} {e : EltTy} {cs : CoreSpace} {m : Memref sig .tc cs s e} {r : Rect s} {hl : m.view.LoadsAt r}
    {k : (r.shape.Idx → Elt F e) → Prog (TpuEff nD τ sig (Elt F) Λ₀ .tc) α} {q : PosShare TreeShare} {v : s.Idx → Elt F e} :
    (own' c m q v : sProp 𝕄) ⊢ iprop((own' c m q v -∗ wpc 𝒱₀ c (k fun j => v (r.emb j)) Q) -∗ wpc 𝒱₀ c (.op (.load m r hl) k) Q) := by
  unfold own' owns
  iintro ⟨%f, %hf, H⟩ Hk
  iapply (wp_load_rect 𝒱₀ (c : Thread nD τ) none Set.univ (m := m) (r := r) (S := m.view.set) (f := f) (q := q) (View.set_slice_subset _ _)) $$ H
  iintro H
  have hf' : (m.access r).read (Elt F) f = fun j => v (r.emb j) := by subst hf; rfl
  rw [hf']
  iapply Hk
  iexists f; isplitr; · ipureintro; exact hf
  iexact H

/-- What device `c` holds of the ring before the barrier. -/
def Start (c : Dev nD) : sProp 𝕄 :=
  iprop(dutyTok ER (barCell (tgt 1 c)) 0 false ∗ dutyTok ER (barCell (tgt 0 c)) 0 true
    ∗ cred (tallyAt (barCell c) () 2) ∗ atPos ER (barCell c) 0 ∅ 0
    ∗ (BI.bigSep Finset.univ fun i : Fin 24 => some' (F := F) c (landM i c))
    ∗ (BI.bigSep Finset.univ fun i : Fin 24 => iprop(kit (F := F) c i ∗ posS (F := F) c i))
    ∗ BI.bigSep Finset.univ (rItem (F := F) c 0))

/-- One landing block, handed to the neighbour that fills it. -/
theorem pay_of_land1 (c : Dev nD) (i : Fin 24) :
    some' (F := F) c (landM i c) ⊢ iprop((if dd i = bdir false then some' (F := F) (tgt (dd i) (tgt 1 c)) (landM i (tgt (dd i) (tgt 1 c))) else iprop(emp))
      ∗ (if dd i = bdir true then some' (F := F) (tgt (dd i) (tgt 0 c)) (landM i (tgt (dd i) (tgt 0 c))) else iprop(emp))) := by
  have h01 : dd i = 0 ∨ dd i = 1 := by revert i; decide
  have t0 : tgt 0 (tgt 1 c) = c := tgt_src 0 c
  have t1 : tgt 1 (tgt 0 c) = c := tgt_src 1 c
  rcases h01 with h | h
  · rw [if_pos (show dd i = bdir false from h), if_neg (show ¬ dd i = bdir true from by rw [h]; decide), h, t0]
    iintro H; isplitl; · iexact H
    iempintro
  · rw [if_neg (show ¬ dd i = bdir false from by rw [h]; decide), if_pos (show dd i = bdir true from h), h, t1]
    iintro H; isplitr; · iempintro
    iexact H

/-- The landing blocks, handed to the neighbours that fill them. -/
theorem pay_of_land (c : Dev nD) :
    (BI.bigSep Finset.univ fun i : Fin 24 => some' (F := F) c (landM i c)) ⊢ iprop(barPay (F := F) (tgt 1 c) false ∗ barPay (F := F) (tgt 0 c) true) := by
  unfold barPay
  rw [← bigSep_sep']
  exact bigSep_mono fun i _ => pay_of_land1 c i

/-- One block that a neighbour handed over, as the place of a transfer. -/
theorem land_of_pay1 (c : Dev nD) (i : Fin 24) :
    iprop((if dd i = bdir false then some' (F := F) (tgt (dd i) c) (landM i (tgt (dd i) c)) else iprop(emp))
      ∗ (if dd i = bdir true then some' (F := F) (tgt (dd i) c) (landM i (tgt (dd i) c)) else iprop(emp))) ⊢ lnd (F := F) c i := by
  have h01 : dd i = 0 ∨ dd i = 1 := by revert i; decide
  unfold lnd
  rcases h01 with h | h
  · rw [if_pos (show dd i = bdir false from h), if_neg (show ¬ dd i = bdir true from by rw [h]; decide)]
    iintro ⟨H, -⟩; iexact H
  · rw [if_neg (show ¬ dd i = bdir false from by rw [h]; decide), if_pos (show dd i = bdir true from h)]
    iintro ⟨-, H⟩; iexact H

/-- The blocks that the neighbours handed over, as the places of the transfers. -/
theorem land_of_pay (c : Dev nD) :
    iprop(barPay (F := F) c false ∗ barPay (F := F) c true) ⊢ (BI.bigSep Finset.univ fun i : Fin 24 => lnd (F := F) c i) := by
  unfold barPay
  rw [← bigSep_sep']
  exact bigSep_mono fun i _ => land_of_pay1 c i

/-- One transfer, ready to start. -/
theorem item_start1 (c : Dev nD) (i : Fin 24) : iprop(lnd (F := F) c i ∗ (kit (F := F) c i ∗ posS (F := F) c i)) ⊢ sItem I c 0 0 i := by
  unfold sItem
  rw [if_neg (Nat.not_lt_zero _), if_neg (Nat.not_lt_zero _)]
  exact sep_left_comm.1

/-- Every transfer, ready to start. -/
theorem item_start (c : Dev nD) : iprop((BI.bigSep Finset.univ fun i : Fin 24 => lnd (F := F) c i) ∗ BI.bigSep Finset.univ fun i : Fin 24 => iprop(kit (F := F) c i ∗ posS (F := F) c i))
    ⊢ BI.bigSep Finset.univ (sItem I c 0 0) := by
  rw [← bigSep_sep']
  exact bigSep_mono fun i _ => item_start1 I c i

/-- What a barrier signal hands over. -/
theorem payload_bar (c : Dev nD) (b : Bool) : (Rd I).payload (barCell c) 0 b = barPay c b := rfl

/-- The barrier: each neighbour gets the blocks it fills here, and the ring is set. -/
theorem barrier {N1 N2 : Dev nD} (h1 : N1 = tgt 1 c) (h2 : N2 = tgt 0 c) {k : PUnit → Prog (TpuEff nD τ sig (Elt F) Λ₀ .tc) α} :
    iprop(Rec I K ∗ OW c 26 ∗ Start c)
      ⊢ iprop((Ring I c 0 0 0 -∗ semVal (barCell c) 0 -∗ wpc 𝒱₀ c (k ⟨⟩) Q)
        -∗ wpc 𝒱₀ c (.op (.semSignal ((N1, .tc) : Thread nD τ) barS (1#32).toInt) fun _ => .op (.semSignal ((N2, .tc) : Thread nD τ) barS (1#32).toInt) fun _ =>
          .op (.semWait barS (2#32).toInt) k) Q : sProp 𝕄) := by
  subst h1 h2
  unfold Start OW
  iintro ⟨#HR, ⟨%W, HO⟩, Ht1, Ht0, Hc, Hat, Hl, Hk, Hr⟩ HQ
  ihave #H0 := (Rec_at I K (c, 0) (barCell c) rfl) $$ HR
  ihave #H1 := (Rec_at I K (tgt 1 c, 0) (barCell (tgt 1 c)) rfl) $$ HR
  ihave #H2 := (Rec_at I K (tgt 0 c, 0) (barCell (tgt 0 c)) rfl) $$ HR
  icases H0 with ⟨#I0, -⟩
  icases H1 with ⟨#I1, #R1⟩
  icases H2 with ⟨#I2, #R2⟩
  ihave #Hlv := (Rec_lev I K) $$ HR
  ihave Hl := (pay_of_land c) $$ Hl
  icases Hl with ⟨P1, P2⟩
  iapply (Rounds.wp_signal 𝒱₀ ER (Rd I) (c : Thread nD τ) none (dst := (tgt 1 c : Thread nD τ)) (κ := K (tgt 1 c, 0)) (d := false)
    (by rw [duties_bar]; exact Finset.mem_univ _) ((amount_bar I _ _).trans (by decide)) () (owed c 25) rfl) $$ [HO Ht1 P1]
  · isplitr; · iexact I1
    isplitl [HO]; · iexact HO
    isplitl [Ht1]; · iexact Ht1
    isplitl [P1]; · rw [payload_bar]; iexact P1
    iexact R1
  iintro HO
  iapply (Rounds.wp_signal 𝒱₀ ER (Rd I) (c : Thread nD τ) none (dst := (tgt 0 c : Thread nD τ)) (κ := K (tgt 0 c, 0)) (d := true)
    (by rw [duties_bar]; exact Finset.mem_univ _) ((amount_bar I _ _).trans (by decide)) () (owed c 24) rfl) $$ [HO Ht0 P2]
  · isplitr; · iexact I2
    isplitl [HO]; · iexact HO
    isplitl [Ht0]; · iexact Ht0
    isplitl [P2]; · rw [payload_bar]; iexact P2
    iexact R2
  iintro HO
  iapply (Rounds.wp_wait_rest_token 𝒱₀ ER (Rd I) (c : Thread nD τ) none (κ := K (c, 0))
    (wpE_semWait_eq 𝒱₀ (c : Thread nD τ) none Set.univ) (Set.mem_univ _) () (O := owed c 24) (W := W) (R := 0) (m := 0) (T := ∅)
    (by rw [expect_bar]; decide)) $$ [Hc HO Hat]
  · isplitr; · iexact I0
    isplitl [Hc]; · iexact Hc
    isplitl [HO]; · iexact HO
    isplitr
    · iapply (mayWait c (.reg barS) 24 1 (le_of_eq rfl) (fun j hj => by rw [if_pos hj]; omega)); iexact Hlv
    iexact Hat
  iintro ⟨HO, Hat, -, Hpay⟩
  ihave Hp := (Entails.of_eq (rest_bar I c)) $$ Hpay
  ihave Hp := (land_of_pay c) $$ Hp
  imod (Rounds.cell_close ER (Rd I) (Set.mem_univ (K (c, 0))) (fun h => h) (R := 0 + 1) (fun r hr => duties_bar_later I c r hr)) $$ [Hat] with Hz
  · isplitr; · iexact I0
    iexact Hat
  iapply HQ $$ [HO Hk Hr Hp] Hz
  unfold Ring OW
  isplitl [HO]; · iexists _; iexact HO
  isplitr [Hr]
  · iapply (item_start I c)
    isplitl [Hp]; · iexact Hp
    iexact Hk
  iexact Hr

end

end Cert.KProof

end
-- ==== Proof.Stages.lean ====
module

public import proofs.«01_k».proof.Proof.Ring

/-!
# The stages of the kernel
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- A part of the kernel, on the kernel's own buffers and semaphores. -/
abbrev ap {α : Type 1} (f : (arg0 : Memref sig .tc .hbm S4096x1024 .f32)
    → (harg0 : arg0.IsWhole)
    → (arg1 : Memref sig .tc .hbm S1024x2048 .f32)
    → (harg1 : arg1.IsWhole)
    → (arg2 : Memref sig .tc .smem S1 .f32)
    → (harg2 : arg2.IsWhole)
    → (arg3 : Memref sig .tc .smem S1 .f32)
    → (harg3 : arg3.IsWhole)
    → (arg4 : Memref sig .tc .hbm S4096x2048 .f32)
    → (harg4 : arg4.IsWhole)
    → (arg5 : Memref sig .tc .vmem S1024x2048 .bf16)
    → (harg5 : arg5.IsWhole)
    → (arg6 : Memref sig .tc .vmem S2x1024x1024 .bf16)
    → (harg6 : arg6.IsWhole)
    → (arg7 : Memref sig .tc .vmem S2x1024x1024 .f32)
    → (harg7 : arg7.IsWhole)
    → (arg8 : Memref sig .tc .vmem S2x1024x1024 .f32)
    → (harg8 : arg8.IsWhole)
    → (arg9 : Memref sig .tc .vmem S2x2x1024x1024 .bf16)
    → (harg9 : arg9.IsWhole)
    → (arg10 : Memref sig .tc .vmem S2x3x1024x1024 .bf16)
    → (harg10 : arg10.IsWhole)
    → (arg11 : Memref sig .tc .vmem S2x2x4x512x1024 .bf16)
    → (harg11 : arg11.IsWhole)
    → (arg12 : DmaSems sig S2)
    → (arg13 : DmaSems sig S2x2x2)
    → (arg14 : DmaSems sig S2x3x2)
    → (arg15 : DmaSems sig S2x3x2)
    → (arg16 : DmaSems sig S2x3x2)
    → (arg17 : DmaSems sig S2x2) → α) : α :=
  f (Memref.whole main_arg0) (Memref.isWhole_whole _) (Memref.whole main_arg1) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 cc0_scratch11 cc0_scratch12

/-- A program on a device's TensorCore. -/
abbrev PP (F : FTy → Type) (α : Type) := Prog (TpuEff nD τ sig (Elt F) Λ₀ .tc) α

variable {α : Type}

/-- The weights, the first products, the barrier, the first transfer. -/
def pA (k : Dev nD → BitVec 32 → BitVec 32 → BitVec 32 → F .f32 → PP F α) : PP F α :=
  ap (k0_part1 (F := F)) >>= fun r => ap (k0_part2 (F := F)) r.1 r.2.1 >>= fun _ => ap (k0_part3 (F := F)) r.1 >>= fun v79 =>
  ap (k0_part4 (F := F)) r.1 v79 >>= fun v106 => ap (k0_part5 (F := F)) r.1 r.2.2.1 r.2.2.2.1 v106 >>= fun _ =>
  k r.1 r.2.1 r.2.2.1 r.2.2.2.1 r.2.2.2.2

/-- The other transfers of step 0, and the products of step 1. -/
def pB (d0 : Dev nD) (v2 v5 v7 : BitVec 32) (k : PP F α) : PP F α :=
  ap (k0_part6 (F := F)) d0 v7 >>= fun _ => ap (k0_part7 (F := F)) d0 v5 >>= fun _ => ap (k0_part8 (F := F)) d0 v2 >>= fun v201 =>
  ap (k0_part9 (F := F)) d0 v201 >>= fun r => ap (k0_part10 (F := F)) d0 v2 v7 r.1 r.2 >>= fun _ => k

/-- The sums and transfers of step 1, and the products of step 2. -/
def pC (d0 : Dev nD) (v2 v5 v7 : BitVec 32) (k : PP F α) : PP F α :=
  ap (k0_part11 (F := F)) d0 v7 >>= fun _ => ap (k0_part12 (F := F)) v5 >>= fun _ => ap (k0_part13 (F := F)) d0 v7 >>= fun _ =>
  ap (k0_part14 (F := F)) d0 v5 v7 >>= fun v344 => ap (k0_part15 (F := F)) d0 v5 v344 >>= fun _ =>
  ap (k0_part16 (F := F)) d0 v2 >>= fun r => ap (k0_part17 (F := F)) d0 v2 r.1 r.2 >>= fun _ => k

/-- The sums and transfers of step 2, and the products of step 3. -/
def pD (d0 : Dev nD) (v2 v5 v7 : BitVec 32) (k : PP F α) : PP F α :=
  ap (k0_part18 (F := F)) v7 >>= fun _ => ap (k0_part19 (F := F)) d0 v5 >>= fun v459 => ap (k0_part20 (F := F)) d0 v5 v459 >>= fun _ =>
  ap (k0_part21 (F := F)) v7 >>= fun _ => ap (k0_part22 (F := F)) d0 v5 v7 >>= fun _ => ap (k0_part23 (F := F)) d0 v5 >>= fun _ =>
  ap (k0_part24 (F := F)) d0 >>= fun _ => k

/-- The complete sums of half 0, and their first transfers. -/
def pE (d0 : Dev nD) (v2 v5 v7 : BitVec 32) (k : BitVec 32 → PP F α) : PP F α :=
  ap (k0_part25 (F := F)) v2 v7 >>= fun r => ap (k0_part26 (F := F)) d0 v2 v7 r.1 r.2.1 r.2.2 >>= fun s =>
  ap (k0_part27 (F := F)) v5 s.1 s.2 >>= fun t => ap (k0_part28 (F := F)) d0 v2 v5 v7 t.1 t.2 >>= k

/-- The complete sums of half 1, their first transfers, and the result on the first own chunk. -/
def pF (d0 : Dev nD) (v2 v5 v7 : BitVec 32) (v10 : F .f32) (v669 : BitVec 32) (k : BitVec 32 → PP F α) : PP F α :=
  ap (k0_part29 (F := F)) v2 v669 >>= fun _ => ap (k0_part30 (F := F)) d0 v2 v5 v7 >>= fun r =>
  ap (k0_part31 (F := F)) d0 v2 v5 r.1 r.2.1 r.2.2 >>= fun _ => ap (k0_part32 (F := F)) d0 v2 v10 >>= k

/-- The result on the second own chunk, and gathering step 0 of half 0. -/
def pG (d0 : Dev nD) (v2 v5 v7 : BitVec 32) (v10 : F .f32) (v755 : BitVec 32) (k : BitVec 32 → BitVec 32 → PP F α) : PP F α :=
  ap (k0_part33 (F := F)) d0 v2 v10 v755 >>= fun r => ap (k0_part34 (F := F)) d0 v2 v7 r.1 r.2 >>= fun v840 =>
  ap (k0_part35 (F := F)) d0 v2 v7 v10 v840 >>= fun s => ap (k0_part36 (F := F)) d0 v2 v5 v10 s.1 s.2 >>= fun v890 =>
  ap (k0_part37 (F := F)) d0 v2 v5 v10 v890 >>= fun t => k t.1 t.2

/-- Gathering step 0 of half 1. -/
def pH (d0 : Dev nD) (v2 v5 v7 : BitVec 32) (v10 : F .f32) (v907 c907 : BitVec 32) (k : BitVec 32 → BitVec 32 → PP F α) : PP F α :=
  ap (k0_part38 (F := F)) d0 v2 v7 v10 v907 c907 >>= fun v940 => ap (k0_part39 (F := F)) d0 v2 v7 v10 v940 >>= fun r =>
  ap (k0_part40 (F := F)) d0 v2 v5 v10 r.1 r.2 >>= fun v990 => ap (k0_part41 (F := F)) d0 v2 v5 v10 v990 >>= fun t => k t.1 t.2

/-- Gathering step 1 of half 0. -/
def pI (d0 : Dev nD) (v2 v5 v7 : BitVec 32) (v10 : F .f32) (v1007 c1007 : BitVec 32) (k : BitVec 32 → BitVec 32 → PP F α) : PP F α :=
  ap (k0_part42 (F := F)) d0 v2 v7 v10 v1007 c1007 >>= fun v1040 => ap (k0_part43 (F := F)) d0 v2 v7 v10 v1040 >>= fun r =>
  ap (k0_part44 (F := F)) d0 v2 v5 v10 r.1 r.2 >>= fun v1090 => ap (k0_part45 (F := F)) d0 v2 v5 v10 v1090 >>= fun t => k t.1 t.2

/-- Gathering step 1 of half 1. -/
def pJ (d0 : Dev nD) (v2 v5 v7 : BitVec 32) (v10 : F .f32) (v1107 c1107 : BitVec 32) (k : BitVec 32 → PP F α) : PP F α :=
  ap (k0_part46 (F := F)) d0 v2 v7 v10 v1107 c1107 >>= fun v1140 => ap (k0_part47 (F := F)) d0 v2 v7 v10 v1140 >>= fun r =>
  ap (k0_part48 (F := F)) d0 v2 v5 v10 r.1 r.2 >>= fun v1190 => ap (k0_part49 (F := F)) d0 v2 v5 v10 v1190 >>= fun t =>
  ap (k0_part50 (F := F)) d0 v2 v7 v10 t.1 t.2 >>= k

/-- Gathering step 2. -/
def pK (d0 : Dev nD) (v2 v5 v7 : BitVec 32) (v10 : F .f32) (v1240 : BitVec 32) (k : PP F α) : PP F α :=
  ap (k0_part51 (F := F)) d0 v10 v1240 >>= fun _ => ap (k0_part52 (F := F)) d0 v2 v5 v10 >>= fun r =>
  ap (k0_part53 (F := F)) d0 v2 v7 v10 r.1 r.2 >>= fun v1315 => ap (k0_part54 (F := F)) d0 v5 v10 v1315 >>= fun v1340 =>
  ap (k0_part55 (F := F)) d0 v2 v10 v1340 >>= fun s => ap (k0_part56 (F := F)) d0 s.1 s.2 >>= fun _ => k

/-- The waits for the ends of all transfers. -/
def pL (d0 : Dev nD) (k : PP F α) : PP F α :=
  ap (k0_part57 (F := F)) d0 >>= fun _ => ap (k0_part58 (F := F)) >>= fun _ => ap (k0_part59 (F := F)) >>= fun _ =>
  ap (k0_part60 (F := F)) d0 >>= fun _ => k

/-- The last waits. -/
def pM (d0 : Dev nD) : PP F PUnit :=
  ap (k0_part61 (F := F)) d0 >>= fun _ => ap (k0_part62 (F := F)) d0 >>= fun _ => ap (k0_part63 (F := F)) d0 >>= fun _ =>
  Prog.lift (.waitDma2 ((cc0_scratch10.slice (Rect.unit (s := S2x3x2) ![1, 2, 1] S1x1x1.size inb_S2x3x2_S1x1x1_1_2_1)).squeeze S_ squeezes_S1x1x1_S_).sem
    (((Memref.whole cc0_scratch6).slice (Rect.unit (s := S2x2x4x512x1024) (k0_off5 d0 2#32) S1x1x1x512x1024.size (k0_off5_inb d0 2)) (fun _ => rfl)).squeeze S512x1024 squeezes_S1x1x1x512x1024_S512x1024)
    (((Memref.whole cc0_scratch6).slice (Rect.unit (s := S2x2x4x512x1024) (k0_off5 d0 2#32) S1x1x1x512x1024.size (k0_off5_inb d0 2)) (fun _ => rfl)).squeeze S512x1024 squeezes_S1x1x1x512x1024_S512x1024)
    (((Memref.isWhole_whole _).wordExact_slice rfl _ (k0_off5_wordsbf16 d0 2)).reshape _ _) (((Memref.isWhole_whole _).wordExact_slice rfl _ (k0_off5_wordsbf16 d0 2)).reshape _ _))

/-- The reduction, and the start of the gathering. -/
def p1 (k : Dev nD → BitVec 32 → BitVec 32 → BitVec 32 → F .f32 → BitVec 32 → PP F α) : PP F α :=
  pA fun d0 v2 v5 v7 v10 => pB d0 v2 v5 v7 <| pC d0 v2 v5 v7 <| pD d0 v2 v5 v7 <| pE d0 v2 v5 v7 fun v669 =>
  pF d0 v2 v5 v7 v10 v669 fun v755 => k d0 v2 v5 v7 v10 v755

/-- The gathering, and the last waits. -/
def p2 (d0 : Dev nD) (v2 v5 v7 : BitVec 32) (v10 : F .f32) (v755 : BitVec 32) (k : PP F α) : PP F α :=
  pG d0 v2 v5 v7 v10 v755 fun a b => pH d0 v2 v5 v7 v10 a b fun a b => pI d0 v2 v5 v7 v10 a b fun a b => pJ d0 v2 v5 v7 v10 a b fun a =>
  pK d0 v2 v5 v7 v10 a <| pL d0 <| k

/-- The kernel is its stages. -/
theorem body_eq : ap (cc0_body (F := F)) = p1 fun d0 v2 v5 v7 v10 v755 => p2 d0 v2 v5 v7 v10 v755 (pM d0) := by
  rw [cc0_body_eq_skeleton]
  unfold cc0_body_skel
  rw [k0_part64_eq_skeleton]
  unfold k0_part64_skel
  simp only [bind_assoc, pure_bind]
  rfl

attribute [irreducible] pA pB pC pD pE pF pG pH pI pJ pK pL pM

end Cert.KProof

end
-- ==== Proof.Access.lean ====
module

public import proofs.«01_k».proof.Proof.Start
public import proofs.«01_k».proof.Proof.Stages

/-!
# Loads and stores of the kernel's blocks

The program names a block by its offsets; the device holds it as the matrix it reads.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (𝒱₀ : Variants) {c : Dev nD} {α : Type} {Q : α → sProp (MT nD τ sig Unit (Elt F) ℕ UU ℕ)} {e : EltTy} {q : PosShare TreeShare}

/-- The rounded activations. -/
abbrev mXs : Memref sig .tc .vmem S2x1024x1024 .bf16 := Memref.whole cc0_scratch1
/-- The staged activations. -/
abbrev mX32 : Memref sig .tc .vmem S2x1024x1024 .f32 := Memref.whole cc0_scratch2
/-- The accumulators. -/
abbrev mAc : Memref sig .tc .vmem S2x1024x1024 .f32 := Memref.whole cc0_scratch3
/-- The send buffers. -/
abbrev mSb : Memref sig .tc .vmem S2x2x1024x1024 .bf16 := Memref.whole cc0_scratch4
/-- The landing buffers. -/
abbrev mRr : Memref sig .tc .vmem S2x3x1024x1024 .bf16 := Memref.whole cc0_scratch5
/-- The gathered blocks. -/
abbrev mAg : Memref sig .tc .vmem S2x2x4x512x1024 .bf16 := Memref.whole cc0_scratch6

/-- Half a block of a pair of pairs of planes. -/
abbrev hf2 (m : Memref sig .tc .vmem S2x2x1024x1024 e) (d t s : Fin 2) : Memref sig .tc .vmem S512x1024 e :=
  (m.slice (Rect.unit (s := S2x2x1024x1024) ![d.val, t.val, 512 * s.val, 0] S1x1x512x1024.size (by revert d t s; decide))
    (fun _ => rfl)).squeeze S512x1024 squeezes_S1x1x512x1024_S512x1024
/-- A block of a family of half planes. -/
abbrev hf5 (m : Memref sig .tc .vmem S2x2x4x512x1024 e) (d s : Fin 2) (t : Fin 4) : Memref sig .tc .vmem S512x1024 e :=
  (m.slice (Rect.unit (s := S2x2x4x512x1024) ![d.val, s.val, t.val, 0, 0] S1x1x1x512x1024.size (by revert d s t; decide))
    (fun _ => rfl)).squeeze S512x1024 squeezes_S1x1x1x512x1024_S512x1024

/-- A load of a plane of a pair. -/
theorem ldP (m : Memref sig .tc .vmem S2x1024x1024 e) (d : Fin 2) {o : Fin 3 → ℕ} (ho : o = ![d.val, 0, 0]) {i : ∀ a, o a + S1x1024x1024.size a ≤ S2x1024x1024.size a} {hl}
    {k : (S1x1024x1024.Idx → Elt F e) → PP F α} {v : S1024x1024.Idx → Elt F e} :
    (own' c (pl3 m d) q v : sProp 𝕄) ⊢ iprop((own' c (pl3 m d) q v -∗ wpc 𝒱₀ c (k (shapeCast S1x1024x1024 v (squeezes_S1x1024x1024_S1024x1024 : S1x1024x1024.Squeezes S1024x1024).numel_eq.symm)) Q)
      -∗ wpc 𝒱₀ c (.op (.load m (Rect.unit (s := S2x1024x1024) o S1x1024x1024.size i).toLoadRect hl) k) Q) := by
  subst ho; exact ld 𝒱₀ (hr := fun _ => rfl) (h := squeezes_S1x1024x1024_S1024x1024) (pl3 m d) rfl

/-- A store to a plane of a pair. -/
theorem stP (m : Memref sig .tc .vmem S2x1024x1024 e) (d : Fin 2) {o : Fin 3 → ℕ} (ho : o = ![d.val, 0, 0]) {i : ∀ a, o a + S1x1024x1024.size a ≤ S2x1024x1024.size a} {hx hm}
    {w : S1x1024x1024.Idx → Elt F e} {k : PUnit → PP F α} {v : S1024x1024.Idx → Elt F e} (w' : S1024x1024.Idx → Elt F e)
    (hw : w = shapeCast S1x1024x1024 w' (squeezes_S1x1024x1024_S1024x1024 : S1x1024x1024.Squeezes S1024x1024).numel_eq.symm) :
    (own' c (pl3 m d) fullShare v : sProp 𝕄) ⊢ iprop((own' c (pl3 m d) fullShare w' -∗ wpc 𝒱₀ c (k ⟨⟩) Q)
      -∗ wpc 𝒱₀ c (.op (.store m (Rect.unit (s := S2x1024x1024) o S1x1024x1024.size i) w Finset.univ hx hm) k) Q) := by
  subst ho; exact st 𝒱₀ (hr := fun _ => rfl) (h := squeezes_S1x1024x1024_S1024x1024) (pl3 m d) rfl w' hw

/-- A load of half a plane of a pair. -/
theorem ldH (m : Memref sig .tc .vmem S2x1024x1024 e) (d s : Fin 2) {o : Fin 3 → ℕ} (ho : o = ![d.val, 512 * s.val, 0]) {i : ∀ a, o a + S1x512x1024.size a ≤ S2x1024x1024.size a} {hl}
    {k : (S1x512x1024.Idx → Elt F e) → PP F α} {v : S512x1024.Idx → Elt F e} :
    (own' c (hf3 m d s) q v : sProp 𝕄) ⊢ iprop((own' c (hf3 m d s) q v -∗ wpc 𝒱₀ c (k (shapeCast S1x512x1024 v (squeezes_S1x512x1024_S512x1024 : S1x512x1024.Squeezes S512x1024).numel_eq.symm)) Q)
      -∗ wpc 𝒱₀ c (.op (.load m (Rect.unit (s := S2x1024x1024) o S1x512x1024.size i).toLoadRect hl) k) Q) := by
  subst ho; exact ld 𝒱₀ (hr := fun _ => rfl) (h := squeezes_S1x512x1024_S512x1024) (hf3 m d s) rfl

/-- A store to half a plane of a pair. -/
theorem stH (m : Memref sig .tc .vmem S2x1024x1024 e) (d s : Fin 2) {o : Fin 3 → ℕ} (ho : o = ![d.val, 512 * s.val, 0]) {i : ∀ a, o a + S1x512x1024.size a ≤ S2x1024x1024.size a} {hx hm}
    {w : S1x512x1024.Idx → Elt F e} {k : PUnit → PP F α} {v : S512x1024.Idx → Elt F e} (w' : S512x1024.Idx → Elt F e)
    (hw : w = shapeCast S1x512x1024 w' (squeezes_S1x512x1024_S512x1024 : S1x512x1024.Squeezes S512x1024).numel_eq.symm) :
    (own' c (hf3 m d s) fullShare v : sProp 𝕄) ⊢ iprop((own' c (hf3 m d s) fullShare w' -∗ wpc 𝒱₀ c (k ⟨⟩) Q)
      -∗ wpc 𝒱₀ c (.op (.store m (Rect.unit (s := S2x1024x1024) o S1x512x1024.size i) w Finset.univ hx hm) k) Q) := by
  subst ho; exact st 𝒱₀ (hr := fun _ => rfl) (h := squeezes_S1x512x1024_S512x1024) (hf3 m d s) rfl w' hw

/-- A load of a block of the send buffers. -/
theorem ldB (m : Memref sig .tc .vmem S2x2x1024x1024 e) (d t s : Fin 2) {o : Fin 4 → ℕ} (ho : o = ![d.val, t.val, 512 * s.val, 0]) {i : ∀ a, o a + S1x1x512x1024.size a ≤ S2x2x1024x1024.size a} {hl}
    {k : (S1x1x512x1024.Idx → Elt F e) → PP F α} {v : S512x1024.Idx → Elt F e} :
    (own' c (hf2 m d t s) q v : sProp 𝕄) ⊢ iprop((own' c (hf2 m d t s) q v -∗ wpc 𝒱₀ c (k (shapeCast S1x1x512x1024 v (squeezes_S1x1x512x1024_S512x1024 : S1x1x512x1024.Squeezes S512x1024).numel_eq.symm)) Q)
      -∗ wpc 𝒱₀ c (.op (.load m (Rect.unit (s := S2x2x1024x1024) o S1x1x512x1024.size i).toLoadRect hl) k) Q) := by
  subst ho; exact ld 𝒱₀ (hr := fun _ => rfl) (h := squeezes_S1x1x512x1024_S512x1024) (hf2 m d t s) rfl

/-- A store to a block of the send buffers. -/
theorem stB (m : Memref sig .tc .vmem S2x2x1024x1024 e) (d t s : Fin 2) {o : Fin 4 → ℕ} (ho : o = ![d.val, t.val, 512 * s.val, 0]) {i : ∀ a, o a + S1x1x512x1024.size a ≤ S2x2x1024x1024.size a} {hx hm}
    {w : S1x1x512x1024.Idx → Elt F e} {k : PUnit → PP F α} {v : S512x1024.Idx → Elt F e} (w' : S512x1024.Idx → Elt F e)
    (hw : w = shapeCast S1x1x512x1024 w' (squeezes_S1x1x512x1024_S512x1024 : S1x1x512x1024.Squeezes S512x1024).numel_eq.symm) :
    (own' c (hf2 m d t s) fullShare v : sProp 𝕄) ⊢ iprop((own' c (hf2 m d t s) fullShare w' -∗ wpc 𝒱₀ c (k ⟨⟩) Q)
      -∗ wpc 𝒱₀ c (.op (.store m (Rect.unit (s := S2x2x1024x1024) o S1x1x512x1024.size i) w Finset.univ hx hm) k) Q) := by
  subst ho; exact st 𝒱₀ (hr := fun _ => rfl) (h := squeezes_S1x1x512x1024_S512x1024) (hf2 m d t s) rfl w' hw

/-- A load of a block of the landing buffers. -/
theorem ldR (m : Memref sig .tc .vmem S2x3x1024x1024 e) (d : Fin 2) (t : Fin 3) (s : Fin 2) {o : Fin 4 → ℕ} (ho : o = ![d.val, t.val, 512 * s.val, 0]) {i : ∀ a, o a + S1x1x512x1024.size a ≤ S2x3x1024x1024.size a} {hl}
    {k : (S1x1x512x1024.Idx → Elt F e) → PP F α} {v : S512x1024.Idx → Elt F e} :
    (own' c (hf4 m d t s) q v : sProp 𝕄) ⊢ iprop((own' c (hf4 m d t s) q v -∗ wpc 𝒱₀ c (k (shapeCast S1x1x512x1024 v (squeezes_S1x1x512x1024_S512x1024 : S1x1x512x1024.Squeezes S512x1024).numel_eq.symm)) Q)
      -∗ wpc 𝒱₀ c (.op (.load m (Rect.unit (s := S2x3x1024x1024) o S1x1x512x1024.size i).toLoadRect hl) k) Q) := by
  subst ho; exact ld 𝒱₀ (hr := fun _ => rfl) (h := squeezes_S1x1x512x1024_S512x1024) (hf4 m d t s) rfl

/-- A store to a block of the landing buffers. -/
theorem stR (m : Memref sig .tc .vmem S2x3x1024x1024 e) (d : Fin 2) (t : Fin 3) (s : Fin 2) {o : Fin 4 → ℕ} (ho : o = ![d.val, t.val, 512 * s.val, 0]) {i : ∀ a, o a + S1x1x512x1024.size a ≤ S2x3x1024x1024.size a} {hx hm}
    {w : S1x1x512x1024.Idx → Elt F e} {k : PUnit → PP F α} {v : S512x1024.Idx → Elt F e} (w' : S512x1024.Idx → Elt F e)
    (hw : w = shapeCast S1x1x512x1024 w' (squeezes_S1x1x512x1024_S512x1024 : S1x1x512x1024.Squeezes S512x1024).numel_eq.symm) :
    (own' c (hf4 m d t s) fullShare v : sProp 𝕄) ⊢ iprop((own' c (hf4 m d t s) fullShare w' -∗ wpc 𝒱₀ c (k ⟨⟩) Q)
      -∗ wpc 𝒱₀ c (.op (.store m (Rect.unit (s := S2x3x1024x1024) o S1x1x512x1024.size i) w Finset.univ hx hm) k) Q) := by
  subst ho; exact st 𝒱₀ (hr := fun _ => rfl) (h := squeezes_S1x1x512x1024_S512x1024) (hf4 m d t s) rfl w' hw

/-- A load of a plane of the landing buffers. -/
theorem ldQ (m : Memref sig .tc .vmem S2x3x1024x1024 e) (d : Fin 2) (t : Fin 3) {o : Fin 4 → ℕ} (ho : o = ![d.val, t.val, 0, 0]) {i : ∀ a, o a + S1x1x1024x1024.size a ≤ S2x3x1024x1024.size a} {hl}
    {k : (S1x1x1024x1024.Idx → Elt F e) → PP F α} {v : S1024x1024.Idx → Elt F e} :
    (own' c (pl4 m d t) q v : sProp 𝕄) ⊢ iprop((own' c (pl4 m d t) q v -∗ wpc 𝒱₀ c (k (shapeCast S1x1x1024x1024 v (squeezes_plane : S1x1x1024x1024.Squeezes S1024x1024).numel_eq.symm)) Q)
      -∗ wpc 𝒱₀ c (.op (.load m (Rect.unit (s := S2x3x1024x1024) o S1x1x1024x1024.size i).toLoadRect hl) k) Q) := by
  subst ho; exact ld 𝒱₀ (hr := fun _ => rfl) (h := squeezes_plane) (pl4 m d t) rfl

/-- A store to a plane of the landing buffers. -/
theorem stQ (m : Memref sig .tc .vmem S2x3x1024x1024 e) (d : Fin 2) (t : Fin 3) {o : Fin 4 → ℕ} (ho : o = ![d.val, t.val, 0, 0]) {i : ∀ a, o a + S1x1x1024x1024.size a ≤ S2x3x1024x1024.size a} {hx hm}
    {w : S1x1x1024x1024.Idx → Elt F e} {k : PUnit → PP F α} {v : S1024x1024.Idx → Elt F e} (w' : S1024x1024.Idx → Elt F e)
    (hw : w = shapeCast S1x1x1024x1024 w' (squeezes_plane : S1x1x1024x1024.Squeezes S1024x1024).numel_eq.symm) :
    (own' c (pl4 m d t) fullShare v : sProp 𝕄) ⊢ iprop((own' c (pl4 m d t) fullShare w' -∗ wpc 𝒱₀ c (k ⟨⟩) Q)
      -∗ wpc 𝒱₀ c (.op (.store m (Rect.unit (s := S2x3x1024x1024) o S1x1x1024x1024.size i) w Finset.univ hx hm) k) Q) := by
  subst ho; exact st 𝒱₀ (hr := fun _ => rfl) (h := squeezes_plane) (pl4 m d t) rfl w' hw

/-- A load of a gathered block. -/
theorem ldA (m : Memref sig .tc .vmem S2x2x4x512x1024 e) (d s : Fin 2) (t : Fin 4) {o : Fin 5 → ℕ} (ho : o = ![d.val, s.val, t.val, 0, 0]) {i : ∀ a, o a + S1x1x1x512x1024.size a ≤ S2x2x4x512x1024.size a} {hl}
    {k : (S1x1x1x512x1024.Idx → Elt F e) → PP F α} {v : S512x1024.Idx → Elt F e} :
    (own' c (hf5 m d s t) q v : sProp 𝕄) ⊢ iprop((own' c (hf5 m d s t) q v -∗ wpc 𝒱₀ c (k (shapeCast S1x1x1x512x1024 v (squeezes_S1x1x1x512x1024_S512x1024 : S1x1x1x512x1024.Squeezes S512x1024).numel_eq.symm)) Q)
      -∗ wpc 𝒱₀ c (.op (.load m (Rect.unit (s := S2x2x4x512x1024) o S1x1x1x512x1024.size i).toLoadRect hl) k) Q) := by
  subst ho; exact ld 𝒱₀ (hr := fun _ => rfl) (h := squeezes_S1x1x1x512x1024_S512x1024) (hf5 m d s t) rfl

/-- A store to a gathered block. -/
theorem stA (m : Memref sig .tc .vmem S2x2x4x512x1024 e) (d s : Fin 2) (t : Fin 4) {o : Fin 5 → ℕ} (ho : o = ![d.val, s.val, t.val, 0, 0]) {i : ∀ a, o a + S1x1x1x512x1024.size a ≤ S2x2x4x512x1024.size a} {hx hm}
    {w : S1x1x1x512x1024.Idx → Elt F e} {k : PUnit → PP F α} {v : S512x1024.Idx → Elt F e} (w' : S512x1024.Idx → Elt F e)
    (hw : w = shapeCast S1x1x1x512x1024 w' (squeezes_S1x1x1x512x1024_S512x1024 : S1x1x1x512x1024.Squeezes S512x1024).numel_eq.symm) :
    (own' c (hf5 m d s t) fullShare v : sProp 𝕄) ⊢ iprop((own' c (hf5 m d s t) fullShare w' -∗ wpc 𝒱₀ c (k ⟨⟩) Q)
      -∗ wpc 𝒱₀ c (.op (.store m (Rect.unit (s := S2x2x4x512x1024) o S1x1x1x512x1024.size i) w Finset.univ hx hm) k) Q) := by
  subst ho; exact st 𝒱₀ (hr := fun _ => rfl) (h := squeezes_S1x1x1x512x1024_S512x1024) (hf5 m d s t) rfl w' hw

end

end Cert.KProof

end
-- ==== Proof.PhaseA.lean ====
module

public import proofs.«01_k».proof.Proof.Access

/-!
# First stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

/-- The position of device `c` in its ring, as the program computes it. -/
abbrev wd2 (c : Dev nD) : BitVec 32 := Scalar.remsi (Scalar.divsi (Dev.word c) 1#32) 4#32
/-- Its neighbour below. -/
abbrev wd5 (c : Dev nD) : BitVec 32 := Scalar.remsi (Scalar.subi (Scalar.addi (wd2 c) 4#32) 1#32) 4#32
/-- Its neighbour above. -/
abbrev wd7 (c : Dev nD) : BitVec 32 := Scalar.remsi (Scalar.addi (wd2 c) 1#32) 4#32

/-- A chunk of the activations, at any offsets equal to the chunk's. -/
theorem xM_eq (k : Fin 4) {off : Fin 2 → ℕ} (h : off = ![1024 * k.val, 0]) (i) (u) :
    (Memref.whole main_arg0).slice (Rect.unit (s := S4096x1024) off S1024x1024.size i) u = xM k := slice_congr _ h _ _ _ _

/-- A plane cut into its halves, each at some contents. -/
theorem some_halves {e : EltTy} (m : Memref sig .tc .vmem S2x1024x1024 e) (d : Fin 2) :
    (some' c (pl3 m d) : sProp 𝕄) ⊢ iprop(some' c (hf3 m d 0) ∗ some' c (hf3 m d 1)) := by
  iintro ⟨%v, H⟩
  ihave H := (halves3 m d fullShare v).1 $$ H
  icases H with ⟨H0, H1⟩
  isplitl [H0]
  · iexists _; iexact H0
  · iexists _; iexact H1

/-- Two halves of a plane joined. -/
theorem join_halves {e : EltTy} (m : Memref sig .tc .vmem S2x1024x1024 e) (d : Fin 2) (v : Fin 2 → S512x1024.Idx → Elt F e) :
    iprop(own' c (hf3 m d 0) fullShare (v 0) ∗ own' c (hf3 m d 1) fullShare (v 1)) ⊢ (own' c (pl3 m d) fullShare (vcat v) : sProp 𝕄) := by
  have h := (halves3 (c := c) m d fullShare (vcat v)).2
  rw [rows_vcat, rows_vcat] at h
  exact h

/-- Two halves of a plane at some contents are the plane at some contents. -/
theorem some_join {e : EltTy} (m : Memref sig .tc .vmem S2x1024x1024 e) (d : Fin 2) :
    iprop(some' c (hf3 m d 0) ∗ some' c (hf3 m d 1)) ⊢ (some' c (pl3 m d) : sProp 𝕄) := by
  iintro ⟨⟨%v0, H0⟩, ⟨%v1, H1⟩⟩
  iexists _
  iapply (join_halves m d ![v0, v1])
  isplitl [H0]; · iexact H0
  iexact H1

/-- Device `c`'s share of the activations' chunk that direction `d` uses at step `h`. -/
abbrev xq (d : Fin 2) : PosShare TreeShare := (![fullShare.left, fullShare.right] : Fin 2 → PosShare TreeShare) d
/-- The chunk of activations that a step of a direction reads. -/
abbrev xO (c : Dev nD) (d : Fin 2) (h : ℕ) : sProp 𝕄 := own' c (xM (rsc d h c)) (xq d) (xCh (F := F) (I.x c) (rsc d h c))
/-- The weights' half of direction `d`. -/
abbrev wO (c : Dev nD) (d : Fin 2) : sProp 𝕄 := own' c (wM d) fullShare (wCol (F := F) (I.w c) d)
/-- A local transfer's semaphore at rest. -/
abbrev zz (c : Dev nD) (j : DmaSem sig) : sProp 𝕄 := semVal ((c : Thread nD τ), (.dma j : SemLoc sig)) 0
/-- The scales, where the program reads them. -/
abbrev scO (c : Dev nD) : sProp 𝕄 :=
  iprop(own' c (Memref.whole cc0_stg0_0) fullShare (fun _ => I.sx c) ∗ own' c (Memref.whole cc0_stg1_0) fullShare (fun _ => I.sw c))

/-- The first stage: the weights are rounded, the first products made, the devices meet, and the first transfer starts. -/
theorem phA {k : Dev nD → BitVec 32 → BitVec 32 → BitVec 32 → F .f32 → PP F α} :
    iprop(Rec I K ∗ scO I c ∗ (wO I c 0 ∗ wO I c 1) ∗ (xO I c 0 0 ∗ xO I c 1 0) ∗ (zz c (48 : Fin 52) ∗ zz c (50 : Fin 52) ∗ zz c (2 : Fin 52) ∗ zz c (3 : Fin 52))
        ∗ (some' c (acM 0) ∗ some' c (acM 1)) ∗ (some' c (x32M 0) ∗ some' c (x32M 1)) ∗ (some' c (wbM 0) ∗ some' c (wbM 1))
        ∗ (some' c (xsM 0) ∗ some' c (xsM 1)) ∗ (some' c (sbM 0 0 0) ∗ some' c (sbM 1 0 0)) ∗ OW c 26 ∗ Start c)
      ⊢ iprop((scO I c -∗ wO I c 0 -∗ wO I c 1 -∗ xO I c 0 0 -∗ xO I c 1 0
          -∗ iprop(zz c (48 : Fin 52) ∗ zz c (50 : Fin 52) ∗ zz c (2 : Fin 52) ∗ zz c (3 : Fin 52))
          -∗ iprop(some' c (acM 0) ∗ some' c (acM 1)) -∗ iprop(some' c (x32M 0) ∗ some' c (x32M 1))
          -∗ own' c (wbM 0) fullShare (wb I c 0) -∗ own' c (wbM 1) fullShare (wb I c 1)
          -∗ own' c (xsM 0) fullShare (xb I c (rsc 0 0 c)) -∗ own' c (xsM 1) fullShare (xb I c (rsc 1 0 c))
          -∗ own' c (sbM 1 0 0) fullShare (SV I 0 1 0 c) -∗ Ring I c 1 0 0 -∗ semVal (barCell c) 0
          -∗ wpc 𝒱₀ c (k c (wd2 c) (wd5 c) (wd7 c) (scl I c)) Q)
        -∗ wpc 𝒱₀ c (pA k) Q : sProp 𝕄) := by
  unfold pA
  simp only [k0_part1_eq_skeleton, k0_part2_eq_skeleton, k0_part3_eq_skeleton, k0_part4_eq_skeleton, k0_part5_eq_skeleton,
    k0_part1_skel, k0_part2_skel, k0_part3_skel, k0_part4_skel, k0_part5_skel,
    smemLoad, smemLoadElt, semSignalWord, semWaitWord, Prog.lift, Prog.bind_op, Prog.bind_ret, Prog.pure_eq_ret, wp_deviceId]
  iintro ⟨#HR, ⟨C0, C1⟩, ⟨W0, W1⟩, ⟨X0, X1⟩, ⟨z48, z50, z2, z3⟩, ⟨⟨%a0, A0⟩, ⟨%a1, A1⟩⟩, ⟨⟨%y0, Y0⟩, ⟨%y1, Y1⟩⟩, ⟨⟨%b0, B0⟩, ⟨%b1, B1⟩⟩,
    ⟨⟨%p0, P0⟩, ⟨%p1, P1⟩⟩, ⟨⟨%s0, S0⟩, ⟨%s1, S1⟩⟩, HO, HS⟩ HQ
  iapply (lds 𝒱₀) $$ C0
  iintro C0
  iapply (lds 𝒱₀) $$ C1
  iintro C1
  iapply (dmaStart 𝒱₀ (wM 0) (acM 0) (48 : Fin 52) rfl rfl (by decide) (by decide)) $$ [W0 A0 z48]
  · isplitl [W0]; · iexact W0
    isplitl [A0]; · iexact A0
    iexact z48
  iintro F48
  iapply (dmaStart 𝒱₀ (wM 1) (acM 1) (50 : Fin 52) rfl rfl (by decide) (by decide)) $$ [W1 A1 z50]
  · isplitl [W1]; · iexact W1
    isplitl [A1]; · iexact A1
    iexact z50
  iintro F50
  iapply (dmaStart 𝒱₀ (xM (rsc 0 0 c)) (x32M 0) (2 : Fin 52) (xM_eq _ (by revert c; decide) _ _) rfl (by decide) (by decide)) $$ [X0 Y0 z2]
  · isplitl [X0]; · iexact X0
    isplitl [Y0]; · iexact Y0
    iexact z2
  iintro F2
  iapply (dmaStart 𝒱₀ (xM (rsc 1 0 c)) (x32M 1) (3 : Fin 52) (xM_eq _ (by revert c; decide) _ _) rfl (by decide) (by decide)) $$ [X1 Y1 z3]
  · isplitl [X1]; · iexact X1
    isplitl [Y1]; · iexact Y1
    iexact z3
  iintro F3
  iapply (lwait0 I 𝒱₀ K (48 : Fin 52) _ _ (by decide) rfl (by decide)) $$ [F48 HO]
  · isplitl [F48]; · iexact F48
    isplitr; · iexact HR
    iexact HO
  iintro ⟨A0, W0⟩ z48 HO
  iapply (ldP 𝒱₀ mAc 0 rfl) $$ A0
  iintro A0
  iapply (ld0 𝒱₀ (wbM 0) rfl) $$ B0
  iintro B0
  iapply (st0 𝒱₀ (wbM 0) rfl (wb I c 0) (by simp only [k0_pay2, shapeCast_self]; exact congrArg tr (shapeCast_shapeCast _ _ _))) $$ B0
  iintro B0
  iapply (lwait0 I 𝒱₀ K (50 : Fin 52) _ _ (by decide) rfl (by decide)) $$ [F50 HO]
  · isplitl [F50]; · iexact F50
    isplitr; · iexact HR
    iexact HO
  iintro ⟨A1, W1⟩ z50 HO
  iapply (ldP 𝒱₀ mAc 1 rfl) $$ A1
  iintro A1
  iapply (ld0 𝒱₀ (wbM 1) rfl) $$ B1
  iintro B1
  iapply (st0 𝒱₀ (wbM 1) rfl (wb I c 1) (by simp only [k0_pay3, shapeCast_self]; exact congrArg tr (shapeCast_shapeCast _ _ _))) $$ B1
  iintro B1
  iapply (lwait0 I 𝒱₀ K (2 : Fin 52) _ _ (by decide) rfl (by decide)) $$ [F2 HO]
  · isplitl [F2]; · iexact F2
    isplitr; · iexact HR
    iexact HO
  iintro ⟨Y0, X0⟩ z2 HO
  iapply (ldP 𝒱₀ mX32 0 rfl) $$ Y0
  iintro Y0
  iapply (ldP 𝒱₀ mXs 0 rfl) $$ P0
  iintro P0
  iapply (stP 𝒱₀ mXs 0 rfl (xb I c (rsc 0 0 c)) (by simp only [k0_pay4, shapeCast_shapeCast]; rfl)) $$ P0
  iintro P0
  ihave P0 := (halves3 _ 0 fullShare _).1 $$ P0
  icases P0 with ⟨P0, P0'⟩
  iapply (ldH 𝒱₀ mXs 0 0 rfl) $$ P0
  iintro P0
  iapply (ld0 𝒱₀ (wbM 0) rfl) $$ B0
  iintro B0
  ihave A0 := (halves3 _ 0 fullShare _).1 $$ A0
  icases A0 with ⟨A0, A0'⟩
  iapply (ldH 𝒱₀ mAc 0 0 rfl) $$ A0
  iintro A0
  iapply (stH 𝒱₀ mAc 0 0 rfl (mmh (rows 0 (xb I c (rsc 0 0 c))) (wb I c 0)) (by simp only [k0_pay5, shapeCast_shapeCast])) $$ A0
  iintro A0
  iapply (ldH 𝒱₀ mAc 0 0 rfl) $$ A0
  iintro A0
  iapply (ldB 𝒱₀ mSb 0 0 0 rfl) $$ S0
  iintro S0
  iapply (stB 𝒱₀ mSb 0 0 0 rfl (SV I 0 0 0 c) (by simp only [k0_pay6, k0_pay7, shapeCast_shapeCast]; rfl)) $$ S0
  iintro S0
  iapply (lwait0 I 𝒱₀ K (3 : Fin 52) _ _ (by decide) rfl (by decide)) $$ [F3 HO]
  · isplitl [F3]; · iexact F3
    isplitr; · iexact HR
    iexact HO
  iintro ⟨Y1, X1⟩ z3 HO
  iapply (ldP 𝒱₀ mX32 1 rfl) $$ Y1
  iintro Y1
  iapply (ldP 𝒱₀ mXs 1 rfl) $$ P1
  iintro P1
  iapply (stP 𝒱₀ mXs 1 rfl (xb I c (rsc 1 0 c)) (by simp only [k0_pay8, shapeCast_shapeCast]; rfl)) $$ P1
  iintro P1
  ihave P1 := (halves3 _ 1 fullShare _).1 $$ P1
  icases P1 with ⟨P1, P1'⟩
  iapply (ldH 𝒱₀ mXs 1 0 rfl) $$ P1
  iintro P1
  iapply (ld0 𝒱₀ (wbM 1) rfl) $$ B1
  iintro B1
  ihave A1 := (halves3 _ 1 fullShare _).1 $$ A1
  icases A1 with ⟨A1, A1'⟩
  iapply (ldH 𝒱₀ mAc 1 0 rfl) $$ A1
  iintro A1
  iapply (stH 𝒱₀ mAc 1 0 rfl (mmh (rows 0 (xb I c (rsc 1 0 c))) (wb I c 1)) (by simp only [k0_pay9, shapeCast_shapeCast])) $$ A1
  iintro A1
  iapply (ldH 𝒱₀ mAc 1 0 rfl) $$ A1
  iintro A1
  iapply (ldB 𝒱₀ mSb 1 0 0 rfl) $$ S1
  iintro S1
  iapply (stB 𝒱₀ mSb 1 0 0 rfl (SV I 0 1 0 c) (by simp only [k0_pay10, shapeCast_shapeCast]; rfl)) $$ S1
  iintro S1
  iapply (barrier I 𝒱₀ K (Fin.ext (k0_dev1_eq c)) (Fin.ext (k0_dev2_eq c))) $$ [HO HS]
  · isplitr; · iexact HR
    isplitl [HO]; · iexact HO
    iexact HS
  iintro HG zb
  iapply (send I 𝒱₀ K 0 (n := 0) (n1 := 1) (m := 0) (Fin.ext (k0_dev3_eq c)) rfl rfl (by decide) (by decide) rfl (by decide) (by decide) rfl) $$ [HG S0]
  · isplitr; · iexact HR
    isplitl [HG]; · iexact HG
    iexact S0
  iintro HG
  iapply HQ $$ [C0 C1] W0 W1 X0 X1 [z48 z50 z2 z3] [A0 A0' A1 A1'] [Y0 Y1] B0 B1 [P0 P0'] [P1 P1'] S1 HG zb
  · isplitl [C0]; · iexact C0
    iexact C1
  · isplitl [z48]; · iexact z48
    isplitl [z50]; · iexact z50
    isplitl [z2]; · iexact z2
    iexact z3
  · isplitl [A0 A0']
    · iapply (some_join _ 0)
      isplitl [A0]; · iexists _; iexact A0
      iexists _; iexact A0'
    · iapply (some_join _ 1)
      isplitl [A1]; · iexists _; iexact A1
      iexists _; iexact A1'
  · isplitl [Y0]; · iexists _; iexact Y0
    iexists _; iexact Y1
  · iapply (halves3 _ 0 fullShare _).2
    isplitl [P0]; · iexact P0
    iexact P0'
  · iapply (halves3 _ 1 fullShare _).2
    isplitl [P1]; · iexact P1
    iexact P1'

end

end Cert.KProof

end
-- ==== Proof.Seq.lean ====
module

public import proofs.«01_k».proof.Proof.PhaseA

/-!
# Recurring sequences

The product of a step, and the sum of a step, as the program makes them.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

variable {n m r : ℕ}

/-- The rounded weights, as a buffer. -/
abbrev mWb : Memref sig .tc .vmem S1024x2048 .bf16 := Memref.whole cc0_scratch0

/-- A load of half the rounded weights. -/
theorem ldW (d : Fin 2) {o : Fin 2 → ℕ} (ho : o = ![0, 1024 * d.val]) {i : ∀ a, o a + S1024x1024.size a ≤ S1024x2048.size a} {hl}
    {k : (S1024x1024.Idx → Elt F .bf16) → PP F α} {q : PosShare TreeShare} {v : S1024x1024.Idx → Elt F .bf16} :
    (own' c (wbM d) q v : sProp 𝕄) ⊢ iprop((own' c (wbM d) q v -∗ wpc 𝒱₀ c (k v) Q)
      -∗ wpc 𝒱₀ c (.op (.load mWb (Rect.unit (s := S1024x2048) o S1024x1024.size i).toLoadRect hl) k) Q) := by
  subst ho; exact ld0 𝒱₀ (m := mWb) (r := Rect.unit (s := S1024x2048) _ S1024x1024.size i) (hr := fun _ => rfl) (wbM d) rfl

/-- The piece of activations of direction `d`, step `h`, on its way to the staging plane. -/
abbrev xfl (c : Dev nD) (d : Fin 2) (h : ℕ) : sProp 𝕄 :=
  flight c ((![2, 3] : Fin 2 → Fin 52) d) (x32M d).view.dmaCredit iprop(own' c (x32M d) fullShare (xCh (F := F) (I.x c) (rsc d h c)) ∗ xO I c d h)

/-- The semaphores of the copies from the activations stand at the lowest level. -/
theorem lvj_x : ∀ d : Fin 2, lvj ((![2, 3] : Fin 2 → Fin 52) d) = 0 := by decide

/-- A piece of activations starts on its way. -/
theorem xStart (d : Fin 2) (h : ℕ) {o : Fin 2 → ℕ} (ho : o = ![1024 * (rsc d h c).val, 0]) {i : ∀ a, o a + S1024x1024.size a ≤ S4096x1024.size a} {u}
    {D : Memref sig .tc .vmem S1024x1024 .f32} (hD : D = x32M d) {sem : DmaSem sig} (hj : sem = (![2, 3] : Fin 2 → Fin 52) d) {hsrc hdst hsem}
    {k : PUnit → PP F α} :
    iprop(xO I c d h ∗ some' c (x32M d) ∗ zz c ((![2, 3] : Fin 2 → Fin 52) d))
      ⊢ iprop((xfl I c d h -∗ wpc 𝒱₀ c (k ⟨⟩) Q)
        -∗ wpc 𝒱₀ c (.op (.enqueueDma ((Memref.whole main_arg0).slice (Rect.unit (s := S4096x1024) o S1024x1024.size i) u) (.here D) (.dma sem) hsrc hdst hsem) k) Q : sProp 𝕄) := by
  iintro ⟨X, ⟨%y, Y⟩, z⟩ HQ
  iapply (dmaStart 𝒱₀ (xM (rsc d h c)) (x32M d) ((![2, 3] : Fin 2 → Fin 52) d) (xM_eq _ ho _ _) hD hj (by decide)) $$ [X Y z]
  · isplitl [X]; · iexact X
    isplitl [Y]; · iexact Y
    iexact z
  iintro H; iapply HQ; iexact H

/-- The product of step `h` of direction `d` is made of the rounded activations. -/
theorem prodB (d : Fin 2) (h : ℕ) {o4 o6 o7 : Fin 3 → ℕ} {o5 : Fin 2 → ℕ} {i4 i5 i6 i7 l4 l5 l6 x7 y7}
    {w2 : (S1x1024x1024.Idx → F .bf16) → (S1024x1024.Idx → F .bf16) → (S1x1024x1024.Idx → F .f32)} {k : PUnit → PP F α}
    {a : S1024x1024.Idx → F .f32}
    (h4 : o4 = ![d.val, 0, 0]) (h5 : o5 = ![0, 1024 * d.val])
    (h6 : o6 = ![d.val, 0, 0]) (h7 : o7 = ![d.val, 0, 0])
    (hw2 : ∀ u b, w2 u b = shapeCast S1x1024x1024 (mm (shapeCast S1024x1024 u shapeCasts_S1x1024x1024_S1024x1024) b) shapeCasts_S1024x1024_S1x1024x1024) :
    iprop(own' c (xsM d) fullShare (xb I c (rsc d h c)) ∗ own' c (wbM d) fullShare (wb I c d) ∗ own' c (acM d) fullShare a)
      ⊢ iprop((own' c (xsM d) fullShare (xb I c (rsc d h c))
          -∗ own' c (wbM d) fullShare (wb I c d) -∗ own' c (acM d) fullShare (pr I h d c) -∗ wpc 𝒱₀ c (k ⟨⟩) Q)
        -∗ wpc 𝒱₀ c (
          .op (.load mXs (Rect.unit (s := S2x1024x1024) o4 S1x1024x1024.size i4).toLoadRect l4) fun (u : Vec F S1x1024x1024 .bf16) =>
          .op (.load mWb (Rect.unit (s := S1024x2048) o5 S1024x1024.size i5).toLoadRect l5) fun (b : Vec F S1024x1024 .bf16) =>
          .op (.load mAc (Rect.unit (s := S2x1024x1024) o6 S1x1024x1024.size i6).toLoadRect l6) fun _ =>
          .op (.store mAc (Rect.unit (s := S2x1024x1024) o7 S1x1024x1024.size i7) (w2 u b) Finset.univ x7 y7) k) Q : sProp 𝕄) := by
  iintro ⟨P, B, A⟩ HQ
  iapply (ldP 𝒱₀ mXs d h4) $$ P
  iintro P
  iapply (ldW 𝒱₀ d h5) $$ B
  iintro B
  iapply (ldP 𝒱₀ mAc d h6) $$ A
  iintro A
  iapply (stP 𝒱₀ mAc d h7 (pr I h d c) (by rw [hw2]; simp only [shapeCast_shapeCast]; rfl)) $$ A
  iintro A
  iapply HQ $$ P B A

/-- A piece of activations arrives and is rounded. -/
theorem prodA (d : Fin 2) (h : ℕ) {sp : Space} {srcw : Memref sig .tc sp S1024x1024 .f32} {D : Memref sig .tc .vmem S1024x1024 .f32} {sem : DmaSem sig} {hsrc : srcw.view.WordExact} {hdst : D.view.WordExact}
    {o1 o2 o3 : Fin 3 → ℕ} {i1 i2 i3 l1 l2 x3 y3}
    {w1 : (S1x1024x1024.Idx → F .f32) → (S1x1024x1024.Idx → F .bf16)} {k : PUnit → PP F α} {p : S1024x1024.Idx → F .bf16}
    (hD : D = x32M d) (hj : sem = (![2, 3] : Fin 2 → Fin 52) d)
    (h1 : o1 = ![d.val, 0, 0]) (h2 : o2 = ![d.val, 0, 0]) (h3 : o3 = ![d.val, 0, 0])
    (hw1 : ∀ v, w1 v = shapeCast S1x1024x1024 (tr (shapeCast S1024x1024 v shapeCasts_S1x1024x1024_S1024x1024)) shapeCasts_S1024x1024_S1x1024x1024) :
    iprop(Rec I K ∗ xfl I c d h ∗ Ring I c n m r ∗ own' c (xsM d) fullShare p)
      ⊢ iprop((some' c (x32M d) -∗ xO I c d h -∗ zz c ((![2, 3] : Fin 2 → Fin 52) d) -∗ Ring I c n m r -∗ own' c (xsM d) fullShare (xb I c (rsc d h c)) -∗ wpc 𝒱₀ c (k ⟨⟩) Q)
        -∗ wpc 𝒱₀ c (.op (.waitDma2 sem srcw D hsrc hdst) fun _ =>
          .op (.load mX32 (Rect.unit (s := S2x1024x1024) o1 S1x1024x1024.size i1).toLoadRect l1) fun (v : Vec F S1x1024x1024 .f32) =>
          .op (.load mXs (Rect.unit (s := S2x1024x1024) o2 S1x1024x1024.size i2).toLoadRect l2) fun _ =>
          .op (.store mXs (Rect.unit (s := S2x1024x1024) o3 S1x1024x1024.size i3) (w1 v) Finset.univ x3 y3) k) Q : sProp 𝕄) := by
  iintro ⟨#HR, HF, HG, P⟩ HQ
  iapply (lwait I 𝒱₀ K _ _ _ hj (by rw [hD]) (lvj_x d)) $$ [HF HG]
  · isplitl [HF]; · iexact HF
    isplitr; · iexact HR
    iexact HG
  iintro ⟨Y, X⟩ z HG
  iapply (ldP 𝒱₀ mX32 d h1) $$ Y
  iintro Y
  iapply (ldP 𝒱₀ mXs d h2) $$ P
  iintro P
  iapply (stP 𝒱₀ mXs d h3 (xb I c (rsc d h c)) (by rw [hw1]; simp only [shapeCast_shapeCast]; rfl)) $$ P
  iintro P
  iapply HQ $$ [Y] X z HG P
  iexists _; iexact Y

/-- A piece of activations arrives, is rounded, and the product of step `h` of direction `d` is made. -/
theorem prods (d : Fin 2) (h : ℕ) {sp : Space} {srcw : Memref sig .tc sp S1024x1024 .f32} {D : Memref sig .tc .vmem S1024x1024 .f32} {sem : DmaSem sig} {hsrc : srcw.view.WordExact} {hdst : D.view.WordExact}
    {o1 o2 o3 o4 o6 o7 : Fin 3 → ℕ} {o5 : Fin 2 → ℕ} {i1 i2 i3 i4 i5 i6 i7 l1 l2 l4 l5 l6 x3 y3 x7 y7}
    {w1 : (S1x1024x1024.Idx → F .f32) → (S1x1024x1024.Idx → F .bf16)}
    {w2 : (S1x1024x1024.Idx → F .bf16) → (S1024x1024.Idx → F .bf16) → (S1x1024x1024.Idx → F .f32)} {k : PUnit → PP F α}
    {a : S1024x1024.Idx → F .f32} {p : S1024x1024.Idx → F .bf16}
    (hD : D = x32M d) (hj : sem = (![2, 3] : Fin 2 → Fin 52) d)
    (h1 : o1 = ![d.val, 0, 0]) (h2 : o2 = ![d.val, 0, 0]) (h3 : o3 = ![d.val, 0, 0]) (h4 : o4 = ![d.val, 0, 0]) (h5 : o5 = ![0, 1024 * d.val])
    (h6 : o6 = ![d.val, 0, 0]) (h7 : o7 = ![d.val, 0, 0])
    (hw1 : ∀ v, w1 v = shapeCast S1x1024x1024 (tr (shapeCast S1024x1024 v shapeCasts_S1x1024x1024_S1024x1024)) shapeCasts_S1024x1024_S1x1024x1024)
    (hw2 : ∀ u b, w2 u b = shapeCast S1x1024x1024 (mm (shapeCast S1024x1024 u shapeCasts_S1x1024x1024_S1024x1024) b) shapeCasts_S1024x1024_S1x1024x1024) :
    iprop(Rec I K ∗ xfl I c d h ∗ Ring I c n m r ∗ own' c (xsM d) fullShare p ∗ own' c (wbM d) fullShare (wb I c d) ∗ own' c (acM d) fullShare a)
      ⊢ iprop((some' c (x32M d) -∗ xO I c d h -∗ zz c ((![2, 3] : Fin 2 → Fin 52) d) -∗ Ring I c n m r -∗ own' c (xsM d) fullShare (xb I c (rsc d h c))
          -∗ own' c (wbM d) fullShare (wb I c d) -∗ own' c (acM d) fullShare (pr I h d c) -∗ wpc 𝒱₀ c (k ⟨⟩) Q)
        -∗ wpc 𝒱₀ c (.op (.waitDma2 sem srcw D hsrc hdst) fun _ =>
          .op (.load mX32 (Rect.unit (s := S2x1024x1024) o1 S1x1024x1024.size i1).toLoadRect l1) fun (v : Vec F S1x1024x1024 .f32) =>
          .op (.load mXs (Rect.unit (s := S2x1024x1024) o2 S1x1024x1024.size i2).toLoadRect l2) fun _ =>
          .op (.store mXs (Rect.unit (s := S2x1024x1024) o3 S1x1024x1024.size i3) (w1 v) Finset.univ x3 y3) fun _ =>
          .op (.load mXs (Rect.unit (s := S2x1024x1024) o4 S1x1024x1024.size i4).toLoadRect l4) fun (u : Vec F S1x1024x1024 .bf16) =>
          .op (.load mWb (Rect.unit (s := S1024x2048) o5 S1024x1024.size i5).toLoadRect l5) fun (b : Vec F S1024x1024 .bf16) =>
          .op (.load mAc (Rect.unit (s := S2x1024x1024) o6 S1x1024x1024.size i6).toLoadRect l6) fun _ =>
          .op (.store mAc (Rect.unit (s := S2x1024x1024) o7 S1x1024x1024.size i7) (w2 u b) Finset.univ x7 y7) k) Q : sProp 𝕄) := by
  iintro ⟨#HR, HF, HG, P, B, A⟩ HQ
  iapply (prodA I 𝒱₀ K d h hD hj h1 h2 h3 hw1) $$ [HF HG P]
  · isplitr; · iexact HR
    isplitl [HF]; · iexact HF
    isplitl [HG]; · iexact HG
    iexact P
  iintro Y X z HG P
  iapply (prodB I 𝒱₀ d h h4 h5 h6 h7 hw2) $$ [P B A]
  · isplitl [P]; · iexact P
    isplitl [B]; · iexact B
    iexact A
  iintro P B A
  iapply HQ $$ Y X z HG P B A

/-- A partial sum arrives, and the device's own product is added into the send buffer. -/
theorem sums (i : Fin 24) (d s t : Fin 2) (h : Fin 3) {r1 : ℕ} {sp : Space} {sh : Shape} {e : EltTy} {srcw : Memref sig .tc sp sh e} {D : Memref sig .tc .vmem S512x1024 .bf16} {sem : DmaSem sig} {hsrc : srcw.view.WordExact} {hdst : D.view.WordExact}
    {o1 : Fin 3 → ℕ} {o2 o3 o4 : Fin 4 → ℕ} {i1 i2 i3 i4 l1 l2 l3 x4 y4}
    {w : (S1x512x1024.Idx → F .f32) → (S1x1x512x1024.Idx → F .bf16) → (S1x1x512x1024.Idx → F .bf16)} {k : PUnit → PP F α}
    {a : S512x1024.Idx → F .f32} {b z : S512x1024.Idx → F .bf16}
    (hj : sem = rSem i) (hD : D.view.dmaCredit = NN) (hr : i.val = r) (hn : i.val / 4 < n / 4) (hr1 : r1 = r + 1)
    (hland : landM i c = rrM d h s) (hb : lvl I i c = b)
    (h1 : o1 = ![d.val, 512 * s.val, 0]) (h2 : o2 = ![d.val, h.val, 512 * s.val, 0]) (h3 : o3 = ![d.val, t.val, 512 * s.val, 0]) (h4 : o4 = ![d.val, t.val, 512 * s.val, 0])
    (hw : ∀ u v, w u v = shapeCast S1x1x512x1024 (tr (pls (shapeCast S512x1024 u shapeCasts_S1x512x1024_S512x1024) (shapeCast S512x1024 v shapeCasts_S1x1x512x1024_S512x1024)))
      shapeCasts_S512x1024_S1x1x512x1024) :
    iprop(Rec I K ∗ Ring I c n m r ∗ own' c (acH d s) fullShare a ∗ own' c (sbM d t s) fullShare z)
      ⊢ iprop((Ring I c n m r1 -∗ own' c (acH d s) fullShare a -∗ own' c (sbM d t s) fullShare (tr (pls a b)) -∗ some' c (rrM d h s) -∗ wpc 𝒱₀ c (k ⟨⟩) Q)
        -∗ wpc 𝒱₀ c (.op (.waitDma2 sem srcw D hsrc hdst) fun _ =>
          .op (.load mAc (Rect.unit (s := S2x1024x1024) o1 S1x512x1024.size i1).toLoadRect l1) fun (u : Vec F S1x512x1024 .f32) =>
          .op (.load mRr (Rect.unit (s := S2x3x1024x1024) o2 S1x1x512x1024.size i2).toLoadRect l2) fun (v : Vec F S1x1x512x1024 .bf16) =>
          .op (.load mSb (Rect.unit (s := S2x2x1024x1024) o3 S1x1x512x1024.size i3).toLoadRect l3) fun _ =>
          .op (.store mSb (Rect.unit (s := S2x2x1024x1024) o4 S1x1x512x1024.size i4) (w u v) Finset.univ x4 y4) k) Q : sProp 𝕄) := by
  iintro ⟨#HR, HG, A, Z⟩ HQ
  iapply (recv I 𝒱₀ K i (r1 := r1) hj hD hr hn hr1) $$ [HG]
  · isplitr; · iexact HR
    iexact HG
  iintro HG V
  rw [hland, hb]
  iapply (ldH 𝒱₀ mAc d s h1) $$ A
  iintro A
  iapply (ldR 𝒱₀ mRr d h s h2) $$ V
  iintro V
  iapply (ldB 𝒱₀ mSb d t s h3) $$ Z
  iintro Z
  iapply (stB 𝒱₀ mSb d t s h4 (tr (pls a b)) (by rw [hw]; simp only [shapeCast_shapeCast])) $$ Z
  iintro Z
  iapply HQ $$ HG A Z [V]
  iexists _; iexact V

end

end Cert.KProof

end
-- ==== Proof.Sends.lean ====
module

public import proofs.«01_k».proof.Proof.Seq

/-!
# The starts of the transfers

As the program names their blocks.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

variable {n m r n1 : ℕ}

/-- In the reduction a transfer reads a send block. -/
theorem srcM_lo (i : Fin 24) (d t s : Fin 2) (hi : i.val / 4 < 3) (hd : dd i = d) (hs : ss i = s) (ht : i.val / 4 % 2 = t.val) : srcM i c = sbM d t s := by
  subst hd hs
  obtain rfl : t = ⟨i.val / 4 % 2, Nat.mod_lt _ (by decide)⟩ := Fin.ext ht.symm
  exact if_pos hi
/-- In the reduction a transfer lands in a landing block. -/
theorem landM_lo (i : Fin 24) (d s : Fin 2) (h : Fin 3) (hi : i.val / 4 < 3) (hd : dd i = d) (hs : ss i = s) (hh : i.val / 4 % 3 = h.val) : landM i c = rrM d h s := by
  subst hd hs
  obtain rfl : h = ⟨i.val / 4 % 3, Nat.mod_lt _ (by decide)⟩ := Fin.ext hh.symm
  exact if_pos hi
/-- In the gathering a transfer reads a gathered block. -/
theorem srcM_hi (i : Fin 24) (d s : Fin 2) (a : ℕ) (hi : i.val / 4 = a + 3) (hd : dd i = d) (hs : ss i = s) : srcM i c = agM d s (sc d a c) := by
  subst hd hs
  obtain rfl : a = i.val / 4 - 3 := by omega
  exact if_neg (by omega)
/-- In the gathering a transfer lands in a gathered block. -/
theorem landM_hi (i : Fin 24) (d s : Fin 2) (a : ℕ) (hi : i.val / 4 = a + 3) (hd : dd i = d) (hs : ss i = s) : landM i c = agM d s (rsc d a c) := by
  subst hd hs
  obtain rfl : a = i.val / 4 - 3 := by omega
  exact if_neg (by omega)
/-- In the reduction the block that is sent is lent whole. -/
theorem shr_lo (i : Fin 24) (hi : i.val / 4 < 3) : shr i = fullShare := if_pos hi
/-- In the gathering half of the block that is sent is lent. -/
theorem shr_hi (i : Fin 24) (a : ℕ) (hi : i.val / 4 = a + 3) : shr i = fullShare.left := if_neg (by omega)
/-- In the reduction a partial sum is sent. -/
theorem sv_lo (i : Fin 24) (d s : Fin 2) (h : ℕ) (hi : i.val / 4 < 3) (hd : dd i = d) (hs : ss i = s) (hh : i.val / 4 = h) : sv I i c = SV I h d s c := by
  subst hd hs hh
  exact if_pos hi
/-- In the gathering a complete sum is sent. -/
theorem sv_hi (i : Fin 24) (d s : Fin 2) (a : ℕ) (hi : i.val / 4 = a + 3) (hd : dd i = d) (hs : ss i = s) : sv I i c = AV I d s (sc d a c) := by
  subst hd hs
  obtain rfl : a = i.val / 4 - 3 := by omega
  exact if_neg (by show ¬ i.val / 4 < 3; omega)

section Reduce

variable (i : Fin 24) (d t s : Fin 2) (h : Fin 3) {N : Dev nD} {o o' : Fin 4 → ℕ} {j u w j' u' w'} {sm sm' : DmaSem sig} {hsc hsrc hdst hsem} {k : PUnit → PP F α}

/-- The start of a transfer of a partial sum. -/
theorem sendB (hN : N = tgt d c) (ho : o = ![d.val, t.val, 512 * s.val, 0]) (ho' : o' = ![d.val, h.val, 512 * s.val, 0]) (hsm : sm = sSem i) (hsm' : sm' = rSem i)
    (hn : i.val = n) (hm : m ≤ i.val) (hi : i.val / 4 < 3) (hr : i.val / 4 ≠ 2) (hd : dd i = d) (hs : ss i = s) (ht : i.val / 4 % 2 = t.val) (hh : i.val / 4 = h.val) (hn1 : n1 = n + 1) :
    iprop(Rec I K ∗ Ring I c n m r ∗ own' c (sbM d t s) fullShare (SV I h.val d s c))
      ⊢ iprop((Ring I c n1 m r -∗ wpc 𝒱₀ c (k ⟨⟩) Q)
        -∗ wpc 𝒱₀ c (.op (.enqueueDma ((mSb.slice (Rect.unit (s := S2x2x1024x1024) o S1x1x512x1024.size j) u).squeeze S512x1024 w)
            (.remote (Dev.tc N : Thread nD τ) ((mRr.slice (Rect.unit (s := S2x3x1024x1024) o' S1x1x512x1024.size j') u').squeeze S512x1024 w') (.dma sm) hsc)
            (.dma sm') hsrc hdst hsem) k) Q : sProp 𝕄) := by
  subst ho ho' hN
  have e1 : srcM i c = sbM d t s := srcM_lo i d t s hi hd hs ht
  have e2 : landM i (tgt (dd i) c) = rrM d h s := landM_lo i d s h hi hd hs (by omega)
  have e3 := send I 𝒱₀ K (Q := Q) (n := n) (n1 := n1) (m := m) (r := r) i (s := sbM d t s) (d := rrM d h s) (N := tgt d c) (hsc := hsc) (hsrc := hsrc) (hdst := hdst) (hsem := hsem) (k := k)
    (by rw [hd]) e1.symm e2.symm hsm hsm' hn (by omega) hr hn1
  rw [e1, shr_lo i hi, sv_lo I i d s h.val hi hd hs hh] at e3
  exact e3

/-- The start of a transfer of the last partial sum, whose semaphore is in its second round. -/
theorem sendB2 (hN : N = tgt d c) (ho : o = ![d.val, t.val, 512 * s.val, 0]) (ho' : o' = ![d.val, h.val, 512 * s.val, 0]) (hsm : sm = sSem i) (hsm' : sm' = rSem i)
    (hn : i.val = n) (hm : m ≤ i.val) (hr : i.val / 4 = 2) (hd : dd i = d) (hs : ss i = s) (ht : i.val / 4 % 2 = t.val) (hh : i.val / 4 = h.val) (hn1 : n1 = n + 1) :
    iprop(Rec I K ∗ sec c i ∗ Ring I c n m r ∗ own' c (sbM d t s) fullShare (SV I h.val d s c))
      ⊢ iprop((sec c i -∗ Ring I c n1 m r -∗ wpc 𝒱₀ c (k ⟨⟩) Q)
        -∗ wpc 𝒱₀ c (.op (.enqueueDma ((mSb.slice (Rect.unit (s := S2x2x1024x1024) o S1x1x512x1024.size j) u).squeeze S512x1024 w)
            (.remote (Dev.tc N : Thread nD τ) ((mRr.slice (Rect.unit (s := S2x3x1024x1024) o' S1x1x512x1024.size j') u').squeeze S512x1024 w') (.dma sm) hsc)
            (.dma sm') hsrc hdst hsem) k) Q : sProp 𝕄) := by
  subst ho ho' hN
  have hi : i.val / 4 < 3 := by omega
  have e1 : srcM i c = sbM d t s := srcM_lo i d t s hi hd hs ht
  have e2 : landM i (tgt (dd i) c) = rrM d h s := landM_lo i d s h hi hd hs (by omega)
  have e3 := send2 I 𝒱₀ K (Q := Q) (n := n) (n1 := n1) (m := m) (r := r) i (s := sbM d t s) (d := rrM d h s) (N := tgt d c) (hsc := hsc) (hsrc := hsrc) (hdst := hdst) (hsem := hsem) (k := k)
    (by rw [hd]) e1.symm e2.symm hsm hsm' hn (by omega) hr hn1
  rw [e1, shr_lo i hi, sv_lo I i d s h.val hi hd hs hh] at e3
  exact e3

end Reduce

section Gather

variable (i : Fin 24) (d s : Fin 2) (a : ℕ) {N : Dev nD} {o o' : Fin 5 → ℕ} {j u w j' u' w'} {sm sm' : DmaSem sig} {hsc hsrc hdst hsem} {k : PUnit → PP F α}

/-- The chunk that lands on the device after is the one that is sent here. -/
theorem sc_tgt (d : Fin 2) (c : Dev nD) : rsc d 0 (tgt d c) = sc d 0 c ∧ rsc d 1 (tgt d c) = sc d 1 c ∧ rsc d 2 (tgt d c) = sc d 2 c := by revert d c; decide

/-- The start of a transfer of a complete sum: half of the block's share travels with it. -/
theorem sendG (hN : N = tgt d c) (ho : o = ![d.val, s.val, (sc d a c).val, 0, 0]) (ho' : o' = ![d.val, s.val, (sc d a c).val, 0, 0]) (hsm : sm = sSem i) (hsm' : sm' = rSem i)
    (hn : i.val = n) (hm : m ≤ i.val) (hi : i.val / 4 = a + 3) (hd : dd i = d) (hs : ss i = s) (hn1 : n1 = n + 1) :
    iprop(Rec I K ∗ Ring I c n m r ∗ own' c (agM d s (sc d a c)) fullShare (AV I d s (sc d a c)))
      ⊢ iprop((Ring I c n1 m r -∗ own' c (agM d s (sc d a c)) fullShare.right (AV I d s (sc d a c)) -∗ wpc 𝒱₀ c (k ⟨⟩) Q)
        -∗ wpc 𝒱₀ c (.op (.enqueueDma ((mAg.slice (Rect.unit (s := S2x2x4x512x1024) o S1x1x1x512x1024.size j) u).squeeze S512x1024 w)
            (.remote (Dev.tc N : Thread nD τ) ((mAg.slice (Rect.unit (s := S2x2x4x512x1024) o' S1x1x1x512x1024.size j') u').squeeze S512x1024 w') (.dma sm) hsc)
            (.dma sm') hsrc hdst hsem) k) Q : sProp 𝕄) := by
  subst ho ho' hN
  have ha : a = 0 ∨ a = 1 ∨ a = 2 := by have := i.isLt; omega
  have hrc : rsc d a (tgt d c) = sc d a c := by
    obtain ⟨h0, h1, h2⟩ := sc_tgt d c
    rcases ha with rfl | rfl | rfl
    · exact h0
    · exact h1
    · exact h2
  have e1 : srcM i c = agM d s (sc d a c) := srcM_hi i d s a hi hd hs
  have e2 : landM i (tgt (dd i) c) = agM d s (sc d a c) := by rw [landM_hi i d s a hi hd hs, hd, hrc]
  have e3 := send I 𝒱₀ K (Q := Q) (n := n) (n1 := n1) (m := m) (r := r) i (s := agM d s (sc d a c)) (d := agM d s (sc d a c)) (N := tgt d c) (hsc := hsc) (hsrc := hsrc) (hdst := hdst) (hsem := hsem) (k := k)
    (by rw [hd]) e1.symm e2.symm hsm hsm' hn (by omega) (by omega) hn1
  rw [e1, shr_hi i a hi, sv_hi I i d s a hi hd hs] at e3
  iintro ⟨HR, HG, H⟩ HQ
  ihave H := (own_split _ _) $$ H
  icases H with ⟨H1, H2⟩
  iapply e3 $$ [HR HG H1]
  · isplitl [HR]; · iexact HR
    isplitl [HG]; · iexact HG
    iexact H1
  iintro HG
  iapply HQ $$ HG H2

end Gather

end

end Cert.KProof

end
-- ==== Proof.PhaseB.lean ====
module

public import proofs.«01_k».proof.Proof.Sends

/-!
# The second stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 2000000 in
/-- The second stage: the other transfers of step 0 start, the products of step 1 are made, and the next activations are on their way. -/
theorem phB {k : PP F α} :
    iprop(Rec I K ∗ Ring I c 1 0 0 ∗ (own' c (wbM 0) fullShare (wb I c 0) ∗ own' c (wbM 1) fullShare (wb I c 1))
        ∗ (xO I c 0 1 ∗ xO I c 1 1 ∗ xO I c 0 2 ∗ xO I c 1 2) ∗ (zz c (2 : Fin 52) ∗ zz c (3 : Fin 52))
        ∗ (some' c (acM 0) ∗ some' c (acM 1)) ∗ (some' c (x32M 0) ∗ some' c (x32M 1))
        ∗ (own' c (xsM 0) fullShare (xb I c (rsc 0 0 c)) ∗ own' c (xsM 1) fullShare (xb I c (rsc 1 0 c)))
        ∗ own' c (sbM 1 0 0) fullShare (SV I 0 1 0 c) ∗ (some' c (sbM 0 0 1) ∗ some' c (sbM 1 0 1)))
      ⊢ iprop((Ring I c 4 0 0 -∗ own' c (wbM 0) fullShare (wb I c 0) -∗ own' c (wbM 1) fullShare (wb I c 1) -∗ xO I c 0 1 -∗ xO I c 1 1
          -∗ xfl I c 0 2 -∗ xfl I c 1 2 -∗ own' c (acM 0) fullShare (pr I 1 0 c) -∗ own' c (acM 1) fullShare (pr I 1 1 c)
          -∗ own' c (xsM 0) fullShare (xb I c (rsc 0 1 c)) -∗ own' c (xsM 1) fullShare (xb I c (rsc 1 1 c)) -∗ wpc 𝒱₀ c k Q)
        -∗ wpc 𝒱₀ c (pB c (wd2 c) (wd5 c) (wd7 c) k) Q : sProp 𝕄) := by
  unfold pB
  simp only [k0_part6_eq_skeleton, k0_part7_eq_skeleton, k0_part8_eq_skeleton, k0_part9_eq_skeleton, k0_part10_eq_skeleton,
    k0_part6_skel, k0_part7_skel, k0_part8_skel, k0_part9_skel, k0_part10_skel,
    smemLoad, smemLoadElt, semSignalWord, semWaitWord, Prog.lift, Prog.bind_op, Prog.bind_ret, Prog.pure_eq_ret, wp_deviceId]
  iintro ⟨#HR, HG, ⟨B0, B1⟩, ⟨X0, X1, X0', X1'⟩, ⟨z2, z3⟩, ⟨A0, A1⟩, ⟨Y0, Y1⟩, ⟨P0, P1⟩, S10, ⟨⟨%s01, S01⟩, ⟨%s11, S11⟩⟩⟩ HQ
  ihave P0 := (halves3 _ 0 fullShare _).1 $$ P0
  icases P0 with ⟨P0', P0⟩
  ihave P1 := (halves3 _ 1 fullShare _).1 $$ P1
  icases P1 with ⟨P1', P1⟩
  ihave A0 := (some_halves mAc 0) $$ A0
  icases A0 with ⟨A0', ⟨%a0, A0⟩⟩
  ihave A1 := (some_halves mAc 1) $$ A1
  icases A1 with ⟨A1', ⟨%a1, A1⟩⟩
  iapply (sendB I 𝒱₀ K (n := 1) (n1 := 2) (m := 0) (r := 0) 1 1 0 0 0 (Fin.ext (k0_dev4_eq c)) rfl rfl rfl rfl rfl (by decide) (by decide) (by decide) (by decide) (by decide) (by decide) (by decide) rfl) $$ [HG S10]
  · isplitr; · iexact HR
    isplitl [HG]; · iexact HG
    iexact S10
  iintro HG
  iapply (ldH 𝒱₀ mXs 0 1 rfl) $$ P0
  iintro P0
  iapply (ld0 𝒱₀ (wbM 0) rfl) $$ B0
  iintro B0
  iapply (ldH 𝒱₀ mAc 0 1 rfl) $$ A0
  iintro A0
  iapply (stH 𝒱₀ mAc 0 1 rfl (mmh (rows 1 (xb I c (rsc 0 0 c))) (wb I c 0)) (by simp only [k0_pay11, shapeCast_shapeCast])) $$ A0
  iintro A0
  iapply (ldH 𝒱₀ mAc 0 1 rfl) $$ A0
  iintro A0
  iapply (ldB 𝒱₀ mSb 0 0 1 rfl) $$ S01
  iintro S01
  iapply (stB 𝒱₀ mSb 0 0 1 rfl (SV I 0 0 1 c) (by simp only [k0_pay12, shapeCast_shapeCast]; rfl)) $$ S01
  iintro S01
  iapply (sendB I 𝒱₀ K (n := 2) (n1 := 3) (m := 0) (r := 0) 2 0 0 1 0 (Fin.ext (k0_dev5_eq c)) rfl rfl rfl rfl rfl (by decide) (by decide) (by decide) (by decide) (by decide) (by decide) (by decide) rfl) $$ [HG S01]
  · isplitr; · iexact HR
    isplitl [HG]; · iexact HG
    iexact S01
  iintro HG
  iapply (ldH 𝒱₀ mXs 1 1 rfl) $$ P1
  iintro P1
  iapply (ld0 𝒱₀ (wbM 1) rfl) $$ B1
  iintro B1
  iapply (ldH 𝒱₀ mAc 1 1 rfl) $$ A1
  iintro A1
  iapply (stH 𝒱₀ mAc 1 1 rfl (mmh (rows 1 (xb I c (rsc 1 0 c))) (wb I c 1)) (by simp only [k0_pay13, shapeCast_shapeCast])) $$ A1
  iintro A1
  iapply (ldH 𝒱₀ mAc 1 1 rfl) $$ A1
  iintro A1
  iapply (ldB 𝒱₀ mSb 1 0 1 rfl) $$ S11
  iintro S11
  iapply (stB 𝒱₀ mSb 1 0 1 rfl (SV I 0 1 1 c) (by simp only [k0_pay14, shapeCast_shapeCast]; rfl)) $$ S11
  iintro S11
  iapply (sendB I 𝒱₀ K (n := 3) (n1 := 4) (m := 0) (r := 0) 3 1 0 1 0 (Fin.ext (k0_dev6_eq c)) rfl rfl rfl rfl rfl (by decide) (by decide) (by decide) (by decide) (by decide) (by decide) (by decide) rfl) $$ [HG S11]
  · isplitr; · iexact HR
    isplitl [HG]; · iexact HG
    iexact S11
  iintro HG
  iapply (xStart I 𝒱₀ 0 1 (by revert c; decide) rfl (by decide)) $$ [X0 Y0 z2]
  · isplitl [X0]; · iexact X0
    isplitl [Y0]; · iexact Y0
    iexact z2
  iintro F2
  iapply (xStart I 𝒱₀ 1 1 (by revert c; decide) rfl (by decide)) $$ [X1 Y1 z3]
  · isplitl [X1]; · iexact X1
    isplitl [Y1]; · iexact Y1
    iexact z3
  iintro F3
  ihave P0 := (halves3 mXs 0 fullShare (xb I c (rsc 0 0 c))).2 $$ [P0' P0]
  · isplitl [P0']; · iexact P0'
    iexact P0
  ihave A0 := (some_join mAc 0) $$ [A0' A0]
  · isplitl [A0']; · iexact A0'
    iexists _; iexact A0
  icases A0 with ⟨%a0', A0⟩
  ihave P1 := (halves3 mXs 1 fullShare (xb I c (rsc 1 0 c))).2 $$ [P1' P1]
  · isplitl [P1']; · iexact P1'
    iexact P1
  ihave A1 := (some_join mAc 1) $$ [A1' A1]
  · isplitl [A1']; · iexact A1'
    iexists _; iexact A1
  icases A1 with ⟨%a1', A1⟩
  iapply (prods I 𝒱₀ K 0 1 rfl (by decide) rfl rfl rfl rfl rfl rfl rfl (fun v => by simp only [k0_pay15, k0_pay16]) (fun u b => by simp only [k0_pay17])) $$ [F2 HG P0 B0 A0]
  · isplitr; · iexact HR
    isplitl [F2]; · iexact F2
    isplitl [HG]; · iexact HG
    isplitl [P0]; · iexact P0
    isplitl [B0]; · iexact B0
    iexact A0
  iintro Y0 X0 z2 HG P0 B0 A0
  iapply (prods I 𝒱₀ K 1 1 rfl (by decide) rfl rfl rfl rfl rfl rfl rfl (fun v => by simp only [k0_pay18]) (fun u b => by simp only [k0_pay19, k0_pay20])) $$ [F3 HG P1 B1 A1]
  · isplitr; · iexact HR
    isplitl [F3]; · iexact F3
    isplitl [HG]; · iexact HG
    isplitl [P1]; · iexact P1
    isplitl [B1]; · iexact B1
    iexact A1
  iintro Y1 X1 z3 HG P1 B1 A1
  iapply (xStart I 𝒱₀ 0 2 (by revert c; decide) rfl (by decide)) $$ [X0' Y0 z2]
  · isplitl [X0']; · iexact X0'
    isplitl [Y0]; · iexact Y0
    iexact z2
  iintro F2
  iapply (xStart I 𝒱₀ 1 2 (by revert c; decide) rfl (by decide)) $$ [X1' Y1 z3]
  · isplitl [X1']; · iexact X1'
    isplitl [Y1]; · iexact Y1
    iexact z3
  iintro F3
  iapply HQ $$ HG B0 B1 X0 X1 F2 F3 A0 A1 P0 P1

end

end Cert.KProof

end
-- ==== Proof.Gather.lean ====
module

public import proofs.«01_k».proof.Proof.Sends

/-!
# Steps of the gathering

Arrivals, choices of a chunk, and the transfers of the result.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

variable {n m r : ℕ}

/-! ### The chunks of the gathering -/

/-- The chunk that a device sends first in the gathering is the one that it completed. -/
theorem sc_zero (d : Fin 2) (c : Dev nD) : rsc d 3 c = sc d 0 c ∧ owner d (sc d 0 c) = c := by revert d c; decide
/-- The chunk that the device before sends is the one that is sent next here. -/
theorem sc_src (d : Fin 2) (c : Dev nD) : (sc d 0 (src d c) = sc d 1 c ∧ sc d 1 (src d c) = sc d 2 c) ∧ sc d 2 (src d c) = sc d 3 c := by revert d c; decide
/-- The chunk that lands at a gathering step is the one that is sent at the next. -/
theorem sc_rsc (d : Fin 2) (c : Dev nD) : (rsc d 0 c = sc d 1 c ∧ rsc d 1 c = sc d 2 c) ∧ rsc d 2 c = sc d 3 c := by revert d c; decide

/-- The same at a step given by its number. -/
theorem sc_src' (d : Fin 2) (a : ℕ) (ha : a < 3) (c : Dev nD) : sc d a (src d c) = sc d (a + 1) c := by
  obtain ⟨⟨h0, h1⟩, h2⟩ := sc_src d c
  rcases (show a = 0 ∨ a = 1 ∨ a = 2 by omega) with rfl | rfl | rfl
  · exact h0
  · exact h1
  · exact h2
/-- The same at a step given by its number. -/
theorem sc_rsc' (d : Fin 2) (a : ℕ) (ha : a < 3) (c : Dev nD) : rsc d a c = sc d (a + 1) c := by
  obtain ⟨⟨h0, h1⟩, h2⟩ := sc_rsc d c
  rcases (show a = 0 ∨ a = 1 ∨ a = 2 by omega) with rfl | rfl | rfl
  · exact h0
  · exact h1
  · exact h2

/-- The last partial sum of a direction is the complete sum of the device's own chunk. -/
theorem AV_own (d s : Fin 2) (c : Dev nD) : AV I d s (sc d 0 c) = SV I 3 d s c := by unfold AV; rw [(sc_zero d c).2]

/-- What arrives in the first half of the transfers. -/
theorem lvl_lo (i : Fin 24) (d s : Fin 2) (h : ℕ) (hi : i.val / 4 < 3) (hd : dd i = d) (hs : ss i = s) (hh : i.val / 4 = h) : lvl I i c = SV I h d s (src d c) := by
  subst hd hs hh
  exact if_pos hi
/-- What arrives in the second half. -/
theorem lvl_hi (i : Fin 24) (d s : Fin 2) (a : ℕ) (hi : i.val / 4 = a + 3) (hd : dd i = d) (hs : ss i = s) : lvl I i c = AV I d s (sc d (a + 1) c) := by
  subst hd hs
  have ha : a < 3 := by have := i.isLt; omega
  obtain rfl : a = i.val / 4 - 3 := by omega
  rw [← sc_src' _ _ ha]
  exact if_neg (by show ¬ i.val / 4 < 3; omega)

/-! ### Arrivals -/

/-- An arriving partial sum. -/
theorem recvR (i : Fin 24) (d s : Fin 2) (h : Fin 3) {r1 : ℕ} {sp : Space} {sh : Shape} {e : EltTy} {S : Memref sig .tc sp sh e} {D : Memref sig .tc .vmem S512x1024 .bf16} {sm : DmaSem sig}
    {hsrc : S.view.WordExact} {hdst : D.view.WordExact} {k : PUnit → PP F α}
    (hsm : sm = rSem i) (hD : D.view.dmaCredit = NN) (hr : i.val = r) (hn : i.val / 4 < n / 4) (hi : i.val / 4 < 3) (hd : dd i = d) (hs : ss i = s) (hh : i.val / 4 = h.val) (hr1 : r1 = r + 1) :
    iprop(Rec I K ∗ Ring I c n m r)
      ⊢ iprop((Ring I c n m r1 -∗ own' c (rrM d h s) fullShare (SV I h.val d s (src d c)) -∗ wpc 𝒱₀ c (k ⟨⟩) Q)
        -∗ wpc 𝒱₀ c (.op (.waitDma2 sm S D hsrc hdst) k) Q : sProp 𝕄) := by
  have e := recv I 𝒱₀ K (Q := Q) (n := n) (m := m) (r := r) (c := c) (r1 := r1) (k := k) (hsrc := hsrc) (hdst := hdst) i hsm hD hr hn hr1
  rw [landM_lo i d s h hi hd hs (by omega), lvl_lo I i d s h.val hi hd hs hh] at e
  exact e

/-- An arriving complete sum. -/
theorem recvG (i : Fin 24) (d s : Fin 2) (a : ℕ) {r1 : ℕ} {sp : Space} {sh : Shape} {e : EltTy} {S : Memref sig .tc sp sh e} {D : Memref sig .tc .vmem S512x1024 .bf16} {sm : DmaSem sig}
    {hsrc : S.view.WordExact} {hdst : D.view.WordExact} {k : PUnit → PP F α}
    (hsm : sm = rSem i) (hD : D.view.dmaCredit = NN) (hr : i.val = r) (hn : i.val / 4 < n / 4) (hi : i.val / 4 = a + 3) (hd : dd i = d) (hs : ss i = s) (hr1 : r1 = r + 1) :
    iprop(Rec I K ∗ Ring I c n m r)
      ⊢ iprop((Ring I c n m r1 -∗ own' c (agM d s (sc d (a + 1) c)) fullShare (AV I d s (sc d (a + 1) c)) -∗ wpc 𝒱₀ c (k ⟨⟩) Q)
        -∗ wpc 𝒱₀ c (.op (.waitDma2 sm S D hsrc hdst) k) Q : sProp 𝕄) := by
  have ha : a < 3 := by have := i.isLt; omega
  have e := recv I 𝒱₀ K (Q := Q) (n := n) (m := m) (r := r) (c := c) (r1 := r1) (k := k) (hsrc := hsrc) (hdst := hdst) i hsm hD hr hn hr1
  rw [landM_hi i d s a hi hd hs, lvl_hi I i d s a hi hd hs, sc_rsc' d a ha] at e
  exact e

/-- A partial sum arrives, and with the device's own product it makes the next. -/
theorem sumsV (i : Fin 24) (d s t : Fin 2) (h : Fin 3) (g : ℕ) {r1 : ℕ} {sp : Space} {sh : Shape} {e : EltTy} {srcw : Memref sig .tc sp sh e} {D : Memref sig .tc .vmem S512x1024 .bf16} {sem : DmaSem sig} {hsrc : srcw.view.WordExact} {hdst : D.view.WordExact}
    {o1 : Fin 3 → ℕ} {o2 o3 o4 : Fin 4 → ℕ} {i1 i2 i3 i4 l1 l2 l3 x4 y4}
    {w : (S1x512x1024.Idx → F .f32) → (S1x1x512x1024.Idx → F .bf16) → (S1x1x512x1024.Idx → F .bf16)} {k : PUnit → PP F α}
    (hj : sem = rSem i) (hD : D.view.dmaCredit = NN) (hr : i.val = r) (hn : i.val / 4 < n / 4) (hr1 : r1 = r + 1)
    (hi : i.val / 4 < 3) (hd : dd i = d) (hs : ss i = s) (hh : i.val / 4 = h.val) (hg : g = h.val + 1)
    (h1 : o1 = ![d.val, 512 * s.val, 0]) (h2 : o2 = ![d.val, h.val, 512 * s.val, 0]) (h3 : o3 = ![d.val, t.val, 512 * s.val, 0]) (h4 : o4 = ![d.val, t.val, 512 * s.val, 0])
    (hw : ∀ u v, w u v = shapeCast S1x1x512x1024 (tr (pls (shapeCast S512x1024 u shapeCasts_S1x512x1024_S512x1024) (shapeCast S512x1024 v shapeCasts_S1x1x512x1024_S512x1024)))
      shapeCasts_S512x1024_S1x1x512x1024) :
    iprop(Rec I K ∗ Ring I c n m r ∗ own' c (acH d s) fullShare (rows s (pr I g d c)) ∗ some' c (sbM d t s))
      ⊢ iprop((Ring I c n m r1 -∗ own' c (acH d s) fullShare (rows s (pr I g d c)) -∗ own' c (sbM d t s) fullShare (SV I g d s c) -∗ some' c (rrM d h s) -∗ wpc 𝒱₀ c (k ⟨⟩) Q)
        -∗ wpc 𝒱₀ c (.op (.waitDma2 sem srcw D hsrc hdst) fun _ =>
          .op (.load mAc (Rect.unit (s := S2x1024x1024) o1 S1x512x1024.size i1).toLoadRect l1) fun (u : Vec F S1x512x1024 .f32) =>
          .op (.load mRr (Rect.unit (s := S2x3x1024x1024) o2 S1x1x512x1024.size i2).toLoadRect l2) fun (v : Vec F S1x1x512x1024 .bf16) =>
          .op (.load mSb (Rect.unit (s := S2x2x1024x1024) o3 S1x1x512x1024.size i3).toLoadRect l3) fun _ =>
          .op (.store mSb (Rect.unit (s := S2x2x1024x1024) o4 S1x1x512x1024.size i4) (w u v) Finset.univ x4 y4) k) Q : sProp 𝕄) := by
  subst hg
  rw [show SV I (h.val + 1) d s c = tr (pls (rows s (pr I (h.val + 1) d c)) (SV I h.val d s (src d c))) from rfl]
  iintro ⟨#HR, HG, A, ⟨%z, Z⟩⟩ HQ
  iapply (sums I 𝒱₀ K (c := c) (Q := Q) (n := n) (m := m) (r := r) (r1 := r1) (a := rows s (pr I (h.val + 1) d c)) (z := z) (k := k) i d s t h hj hD hr hn hr1 (landM_lo i d s h hi hd hs (by omega))
    (lvl_lo I i d s h.val hi hd hs hh) h1 h2 h3 h4 hw) $$ [HG A Z]
  · isplitr; · iexact HR
    isplitl [HG]; · iexact HG
    isplitl [A]; · iexact A
    iexact Z
  iintro HG A Z V
  iapply HQ $$ HG A Z V

/-- The wait for the end of a transfer of step 0: its block is free again. -/
theorem swaitA' (i : Fin 24) (d s : Fin 2) {m1 : ℕ} {sp : Space} {sh : Shape} {e : EltTy} {S : Memref sig .tc sp sh e} {D : Memref sig .tc .vmem S512x1024 .bf16} {sm : DmaSem sig}
    {hsrc : S.view.WordExact} {hdst : D.view.WordExact} {k : PUnit → PP F α} (i2 : Fin 24)
    (hsm : sm = sSem i) (hD : D.view.dmaCredit = NN) (hr : i.val = m) (hn : m < n) (hi : i.val / 4 = 0) (h2 : sSem i2 = sSem i) (hd : dd i = d) (hs : ss i = s) (hm1 : m1 = m + 1) :
    iprop(Rec I K ∗ Ring I c n m r)
      ⊢ iprop((Ring I c n m1 r -∗ some' c (sbM d 0 s) -∗ sec c i2 -∗ wpc 𝒱₀ c (k ⟨⟩) Q)
        -∗ wpc 𝒱₀ c (.op (.waitDma2 sm S D hsrc hdst) k) Q : sProp 𝕄) := by
  iintro ⟨#HR, HG⟩ HQ
  iapply (swaitA I 𝒱₀ K (c := c) (Q := Q) (n := n) (m := m) (r := r) (m1 := m1) (k := k) i i2 hsm hD hr hn hi h2 hm1) $$ [HG]
  · isplitr; · iexact HR
    iexact HG
  iintro HG H E
  rw [srcM_lo i d 0 s (by omega) hd hs (by rw [hi]; rfl), shr_lo i (by omega)]
  iapply HQ $$ HG [H] E
  iexists _; iexact H

/-! ### Choices -/

/-- A stage in its own right, before what follows it. -/
theorem bindW {β : Type} {p : PP F β} {k : β → PP F α} : wpc 𝒱₀ c p (fun a => wpc 𝒱₀ c (k a) Q) ⊢ (wpc 𝒱₀ c (p >>= k) Q : sProp 𝕄) := by
  unfold wpc; rw [wp_bind]

/-- The end of a stage. -/
theorem retW {a : α} : Q a ⊢ (wpc 𝒱₀ c (.ret a) Q : sProp 𝕄) := by
  unfold wpc; rw [wp_ret]; exact fupd_intro

/-- What a block holds when the first `j` of four choices have been tried for chunk `κ`. -/
abbrev upTo {β : Type} (κ : Fin 4) (j : ℕ) (v z : β) : β := if κ.val < j then v else z

/-- One choice of the chunk, when a complete sum is put in its place. -/
theorem ifA (d s : Fin 2) (κ k : Fin 4) {j j1 : ℕ} (hj : k.val = j) (hj1 : j1 = j + 1) {g : BitVec 1} (hg : g = 1#1 ↔ κ = k) {o o' : Fin 5 → ℕ} {i i' l x y} {w : S1x1x1x512x1024.Idx → F .bf16} {J : PUnit → PP F α}
    {v z : S512x1024.Idx → F .bf16}
    (ho : o = ![d.val, s.val, k.val, 0, 0]) (ho' : o' = ![d.val, s.val, k.val, 0, 0])
    (hw : w = shapeCast S1x1x1x512x1024 v (squeezes_S1x1x1x512x1024_S512x1024 : S1x1x1x512x1024.Squeezes S512x1024).numel_eq.symm) :
    (own' c (agM d s κ) fullShare (upTo κ j v z) : sProp 𝕄)
      ⊢ iprop((own' c (agM d s κ) fullShare (upTo κ j1 v z) -∗ wpc 𝒱₀ c (J ⟨⟩) Q)
        -∗ wpc 𝒱₀ c (if h : g = 1#1 then
            (.op (.load mAg (Rect.unit (s := S2x2x4x512x1024) o S1x1x1x512x1024.size i).toLoadRect l) fun (_ : Vec F S1x1x1x512x1024 .bf16) =>
              .op (.store mAg (Rect.unit (s := S2x2x4x512x1024) o' S1x1x1x512x1024.size i') w Finset.univ x y) J)
          else J ⟨⟩) Q) := by
  subst hj hj1
  by_cases h : κ = k
  · subst h
    rw [dif_pos (hg.2 rfl)]
    unfold upTo
    rw [if_neg (lt_irrefl _), if_pos (Nat.lt_succ_self _)]
    iintro H HQ
    iapply (ldA 𝒱₀ mAg d s κ ho) $$ H
    iintro H
    iapply (stA 𝒱₀ mAg d s κ ho' v hw) $$ H
    iexact HQ
  · rw [dif_neg (fun e => h (hg.1 e))]
    have e : (upTo κ (k.val + 1) v z) = upTo κ k.val v z := by
      have h' : κ.val ≠ k.val := fun e => h (Fin.ext e)
      unfold upTo
      by_cases h1 : κ.val < k.val
      · rw [if_pos h1, if_pos (by omega)]
      · rw [if_neg h1, if_neg (by omega)]
    rw [e]
    iintro H HQ
    iapply HQ; iexact H

/-- One choice of the chunk, when the result is made from a complete sum. -/
theorem ifG (d s : Fin 2) (κ k : Fin 4) {j j1 : ℕ} (hj : k.val = j) (hj1 : j1 = j + 1) {g : BitVec 1} (hg : g = 1#1 ↔ κ = k) {o : Fin 5 → ℕ} {o1 o2 : Fin 3 → ℕ} {i i1 i2 l l1 x y}
    {w : (S1x1x1x512x1024.Idx → F .bf16) → S1x512x1024.Idx → F .f32} {J : PUnit → PP F α}
    {q : PosShare TreeShare} {u : S512x1024.Idx → F .bf16} {v z : S512x1024.Idx → F .f32}
    (ho : o = ![d.val, s.val, k.val, 0, 0]) (ho1 : o1 = ![d.val, 512 * s.val, 0]) (ho2 : o2 = ![d.val, 512 * s.val, 0])
    (hw : w (shapeCast S1x1x1x512x1024 u (squeezes_S1x1x1x512x1024_S512x1024 : S1x1x1x512x1024.Squeezes S512x1024).numel_eq.symm)
      = shapeCast S1x512x1024 v (squeezes_S1x512x1024_S512x1024 : S1x512x1024.Squeezes S512x1024).numel_eq.symm) :
    iprop(own' c (agM d s κ) q u ∗ own' c (acH d s) fullShare (upTo κ j v z))
      ⊢ iprop((own' c (agM d s κ) q u -∗ own' c (acH d s) fullShare (upTo κ j1 v z) -∗ wpc 𝒱₀ c (J ⟨⟩) Q)
        -∗ wpc 𝒱₀ c (if h : g = 1#1 then
            (.op (.load mAg (Rect.unit (s := S2x2x4x512x1024) o S1x1x1x512x1024.size i).toLoadRect l) fun (a : Vec F S1x1x1x512x1024 .bf16) =>
              .op (.load mAc (Rect.unit (s := S2x1024x1024) o1 S1x512x1024.size i1).toLoadRect l1) fun (_ : Vec F S1x512x1024 .f32) =>
              .op (.store mAc (Rect.unit (s := S2x1024x1024) o2 S1x512x1024.size i2) (w a) Finset.univ x y) J)
          else J ⟨⟩) Q : sProp 𝕄) := by
  subst hj hj1
  by_cases h : κ = k
  · subst h
    rw [dif_pos (hg.2 rfl)]
    unfold upTo
    rw [if_neg (lt_irrefl _), if_pos (Nat.lt_succ_self _)]
    iintro ⟨H, A⟩ HQ
    iapply (ldA 𝒱₀ mAg d s κ ho) $$ H
    iintro H
    iapply (ldH 𝒱₀ mAc d s ho1) $$ A
    iintro A
    iapply (stH 𝒱₀ mAc d s ho2 v hw) $$ A
    iintro A
    iapply HQ $$ H A
  · rw [dif_neg (fun e => h (hg.1 e))]
    have e : (upTo κ (k.val + 1) v z) = upTo κ k.val v z := by
      have h' : κ.val ≠ k.val := fun e => h (Fin.ext e)
      unfold upTo
      by_cases h1 : κ.val < k.val
      · rw [if_pos h1, if_pos (by omega)]
      · rw [if_neg h1, if_neg (by omega)]
    rw [e]
    iintro ⟨H, A⟩ HQ
    iapply HQ $$ H A

/-- Four choices make one. -/
theorem upTo_four {β : Type} (κ : Fin 4) (v z : β) : upTo κ 4 v z = v := if_pos κ.isLt

/-- Before any of the four choices has been tried, a block may hold anything. -/
theorem up0 {s : Shape} {e : EltTy} {sp : Space} (M : Memref sig .tc sp s e) (κ : Fin 4) (v : s.Idx → Elt F e) :
    (some' c M : sProp 𝕄) ⊢ iprop(∃ z, own' c M fullShare (upTo κ 0 v z)) := by
  iintro ⟨%z, H⟩
  iexists z
  unfold upTo
  rw [if_neg (Nat.not_lt_zero _)]
  iexact H
/-- Once all four choices have been tried, the block holds the value. -/
theorem up4 {s : Shape} {e : EltTy} {sp : Space} (M : Memref sig .tc sp s e) (κ : Fin 4) {v z : s.Idx → Elt F e} :
    (own' c M fullShare (upTo κ 4 v z) : sProp 𝕄) ⊢ own' c M fullShare v := by
  rw [upTo_four]

/-- The last arrivals of the reduction, as one plane. -/
theorem joinR (d : Fin 2) : iprop(own' c (rrM d 2 0) fullShare (SV I 2 d 0 (src d c)) ∗ own' c (rrM d 2 1) fullShare (SV I 2 d 1 (src d c)))
    ⊢ (own' c (rrP d 2) fullShare (vcat fun s => lval I d 2 s c) : sProp 𝕄) := by
  have h := (halves4 (c := c) mRr d 2 fullShare (vcat fun s => lval I d 2 s c)).2
  rw [rows_vcat, rows_vcat] at h
  exact h

/-- The last landing of the reduction, as the transfer names it and as the sum reads it. -/
theorem castV (d s : Fin 2) : (own' c (hf4 mRr d 2 s) fullShare (SV I (2 : Fin 3).val d s (src d c)) : sProp 𝕄) ⊢ own' c (rrM d 2 s) fullShare (SV I 2 d s (src d c)) := BIBase.Entails.rfl

/-! ### The result goes out -/

/-- The semaphore of the outgoing half `s` of direction `d`. -/
abbrev cj (d s : Fin 2) : Fin 52 := (![![48, 49], ![50, 51]] : Fin 2 → Fin 2 → Fin 52) d s
/-- The semaphores of the copies to the result stand at the lowest level. -/
theorem lvj_c : ∀ d s : Fin 2, lvj (cj d s) = 0 := by decide

/-- The result on half `s` of a chunk of direction `d`, on its way out. -/
abbrev ofl (c : Dev nD) (d s : Fin 2) (κ : Fin 4) (v : S512x1024.Idx → F .f32) : sProp 𝕄 :=
  flight c (cj d s) (outM κ s d).view.dmaCredit iprop(own' c (outM κ s d) fullShare v ∗ own' c (acH d s) fullShare v)

/-- A block of the result, at any offsets equal to the block's. -/
theorem outM_eq (κ : Fin 4) (s d : Fin 2) {o : Fin 2 → ℕ} (h : o = ![1024 * κ.val + 512 * s.val, 1024 * d.val]) (i) (u) :
    (Memref.whole main_v1).slice (Rect.unit (s := S4096x2048) o S512x1024.size i) u = outM κ s d := slice_congr _ h _ _ _ _

/-- The result on half a chunk starts on its way out. -/
theorem outStart (d s : Fin 2) (κ : Fin 4) {o : Fin 2 → ℕ} (ho : o = ![1024 * κ.val + 512 * s.val, 1024 * d.val]) {i : ∀ a, o a + S512x1024.size a ≤ S4096x2048.size a} {u}
    {S : Memref sig .tc .vmem S512x1024 .f32} (hS : S = acH d s) {sem : DmaSem sig} (hj : sem = cj d s) {hsrc hdst hsem}
    {k : PUnit → PP F α} {v : S512x1024.Idx → F .f32} :
    iprop(own' c (acH d s) fullShare v ∗ some' c (outM κ s d) ∗ zz c (cj d s))
      ⊢ iprop((ofl c d s κ v -∗ wpc 𝒱₀ c (k ⟨⟩) Q)
        -∗ wpc 𝒱₀ c (.op (.enqueueDma S (.here ((Memref.whole main_v1).slice (Rect.unit (s := S4096x2048) o S512x1024.size i) u)) (.dma sem) hsrc hdst hsem) k) Q : sProp 𝕄) := by
  iintro ⟨X, ⟨%y, Y⟩, z⟩ HQ
  iapply (dmaStart 𝒱₀ (acH d s) (outM κ s d) (cj d s) hS (outM_eq κ s d ho _ _) hj (by decide)) $$ [X Y z]
  · isplitl [X]; · iexact X
    isplitl [Y]; · iexact Y
    iexact z
  iintro H; iapply HQ; iexact H

/-- The result on half a chunk is out. -/
theorem outWait (d s : Fin 2) (κ : Fin 4) {sp sp' : Space} {srcw : Memref sig .tc sp S512x1024 .f32} {D : Memref sig .tc sp' S512x1024 .f32} {sem : DmaSem sig}
    {hsrc : srcw.view.WordExact} {hdst : D.view.WordExact} {k : PUnit → PP F α} {v : S512x1024.Idx → F .f32}
    (hj : sem = cj d s) (hD : D.view.dmaCredit = (outM κ s d).view.dmaCredit) :
    iprop(Rec I K ∗ ofl c d s κ v ∗ Ring I c n m r)
      ⊢ iprop((own' c (outM κ s d) fullShare v -∗ own' c (acH d s) fullShare v -∗ zz c (cj d s) -∗ Ring I c n m r -∗ wpc 𝒱₀ c (k ⟨⟩) Q)
        -∗ wpc 𝒱₀ c (.op (.waitDma2 sem srcw D hsrc hdst) k) Q : sProp 𝕄) := by
  iintro ⟨#HR, HF, HG⟩ HQ
  iapply (lwait I 𝒱₀ K _ _ _ hj hD (lvj_c d s)) $$ [HF HG]
  · isplitl [HF]; · iexact HF
    isplitr; · iexact HR
    iexact HG
  iintro ⟨Y, X⟩ z HG
  iapply HQ $$ Y X z HG

end

end Cert.KProof

end
-- ==== Proof.PhaseC.lean ====
module

public import proofs.«01_k».proof.Proof.Gather

/-!
# The third stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 2000000 in
/-- The third stage: step 0's partial sums arrive, step 1's start, and the products of step 2 are made. -/
theorem phC {k : PP F α} :
    iprop(Rec I K ∗ Ring I c 4 0 0 ∗ (own' c (wbM 0) fullShare (wb I c 0) ∗ own' c (wbM 1) fullShare (wb I c 1))
        ∗ (xfl I c 0 2 ∗ xfl I c 1 2 ∗ xO I c 0 3 ∗ xO I c 1 3)
        ∗ (own' c (acM 0) fullShare (pr I 1 0 c) ∗ own' c (acM 1) fullShare (pr I 1 1 c))
        ∗ (own' c (xsM 0) fullShare (xb I c (rsc 0 1 c)) ∗ own' c (xsM 1) fullShare (xb I c (rsc 1 1 c)))
        ∗ (some' c (sbM 0 1 0) ∗ some' c (sbM 1 1 0) ∗ some' c (sbM 0 1 1) ∗ some' c (sbM 1 1 1)))
      ⊢ iprop((Ring I c 8 1 4 -∗ own' c (wbM 0) fullShare (wb I c 0) -∗ own' c (wbM 1) fullShare (wb I c 1) -∗ xO I c 0 2 -∗ xO I c 1 2
          -∗ xfl I c 0 3 -∗ xfl I c 1 3 -∗ own' c (acM 0) fullShare (pr I 2 0 c) -∗ own' c (acM 1) fullShare (pr I 2 1 c)
          -∗ own' c (xsM 0) fullShare (xb I c (rsc 0 2 c)) -∗ own' c (xsM 1) fullShare (xb I c (rsc 1 2 c))
          -∗ iprop(some' c (rrM 0 0 0) ∗ some' c (rrM 1 0 0) ∗ some' c (rrM 0 0 1) ∗ some' c (rrM 1 0 1))
          -∗ some' c (sbM 0 0 0) -∗ sec c 8 -∗ wpc 𝒱₀ c k Q)
        -∗ wpc 𝒱₀ c (pC c (wd2 c) (wd5 c) (wd7 c) k) Q : sProp 𝕄) := by
  unfold pC
  simp only [k0_part11_eq_skeleton, k0_part12_eq_skeleton, k0_part13_eq_skeleton, k0_part14_eq_skeleton, k0_part15_eq_skeleton, k0_part16_eq_skeleton, k0_part17_eq_skeleton,
    k0_part11_skel, k0_part12_skel, k0_part13_skel, k0_part14_skel, k0_part15_skel, k0_part16_skel, k0_part17_skel,
    smemLoad, smemLoadElt, semSignalWord, semWaitWord, Prog.lift, Prog.bind_op, Prog.bind_ret, Prog.pure_eq_ret, wp_deviceId]
  iintro ⟨#HR, HG, ⟨B0, B1⟩, ⟨F2, F3, X0', X1'⟩, ⟨A0, A1⟩, ⟨P0, P1⟩, ⟨S0, S1, S2, S3⟩⟩ HQ
  ihave A0 := (halves3 mAc 0 fullShare (pr I 1 0 c)).1 $$ A0
  icases A0 with ⟨A00, A01⟩
  ihave A1 := (halves3 mAc 1 fullShare (pr I 1 1 c)).1 $$ A1
  icases A1 with ⟨A10, A11⟩
  iapply (sumsV I 𝒱₀ K 0 0 0 1 0 1 (n := 4) (m := 0) (r := 0) (r1 := 1) rfl (by rfl) rfl (by decide) rfl (by decide) rfl rfl rfl rfl rfl rfl rfl rfl (fun u v => by simp only [k0_pay21])) $$ [HG A00 S0]
  · isplitr; · iexact HR
    isplitl [HG]; · iexact HG
    isplitl [A00]; · iexact A00
    iexact S0
  iintro HG A00 S0 V0
  iapply (sendB I 𝒱₀ K (n := 4) (n1 := 5) (m := 0) (r := 1) 4 0 1 0 1 (Fin.ext (k0_dev7_eq c)) rfl rfl rfl rfl rfl (by decide) (by decide) (by decide) (by decide) (by decide) (by decide) (by decide) rfl) $$ [HG S0]
  · isplitr; · iexact HR
    isplitl [HG]; · iexact HG
    iexact S0
  iintro HG
  iapply (sumsV I 𝒱₀ K 1 1 0 1 0 1 (n := 5) (m := 0) (r := 1) (r1 := 2) rfl (by rfl) rfl (by decide) rfl (by decide) rfl rfl rfl rfl rfl rfl rfl rfl (fun u v => by simp only [k0_pay22])) $$ [HG A10 S1]
  · isplitr; · iexact HR
    isplitl [HG]; · iexact HG
    isplitl [A10]; · iexact A10
    iexact S1
  iintro HG A10 S1 V1
  iapply (sendB I 𝒱₀ K (n := 5) (n1 := 6) (m := 0) (r := 2) 5 1 1 0 1 (Fin.ext (k0_dev8_eq c)) rfl rfl rfl rfl rfl (by decide) (by decide) (by decide) (by decide) (by decide) (by decide) (by decide) rfl) $$ [HG S1]
  · isplitr; · iexact HR
    isplitl [HG]; · iexact HG
    iexact S1
  iintro HG
  iapply (sumsV I 𝒱₀ K 2 0 1 1 0 1 (n := 6) (m := 0) (r := 2) (r1 := 3) rfl (by rfl) rfl (by decide) rfl (by decide) rfl rfl rfl rfl rfl rfl rfl rfl (fun u v => by simp only [k0_pay23])) $$ [HG A01 S2]
  · isplitr; · iexact HR
    isplitl [HG]; · iexact HG
    isplitl [A01]; · iexact A01
    iexact S2
  iintro HG A01 S2 V2
  iapply (sendB I 𝒱₀ K (n := 6) (n1 := 7) (m := 0) (r := 3) 6 0 1 1 1 (Fin.ext (k0_dev9_eq c)) rfl rfl rfl rfl rfl (by decide) (by decide) (by decide) (by decide) (by decide) (by decide) (by decide) rfl) $$ [HG S2]
  · isplitr; · iexact HR
    isplitl [HG]; · iexact HG
    iexact S2
  iintro HG
  iapply (sumsV I 𝒱₀ K 3 1 1 1 0 1 (n := 7) (m := 0) (r := 3) (r1 := 4) rfl (by rfl) rfl (by decide) rfl (by decide) rfl rfl rfl rfl rfl rfl rfl rfl (fun u v => by simp only [k0_pay24, k0_pay25])) $$ [HG A11 S3]
  · isplitr; · iexact HR
    isplitl [HG]; · iexact HG
    isplitl [A11]; · iexact A11
    iexact S3
  iintro HG A11 S3 V3
  iapply (sendB I 𝒱₀ K (n := 7) (n1 := 8) (m := 0) (r := 4) 7 1 1 1 1 (Fin.ext (k0_dev10_eq c)) rfl rfl rfl rfl rfl (by decide) (by decide) (by decide) (by decide) (by decide) (by decide) (by decide) rfl) $$ [HG S3]
  · isplitr; · iexact HR
    isplitl [HG]; · iexact HG
    iexact S3
  iintro HG
  ihave A0 := (halves3 mAc 0 fullShare (pr I 1 0 c)).2 $$ [A00 A01]
  · isplitl [A00]; · iexact A00
    iexact A01
  ihave A1 := (halves3 mAc 1 fullShare (pr I 1 1 c)).2 $$ [A10 A11]
  · isplitl [A10]; · iexact A10
    iexact A11
  iapply (prods I 𝒱₀ K 0 2 rfl (by decide) rfl rfl rfl rfl rfl rfl rfl (fun v => by simp only [k0_pay26]) (fun u b => by simp only [k0_pay27])) $$ [F2 HG P0 B0 A0]
  · isplitr; · iexact HR
    isplitl [F2]; · iexact F2
    isplitl [HG]; · iexact HG
    isplitl [P0]; · iexact P0
    isplitl [B0]; · iexact B0
    iexact A0
  iintro Y0 X0 z2 HG P0 B0 A0
  iapply (prods I 𝒱₀ K 1 2 rfl (by decide) rfl rfl rfl rfl rfl rfl rfl (fun v => by simp only [k0_pay28]) (fun u b => by simp only [k0_pay29])) $$ [F3 HG P1 B1 A1]
  · isplitr; · iexact HR
    isplitl [F3]; · iexact F3
    isplitl [HG]; · iexact HG
    isplitl [P1]; · iexact P1
    isplitl [B1]; · iexact B1
    iexact A1
  iintro Y1 X1 z3 HG P1 B1 A1
  iapply (xStart I 𝒱₀ 0 3 (by revert c; decide) rfl (by decide)) $$ [X0' Y0 z2]
  · isplitl [X0']; · iexact X0'
    isplitl [Y0]; · iexact Y0
    iexact z2
  iintro F2
  iapply (xStart I 𝒱₀ 1 3 (by revert c; decide) rfl (by decide)) $$ [X1' Y1 z3]
  · isplitl [X1']; · iexact X1'
    isplitl [Y1]; · iexact Y1
    iexact z3
  iintro F3
  iapply (swaitA' I 𝒱₀ K 0 0 0 (n := 8) (m := 0) (r := 4) (m1 := 1) 8 rfl (by rfl) rfl (by decide) rfl rfl rfl rfl rfl) $$ [HG]
  · isplitr; · iexact HR
    iexact HG
  iintro HG T0 E8
  iapply HQ $$ HG B0 B1 X0 X1 F2 F3 A0 A1 P0 P1 [V0 V1 V2 V3] T0 E8
  isplitl [V0]; · iexact V0
  isplitl [V1]; · iexact V1
  isplitl [V2]; · iexact V2
  iexact V3

end

end Cert.KProof

end
-- ==== Proof.PhaseD.lean ====
module

public import proofs.«01_k».proof.Proof.Gather

/-!
# The fourth stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 2000000 in
/-- The fourth stage: step 1's partial sums arrive, step 2's start, and the products of step 3 are made, the second up to its rounded activations. -/
theorem phD {k : PP F α} :
    iprop(Rec I K ∗ Ring I c 8 1 4 ∗ own' c (wbM 0) fullShare (wb I c 0)
        ∗ (xfl I c 0 3 ∗ xfl I c 1 3)
        ∗ (own' c (acM 0) fullShare (pr I 2 0 c) ∗ own' c (acM 1) fullShare (pr I 2 1 c))
        ∗ (own' c (xsM 0) fullShare (xb I c (rsc 0 2 c)) ∗ own' c (xsM 1) fullShare (xb I c (rsc 1 2 c)))
        ∗ some' c (sbM 0 0 0) ∗ sec c 8)
      ⊢ iprop((Ring I c 12 4 8 -∗ own' c (wbM 0) fullShare (wb I c 0) -∗ xO I c 0 3 -∗ xO I c 1 3
          -∗ iprop(zz c (2 : Fin 52) ∗ zz c (3 : Fin 52)) -∗ iprop(some' c (x32M 0) ∗ some' c (x32M 1))
          -∗ own' c (acM 0) fullShare (pr I 3 0 c) -∗ own' c (acM 1) fullShare (pr I 2 1 c)
          -∗ own' c (xsM 0) fullShare (xb I c (rsc 0 3 c)) -∗ own' c (xsM 1) fullShare (xb I c (rsc 1 3 c))
          -∗ iprop(some' c (rrM 0 1 0) ∗ some' c (rrM 1 1 0) ∗ some' c (rrM 0 1 1) ∗ some' c (rrM 1 1 1))
          -∗ iprop(sec c 8 ∗ sec c 9 ∗ sec c 10 ∗ sec c 11) -∗ wpc 𝒱₀ c k Q)
        -∗ wpc 𝒱₀ c (pD c (wd2 c) (wd5 c) (wd7 c) k) Q : sProp 𝕄) := by
  unfold pD
  simp only [k0_part18_eq_skeleton, k0_part19_eq_skeleton, k0_part20_eq_skeleton, k0_part21_eq_skeleton, k0_part22_eq_skeleton, k0_part23_eq_skeleton, k0_part24_eq_skeleton,
    k0_part18_skel, k0_part19_skel, k0_part20_skel, k0_part21_skel, k0_part22_skel, k0_part23_skel, k0_part24_skel,
    smemLoad, smemLoadElt, semSignalWord, semWaitWord, Prog.lift, Prog.bind_op, Prog.bind_ret, Prog.pure_eq_ret, wp_deviceId]
  iintro ⟨#HR, HG, B0, ⟨F2, F3⟩, ⟨A0, A1⟩, ⟨P0, P1⟩, T0, E8⟩ HQ
  ihave A0 := (halves3 mAc 0 fullShare (pr I 2 0 c)).1 $$ A0
  icases A0 with ⟨A00, A01⟩
  ihave A1 := (halves3 mAc 1 fullShare (pr I 2 1 c)).1 $$ A1
  icases A1 with ⟨A10, A11⟩
  iapply (sumsV I 𝒱₀ K 4 0 0 0 1 2 (n := 8) (m := 1) (r := 4) (r1 := 5) rfl (by rfl) rfl (by decide) rfl (by decide) rfl rfl rfl rfl rfl rfl rfl rfl (fun u v => by simp only [k0_pay30])) $$ [HG A00 T0]
  · isplitr; · iexact HR
    isplitl [HG]; · iexact HG
    isplitl [A00]; · iexact A00
    iexact T0
  iintro HG A00 T0 V0
  iapply (sendB2 I 𝒱₀ K (n := 8) (n1 := 9) (m := 1) (r := 5) 8 0 0 0 2 (Fin.ext (k0_dev11_eq c)) rfl rfl rfl rfl rfl (by decide) (by decide) (by decide) (by decide) (by decide) (by decide) rfl) $$ [E8 HG T0]
  · isplitr; · iexact HR
    isplitl [E8]; · iexact E8
    isplitl [HG]; · iexact HG
    iexact T0
  iintro E8 HG
  iapply (swaitA' I 𝒱₀ K 1 1 0 (n := 9) (m := 1) (r := 5) (m1 := 2) 9 rfl (by rfl) rfl (by decide) rfl rfl rfl rfl rfl) $$ [HG]
  · isplitr; · iexact HR
    iexact HG
  iintro HG T1 E9
  iapply (sumsV I 𝒱₀ K 5 1 0 0 1 2 (n := 9) (m := 2) (r := 5) (r1 := 6) rfl (by rfl) rfl (by decide) rfl (by decide) rfl rfl rfl rfl rfl rfl rfl rfl (fun u v => by simp only [k0_pay31, k0_pay32])) $$ [HG A10 T1]
  · isplitr; · iexact HR
    isplitl [HG]; · iexact HG
    isplitl [A10]; · iexact A10
    iexact T1
  iintro HG A10 T1 V1
  iapply (sendB2 I 𝒱₀ K (n := 9) (n1 := 10) (m := 2) (r := 6) 9 1 0 0 2 (Fin.ext (k0_dev12_eq c)) rfl rfl rfl rfl rfl (by decide) (by decide) (by decide) (by decide) (by decide) (by decide) rfl) $$ [E9 HG T1]
  · isplitr; · iexact HR
    isplitl [E9]; · iexact E9
    isplitl [HG]; · iexact HG
    iexact T1
  iintro E9 HG
  iapply (swaitA' I 𝒱₀ K 2 0 1 (n := 10) (m := 2) (r := 6) (m1 := 3) 10 rfl (by rfl) rfl (by decide) rfl rfl rfl rfl rfl) $$ [HG]
  · isplitr; · iexact HR
    iexact HG
  iintro HG T2 E10
  iapply (sumsV I 𝒱₀ K 6 0 1 0 1 2 (n := 10) (m := 3) (r := 6) (r1 := 7) rfl (by rfl) rfl (by decide) rfl (by decide) rfl rfl rfl rfl rfl rfl rfl rfl (fun u v => by simp only [k0_pay33])) $$ [HG A01 T2]
  · isplitr; · iexact HR
    isplitl [HG]; · iexact HG
    isplitl [A01]; · iexact A01
    iexact T2
  iintro HG A01 T2 V2
  iapply (sendB2 I 𝒱₀ K (n := 10) (n1 := 11) (m := 3) (r := 7) 10 0 0 1 2 (Fin.ext (k0_dev13_eq c)) rfl rfl rfl rfl rfl (by decide) (by decide) (by decide) (by decide) (by decide) (by decide) rfl) $$ [E10 HG T2]
  · isplitr; · iexact HR
    isplitl [E10]; · iexact E10
    isplitl [HG]; · iexact HG
    iexact T2
  iintro E10 HG
  iapply (swaitA' I 𝒱₀ K 3 1 1 (n := 11) (m := 3) (r := 7) (m1 := 4) 11 rfl (by rfl) rfl (by decide) rfl rfl rfl rfl rfl) $$ [HG]
  · isplitr; · iexact HR
    iexact HG
  iintro HG T3 E11
  iapply (sumsV I 𝒱₀ K 7 1 1 0 1 2 (n := 11) (m := 4) (r := 7) (r1 := 8) rfl (by rfl) rfl (by decide) rfl (by decide) rfl rfl rfl rfl rfl rfl rfl rfl (fun u v => by simp only [k0_pay34])) $$ [HG A11 T3]
  · isplitr; · iexact HR
    isplitl [HG]; · iexact HG
    isplitl [A11]; · iexact A11
    iexact T3
  iintro HG A11 T3 V3
  iapply (sendB2 I 𝒱₀ K (n := 11) (n1 := 12) (m := 4) (r := 8) 11 1 0 1 2 (Fin.ext (k0_dev14_eq c)) rfl rfl rfl rfl rfl (by decide) (by decide) (by decide) (by decide) (by decide) (by decide) rfl) $$ [E11 HG T3]
  · isplitr; · iexact HR
    isplitl [E11]; · iexact E11
    isplitl [HG]; · iexact HG
    iexact T3
  iintro E11 HG
  ihave A0 := (halves3 mAc 0 fullShare (pr I 2 0 c)).2 $$ [A00 A01]
  · isplitl [A00]; · iexact A00
    iexact A01
  ihave A1 := (halves3 mAc 1 fullShare (pr I 2 1 c)).2 $$ [A10 A11]
  · isplitl [A10]; · iexact A10
    iexact A11
  iapply (prods I 𝒱₀ K 0 3 rfl (by decide) rfl rfl rfl rfl rfl rfl rfl (fun v => by simp only [k0_pay35]) (fun u b => by simp only [k0_pay36])) $$ [F2 HG P0 B0 A0]
  · isplitr; · iexact HR
    isplitl [F2]; · iexact F2
    isplitl [HG]; · iexact HG
    isplitl [P0]; · iexact P0
    isplitl [B0]; · iexact B0
    iexact A0
  iintro Y0 X0 z2 HG P0 B0 A0
  iapply (prodA I 𝒱₀ K 1 3 rfl (by decide) rfl rfl rfl (fun v => by simp only [k0_pay37])) $$ [F3 HG P1]
  · isplitr; · iexact HR
    isplitl [F3]; · iexact F3
    isplitl [HG]; · iexact HG
    iexact P1
  iintro Y1 X1 z3 HG P1
  iapply HQ $$ HG B0 X0 X1 [z2 z3] [Y0 Y1] A0 A1 P0 P1 [V0 V1 V2 V3] [E8 E9 E10 E11]
  · isplitl [z2]; · iexact z2
    iexact z3
  · isplitl [Y0]; · iexact Y0
    iexact Y1
  · isplitl [V0]; · iexact V0
    isplitl [V1]; · iexact V1
    isplitl [V2]; · iexact V2
    iexact V3
  · isplitl [E8]; · iexact E8
    isplitl [E9]; · iexact E9
    isplitl [E10]; · iexact E10
    iexact E11

end

end Cert.KProof

end
-- ==== Proof.PhaseE.lean ====
module

public import proofs.«01_k».proof.Proof.Gather

/-!
# The fifth stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 4000000 in
/-- The fifth stage: the complete sums of half 0 are put in their places, and their first transfers start. -/
theorem phE {k : BitVec 32 → PP F α} :
    iprop(Rec I K ∗ Ring I c 12 4 8 ∗ own' c (wbM 1) fullShare (wb I c 1) ∗ (own' c (acM 0) fullShare (pr I 3 0 c) ∗ own' c (acM 1) fullShare (pr I 2 1 c))
        ∗ own' c (xsM 1) fullShare (xb I c (rsc 1 3 c)) ∗ (some' c (agM 0 0 (sc 0 0 c)) ∗ some' c (agM 1 0 (sc 1 0 c))))
      ⊢ iprop((Ring I c 14 4 10 -∗ own' c (wbM 1) fullShare (wb I c 1) -∗ own' c (acM 0) fullShare (pr I 3 0 c) -∗ own' c (acM 1) fullShare (pr I 3 1 c)
          -∗ own' c (xsM 1) fullShare (xb I c (rsc 1 3 c)) -∗ own' c (rrM 0 2 0) fullShare (SV I 2 0 0 (src 0 c)) -∗ own' c (rrM 1 2 0) fullShare (SV I 2 1 0 (src 1 c))
          -∗ own' c (agM 0 0 (sc 0 0 c)) fullShare.right (AV I 0 0 (sc 0 0 c)) -∗ own' c (agM 1 0 (sc 1 0 c)) fullShare.right (AV I 1 0 (sc 1 0 c))
          -∗ wpc 𝒱₀ c (k (Scalar.remsi (Scalar.addi (wd2 c) 1#32) 4#32)) Q)
        -∗ wpc 𝒱₀ c (pE c (wd2 c) (wd5 c) (wd7 c) k) Q : sProp 𝕄) := by
  unfold pE
  simp only [k0_part25_eq_skeleton, k0_part26_eq_skeleton, k0_part27_eq_skeleton, k0_part28_eq_skeleton,
    k0_part25_skel, k0_part26_skel, k0_part27_skel, k0_part28_skel,
    smemLoad, smemLoadElt, semSignalWord, semWaitWord, Prog.lift, Prog.bind_op, Prog.bind_ret, Prog.pure_eq_ret, wp_deviceId]
  iintro ⟨#HR, HG, B1, ⟨A0, A1⟩, P1, ⟨G0, G1⟩⟩ HQ
  iapply (prodB I 𝒱₀ 1 3 rfl rfl rfl rfl (fun u b => by simp only [k0_pay38])) $$ [P1 B1 A1]
  · isplitl [P1]; · iexact P1
    isplitl [B1]; · iexact B1
    iexact A1
  iintro P1 B1 A1
  ihave A0 := (halves3 mAc 0 fullShare (pr I 3 0 c)).1 $$ A0
  icases A0 with ⟨A00, A01⟩
  ihave A1 := (halves3 mAc 1 fullShare (pr I 3 1 c)).1 $$ A1
  icases A1 with ⟨A10, A11⟩
  iapply (recvR I 𝒱₀ K 8 0 0 2 (n := 12) (m := 4) (r := 8) (r1 := 9) rfl (by rfl) rfl (by decide) (by decide) rfl rfl rfl rfl) $$ [HG]
  · isplitr; · iexact HR
    iexact HG
  iintro HG V0
  iapply (ldH 𝒱₀ mAc 0 0 rfl) $$ A00
  iintro A00
  iapply (ldR 𝒱₀ mRr 0 2 0 rfl) $$ V0
  iintro V0
  ihave G0 := (up0 (agM 0 0 (sc 0 0 c)) (sc 0 0 c) (AV I 0 0 (sc 0 0 c))) $$ G0
  icases G0 with ⟨%zG0, G0⟩
  iapply (bindW 𝒱₀)
  iapply (ifA 𝒱₀ 0 0 (sc 0 0 c) 0 (j := 0) (j1 := 1) rfl rfl (by revert c; decide) (v := AV I 0 0 (sc 0 0 c)) rfl rfl (by rw [AV_own]; simp only [k0_pay39, k0_pay40, shapeCast_shapeCast]; rfl)) $$ G0
  iintro G0
  iapply (ifA 𝒱₀ 0 0 (sc 0 0 c) 1 (j := 1) (j1 := 2) rfl rfl (by revert c; decide) (v := AV I 0 0 (sc 0 0 c)) rfl rfl (by rw [AV_own]; simp only [k0_pay39, k0_pay41, shapeCast_shapeCast]; rfl)) $$ G0
  iintro G0
  iapply (ifA 𝒱₀ 0 0 (sc 0 0 c) 2 (j := 2) (j1 := 3) rfl rfl (by revert c; decide) (v := AV I 0 0 (sc 0 0 c)) rfl rfl (by rw [AV_own]; simp only [k0_pay39, k0_pay42, shapeCast_shapeCast]; rfl)) $$ G0
  iintro G0
  iapply (ifA 𝒱₀ 0 0 (sc 0 0 c) 3 (j := 3) (j1 := 4) rfl rfl (by revert c; decide) (v := AV I 0 0 (sc 0 0 c)) rfl rfl (by rw [AV_own]; simp only [k0_pay39, k0_pay43, shapeCast_shapeCast]; rfl)) $$ G0
  iintro G0
  ihave G0 := (up4 (agM 0 0 (sc 0 0 c)) (sc 0 0 c)) $$ G0
  iapply (sendG I 𝒱₀ K (n := 12) (n1 := 13) (m := 4) (r := 9) 12 0 0 0 (Fin.ext (k0_dev15_eq c)) (by revert c; decide) (by revert c; decide) rfl rfl rfl (by decide) (by decide) (by decide) (by decide) rfl) $$ [HG G0]
  · isplitr; · iexact HR
    isplitl [HG]; · iexact HG
    iexact G0
  iintro HG G0
  iapply (retW 𝒱₀)
  try dsimp only
  iapply (recvR I 𝒱₀ K 9 1 0 2 (n := 13) (m := 4) (r := 9) (r1 := 10) rfl (by rfl) rfl (by decide) (by decide) rfl rfl rfl rfl) $$ [HG]
  · isplitr; · iexact HR
    iexact HG
  iintro HG V1
  iapply (ldH 𝒱₀ mAc 1 0 rfl) $$ A10
  iintro A10
  iapply (ldR 𝒱₀ mRr 1 2 0 rfl) $$ V1
  iintro V1
  ihave G1 := (up0 (agM 1 0 (sc 1 0 c)) (sc 1 0 c) (AV I 1 0 (sc 1 0 c))) $$ G1
  icases G1 with ⟨%zG1, G1⟩
  iapply (bindW 𝒱₀)
  iapply (ifA 𝒱₀ 1 0 (sc 1 0 c) 0 (j := 0) (j1 := 1) rfl rfl (by revert c; decide) (v := AV I 1 0 (sc 1 0 c)) rfl rfl (by rw [AV_own]; simp only [k0_pay44, k0_pay45, shapeCast_shapeCast]; rfl)) $$ G1
  iintro G1
  iapply (ifA 𝒱₀ 1 0 (sc 1 0 c) 1 (j := 1) (j1 := 2) rfl rfl (by revert c; decide) (v := AV I 1 0 (sc 1 0 c)) rfl rfl (by rw [AV_own]; simp only [k0_pay44, k0_pay46, shapeCast_shapeCast]; rfl)) $$ G1
  iintro G1
  iapply (ifA 𝒱₀ 1 0 (sc 1 0 c) 2 (j := 2) (j1 := 3) rfl rfl (by revert c; decide) (v := AV I 1 0 (sc 1 0 c)) rfl rfl (by rw [AV_own]; simp only [k0_pay44, k0_pay47, shapeCast_shapeCast]; rfl)) $$ G1
  iintro G1
  iapply (retW 𝒱₀)
  try dsimp only
  iapply (bindW 𝒱₀)
  iapply (ifA 𝒱₀ 1 0 (sc 1 0 c) 3 (j := 3) (j1 := 4) rfl rfl (by revert c; decide) (v := AV I 1 0 (sc 1 0 c)) rfl rfl (by rw [AV_own]; simp only [k0_pay44, k0_pay48, shapeCast_shapeCast]; rfl)) $$ G1
  iintro G1
  ihave G1 := (up4 (agM 1 0 (sc 1 0 c)) (sc 1 0 c)) $$ G1
  iapply (sendG I 𝒱₀ K (n := 13) (n1 := 14) (m := 4) (r := 10) 13 1 0 0 (Fin.ext (k0_dev16_eq c)) (by revert c; decide) (by revert c; decide) rfl rfl rfl (by decide) (by decide) (by decide) (by decide) rfl) $$ [HG G1]
  · isplitr; · iexact HR
    isplitl [HG]; · iexact HG
    iexact G1
  iintro HG G1
  iapply (retW 𝒱₀)
  ihave A0 := (halves3 mAc 0 fullShare (pr I 3 0 c)).2 $$ [A00 A01]
  · isplitl [A00]; · iexact A00
    iexact A01
  ihave A1 := (halves3 mAc 1 fullShare (pr I 3 1 c)).2 $$ [A10 A11]
  · isplitl [A10]; · iexact A10
    iexact A11
  ihave V0 := (castV I 0 0) $$ V0
  ihave V1 := (castV I 1 0) $$ V1
  iapply HQ $$ HG B1 A0 A1 P1 V0 V1 G0 G1

end

end Cert.KProof

end
-- ==== Proof.PhaseF.lean ====
module

public import proofs.«01_k».proof.Proof.Gather

/-!
# The sixth stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 4000000 in
/-- The sixth stage: the complete sums of half 1, and the result on the device's first own chunk. -/
theorem phF {k : BitVec 32 → PP F α} :
    iprop(Rec I K ∗ Ring I c 14 4 10 ∗ (own' c (acM 0) fullShare (pr I 3 0 c) ∗ own' c (acM 1) fullShare (pr I 3 1 c))
        ∗ own' c (rrM 0 2 0) fullShare (SV I 2 0 0 (src 0 c)) ∗ (some' c (agM 0 1 (sc 0 0 c)) ∗ some' c (agM 1 1 (sc 1 0 c))))
      ⊢ iprop((Ring I c 16 4 12 -∗ own' c (acM 0) fullShare (ownOut I 0 c) -∗ own' c (acM 1) fullShare (pr I 3 1 c)
          -∗ own' c (rrP 0 2) fullShare (vcat fun s => lval I 0 2 s c) -∗ own' c (rrM 1 2 1) fullShare (SV I 2 1 1 (src 1 c))
          -∗ own' c (agM 0 1 (sc 0 0 c)) fullShare.right (AV I 0 1 (sc 0 0 c)) -∗ own' c (agM 1 1 (sc 1 0 c)) fullShare.right (AV I 1 1 (sc 1 0 c))
          -∗ wpc 𝒱₀ c (k (Scalar.remsi (Scalar.addi (wd2 c) 1#32) 4#32)) Q)
        -∗ wpc 𝒱₀ c (pF c (wd2 c) (wd5 c) (wd7 c) (scl I c) (Scalar.remsi (Scalar.addi (wd2 c) 1#32) 4#32) k) Q : sProp 𝕄) := by
  unfold pF
  simp only [k0_part29_eq_skeleton, k0_part30_eq_skeleton, k0_part31_eq_skeleton, k0_part32_eq_skeleton,
    k0_part29_skel, k0_part30_skel, k0_part31_skel, k0_part32_skel,
    smemLoad, smemLoadElt, semSignalWord, semWaitWord, Prog.lift, Prog.bind_op, Prog.bind_ret, Prog.pure_eq_ret, wp_deviceId]
  iintro ⟨#HR, HG, ⟨A0, A1⟩, V0, ⟨G0, G1⟩⟩ HQ
  ihave A0 := (halves3 mAc 0 fullShare (pr I 3 0 c)).1 $$ A0
  icases A0 with ⟨A00, A01⟩
  ihave A1 := (halves3 mAc 1 fullShare (pr I 3 1 c)).1 $$ A1
  icases A1 with ⟨A10, A11⟩
  iapply (recvR I 𝒱₀ K 10 0 1 2 (n := 14) (m := 4) (r := 10) (r1 := 11) rfl (by rfl) rfl (by decide) (by decide) rfl rfl rfl rfl) $$ [HG]
  · isplitr; · iexact HR
    iexact HG
  iintro HG V2
  iapply (ldH 𝒱₀ mAc 0 1 rfl) $$ A01
  iintro A01
  iapply (ldR 𝒱₀ mRr 0 2 1 rfl) $$ V2
  iintro V2
  ihave G0 := (up0 (agM 0 1 (sc 0 0 c)) (sc 0 0 c) (AV I 0 1 (sc 0 0 c))) $$ G0
  icases G0 with ⟨%zG0, G0⟩
  iapply (bindW 𝒱₀)
  iapply (ifA 𝒱₀ 0 1 (sc 0 0 c) 0 (j := 0) (j1 := 1) rfl rfl (by revert c; decide) (v := AV I 0 1 (sc 0 0 c)) rfl rfl (by rw [AV_own]; simp only [k0_pay49, k0_pay50, shapeCast_shapeCast]; rfl)) $$ G0
  iintro G0
  iapply (ifA 𝒱₀ 0 1 (sc 0 0 c) 1 (j := 1) (j1 := 2) rfl rfl (by revert c; decide) (v := AV I 0 1 (sc 0 0 c)) rfl rfl (by rw [AV_own]; simp only [k0_pay49, k0_pay51, shapeCast_shapeCast]; rfl)) $$ G0
  iintro G0
  iapply (ifA 𝒱₀ 0 1 (sc 0 0 c) 2 (j := 2) (j1 := 3) rfl rfl (by revert c; decide) (v := AV I 0 1 (sc 0 0 c)) rfl rfl (by rw [AV_own]; simp only [k0_pay49, k0_pay52, shapeCast_shapeCast]; rfl)) $$ G0
  iintro G0
  iapply (ifA 𝒱₀ 0 1 (sc 0 0 c) 3 (j := 3) (j1 := 4) rfl rfl (by revert c; decide) (v := AV I 0 1 (sc 0 0 c)) rfl rfl (by rw [AV_own]; simp only [k0_pay49, k0_pay53, shapeCast_shapeCast]; rfl)) $$ G0
  iintro G0
  ihave G0 := (up4 (agM 0 1 (sc 0 0 c)) (sc 0 0 c)) $$ G0
  iapply (retW 𝒱₀)
  try dsimp only
  iapply (sendG I 𝒱₀ K (n := 14) (n1 := 15) (m := 4) (r := 11) 14 0 1 0 (Fin.ext (k0_dev17_eq c)) (by revert c; decide) (by revert c; decide) rfl rfl rfl (by decide) (by decide) (by decide) (by decide) rfl) $$ [HG G0]
  · isplitr; · iexact HR
    isplitl [HG]; · iexact HG
    iexact G0
  iintro HG G0
  iapply (recvR I 𝒱₀ K 11 1 1 2 (n := 15) (m := 4) (r := 11) (r1 := 12) rfl (by rfl) rfl (by decide) (by decide) rfl rfl rfl rfl) $$ [HG]
  · isplitr; · iexact HR
    iexact HG
  iintro HG V3
  iapply (ldH 𝒱₀ mAc 1 1 rfl) $$ A11
  iintro A11
  iapply (ldR 𝒱₀ mRr 1 2 1 rfl) $$ V3
  iintro V3
  ihave G1 := (up0 (agM 1 1 (sc 1 0 c)) (sc 1 0 c) (AV I 1 1 (sc 1 0 c))) $$ G1
  icases G1 with ⟨%zG1, G1⟩
  iapply (bindW 𝒱₀)
  iapply (ifA 𝒱₀ 1 1 (sc 1 0 c) 0 (j := 0) (j1 := 1) rfl rfl (by revert c; decide) (v := AV I 1 1 (sc 1 0 c)) rfl rfl (by rw [AV_own]; simp only [k0_pay54, k0_pay55, k0_pay56, shapeCast_shapeCast]; rfl)) $$ G1
  iintro G1
  iapply (ifA 𝒱₀ 1 1 (sc 1 0 c) 1 (j := 1) (j1 := 2) rfl rfl (by revert c; decide) (v := AV I 1 1 (sc 1 0 c)) rfl rfl (by rw [AV_own]; simp only [k0_pay54, k0_pay55, k0_pay57, shapeCast_shapeCast]; rfl)) $$ G1
  iintro G1
  iapply (ifA 𝒱₀ 1 1 (sc 1 0 c) 2 (j := 2) (j1 := 3) rfl rfl (by revert c; decide) (v := AV I 1 1 (sc 1 0 c)) rfl rfl (by rw [AV_own]; simp only [k0_pay54, k0_pay55, k0_pay58, shapeCast_shapeCast]; rfl)) $$ G1
  iintro G1
  iapply (ifA 𝒱₀ 1 1 (sc 1 0 c) 3 (j := 3) (j1 := 4) rfl rfl (by revert c; decide) (v := AV I 1 1 (sc 1 0 c)) rfl rfl (by rw [AV_own]; simp only [k0_pay54, k0_pay55, k0_pay59, shapeCast_shapeCast]; rfl)) $$ G1
  iintro G1
  ihave G1 := (up4 (agM 1 1 (sc 1 0 c)) (sc 1 0 c)) $$ G1
  iapply (retW 𝒱₀)
  try dsimp only
  iapply (sendG I 𝒱₀ K (n := 15) (n1 := 16) (m := 4) (r := 12) 15 1 1 0 (Fin.ext (k0_dev18_eq c)) (by revert c; decide) (by revert c; decide) rfl rfl rfl (by decide) (by decide) (by decide) (by decide) rfl) $$ [HG G1]
  · isplitr; · iexact HR
    isplitl [HG]; · iexact HG
    iexact G1
  iintro HG G1
  ihave A0 := (halves3 mAc 0 fullShare (pr I 3 0 c)).2 $$ [A00 A01]
  · isplitl [A00]; · iexact A00
    iexact A01
  ihave A1 := (halves3 mAc 1 fullShare (pr I 3 1 c)).2 $$ [A10 A11]
  · isplitl [A10]; · iexact A10
    iexact A11
  ihave V2 := (castV I 0 1) $$ V2
  ihave V3 := (castV I 1 1) $$ V3
  ihave V0 := (joinR I 0) $$ [V0 V2]
  · isplitl [V0]; · iexact V0
    iexact V2
  iapply (ldP 𝒱₀ mAc 0 rfl) $$ A0
  iintro A0
  iapply (ldQ 𝒱₀ mRr 0 2 rfl) $$ V0
  iintro V0
  iapply (ldP 𝒱₀ mAc 0 rfl) $$ A0
  iintro A0
  iapply (stP 𝒱₀ mAc 0 rfl (ownOut I 0 c) (by simp only [k0_pay60, shapeCast_shapeCast]; rfl)) $$ A0
  iintro A0
  iapply HQ $$ HG A0 A1 V0 V3 G0 G1

end

end Cert.KProof

end
-- ==== Proof.Parts.lean ====
module

public import proofs.«01_k».proof.Proof.Gather

/-!
# The parts of the result
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

/-- A half about to be overwritten. -/
theorem upz {sp : Space} {s : Shape} {e : EltTy} (M : Memref sig .tc sp s e) (κ : Fin 4) {v z : s.Idx → Elt F e} :
    own' c M fullShare z ⊢ (own' c M fullShare (upTo κ 0 v z) : sProp 𝕄) := by
  unfold upTo
  rw [if_neg (Nat.not_lt_zero _)]

/-- The own chunk's part of the result. -/
theorem outv_own (d s : Fin 2) : outv I c (sc d 0 c) s d = rows s (ownOut I d c) := by
  unfold outv; exact if_pos (sc_zero d c).1.symm

/-- The chunks that land in the gathering are not the one that the device completed. -/
theorem sc_ne (a : ℕ) (ha : a = 1 ∨ a = 2 ∨ a = 3) (d : Fin 2) (c : Dev nD) : sc d a c ≠ rsc d 3 c := by
  rcases ha with rfl | rfl | rfl <;> revert d c <;> decide

/-- A gathered part of the result. -/
theorem outv_got (d s : Fin 2) (a : ℕ) (ha : a = 1 ∨ a = 2 ∨ a = 3) : outv I c (sc d a c) s d = epi (scl I c) (ex (AV I d s (sc d a c))) := by
  unfold outv; exact if_neg (sc_ne a ha d c)

/-- Part `a` of the result, going out. -/
abbrev OF (I : Ins F) (c : Dev nD) (d s : Fin 2) (a : ℕ) : sProp 𝕄 := ofl c d s (sc d a c) (outv I c (sc d a c) s d)
/-- Part `a` of the result, out. -/
abbrev OD (I : Ins F) (c : Dev nD) (d s : Fin 2) (a : ℕ) : sProp 𝕄 := own' c (outM (sc d a c) s d) fullShare (outv I c (sc d a c) s d)
/-- The place of part `a` of the result. -/
abbrev ON (F : FTy → Type) [FloatOps F] (c : Dev nD) (d s : Fin 2) (a : ℕ) : sProp (MT nD τ sig Unit (Elt F) ℕ UU ℕ) := some' c (outM (sc d a c) s d)
/-- The half in which part `a` of the result is being made, after the first choice. -/
abbrev OU (I : Ins F) (c : Dev nD) (d s : Fin 2) (a : ℕ) : sProp 𝕄 := iprop(∃ z, own' c (acH d s) fullShare (upTo (sc d a c) 1 (outv I c (sc d a c) s d) z))
/-- A gathered sum that stays, when its other share has gone on. -/
abbrev GR (I : Ins F) (c : Dev nD) (d s : Fin 2) (a : ℕ) : sProp 𝕄 := own' c (agM d s (sc d a c)) fullShare.right (AV I d s (sc d a c))
/-- A gathered sum that stays. -/
abbrev GW (I : Ins F) (c : Dev nD) (d s : Fin 2) (a : ℕ) : sProp 𝕄 := own' c (agM d s (sc d a c)) fullShare (AV I d s (sc d a c))

end

end Cert.KProof

end
-- ==== Proof.PhaseG.lean ====
module

public import proofs.«01_k».proof.Proof.Parts

/-!
# The seventh stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 4000000 in
/-- The seventh stage: the result on the second own chunk, the own chunks on their way out, and the first gathering step of half 0. -/
theorem phG {k : BitVec 32 → BitVec 32 → PP F α} :
    iprop(Rec I K ∗ Ring I c 16 4 12 ∗ (own' c (acM 0) fullShare (ownOut I 0 c) ∗ own' c (acM 1) fullShare (pr I 3 1 c)) ∗ own' c (rrP 1 2) fullShare (vcat fun s => lval I 1 2 s c)
        ∗ (zz c (cj 0 0) ∗ zz c (cj 0 1) ∗ zz c (cj 1 0) ∗ zz c (cj 1 1))
        ∗ (ON F c 0 0 0 ∗ ON F c 0 1 0 ∗ ON F c 1 0 0 ∗ ON F c 1 1 0) ∗ ON F c 0 0 1)
      ⊢ iprop((Ring I c 18 4 14 -∗ own' c (rrP 1 2) fullShare (vcat fun s => lval I 1 2 s c) -∗ GR I c 0 0 1 -∗ GR I c 1 0 1
          -∗ OD I c 0 0 0 -∗ OD I c 1 0 0 -∗ OF I c 0 0 1 -∗ OF I c 0 1 0 -∗ OF I c 1 1 0 -∗ OU I c 1 0 1 -∗ zz c (cj 1 0)
          -∗ wpc 𝒱₀ c (k (Scalar.remsi (Scalar.addi (Scalar.remsi (Scalar.addi (wd2 c) 3#32) 4#32) 1#32) 4#32) 1#32) Q)
        -∗ wpc 𝒱₀ c (pG c (wd2 c) (wd5 c) (wd7 c) (scl I c) (Scalar.remsi (Scalar.addi (wd2 c) 1#32) 4#32) k) Q : sProp 𝕄) := by
  unfold pG
  simp only [k0_part33_eq_skeleton, k0_part34_eq_skeleton, k0_part35_eq_skeleton, k0_part36_eq_skeleton, k0_part37_eq_skeleton,
    k0_part33_skel, k0_part34_skel, k0_part35_skel, k0_part36_skel, k0_part37_skel,
    smemLoad, smemLoadElt, semSignalWord, semWaitWord, Prog.lift, Prog.bind_op, Prog.bind_ret, Prog.pure_eq_ret, wp_deviceId]
  iintro ⟨#HR, HG, ⟨A0, A1⟩, V1, ⟨z00, z01, z10, z11⟩, ⟨N000, N010, N100, N110⟩, N001⟩ HQ
  ihave A0 := (halves3 mAc 0 fullShare (ownOut I 0 c)).1 $$ A0
  icases A0 with ⟨A00, A01⟩
  rw [← outv_own I 0 0, ← outv_own I 0 1]
  iapply (outStart 𝒱₀ 0 0 (sc 0 0 c) (by revert c; decide) rfl rfl) $$ [A00 N000 z00]
  · isplitl [A00]; · iexact A00
    isplitl [N000]; · iexact N000
    iexact z00
  iintro W00
  iapply (outStart 𝒱₀ 0 1 (sc 0 0 c) (by revert c; decide) rfl rfl) $$ [A01 N010 z01]
  · isplitl [A01]; · iexact A01
    isplitl [N010]; · iexact N010
    iexact z01
  iintro W01
  iapply (ldP 𝒱₀ mAc 1 rfl) $$ A1
  iintro A1
  iapply (ldQ 𝒱₀ mRr 1 2 rfl) $$ V1
  iintro V1
  iapply (ldP 𝒱₀ mAc 1 rfl) $$ A1
  iintro A1
  iapply (stP 𝒱₀ mAc 1 rfl (ownOut I 1 c) (by simp only [k0_pay61, shapeCast_shapeCast]; rfl)) $$ A1
  iintro A1
  ihave A1 := (halves3 mAc 1 fullShare (ownOut I 1 c)).1 $$ A1
  icases A1 with ⟨A10, A11⟩
  rw [← outv_own I 1 0, ← outv_own I 1 1]
  iapply (outStart 𝒱₀ 1 0 (sc 1 0 c) (by revert c; decide) rfl rfl) $$ [A10 N100 z10]
  · isplitl [A10]; · iexact A10
    isplitl [N100]; · iexact N100
    iexact z10
  iintro W10
  iapply (outStart 𝒱₀ 1 1 (sc 1 0 c) (by revert c; decide) rfl rfl) $$ [A11 N110 z11]
  · isplitl [A11]; · iexact A11
    isplitl [N110]; · iexact N110
    iexact z11
  iintro W11
  iapply (recvG I 𝒱₀ K 12 0 0 0 (n := 16) (m := 4) (r := 12) (r1 := 13) rfl (by rfl) rfl (by decide) (by decide) rfl rfl rfl) $$ [HG]
  · isplitr; · iexact HR
    iexact HG
  iintro HG G12
  iapply (sendG I 𝒱₀ K (n := 16) (n1 := 17) (m := 4) (r := 13) 16 0 0 1 (Fin.ext (k0_dev19_eq c)) (by revert c; decide) (by revert c; decide) rfl rfl rfl (by decide) (by decide) (by decide) (by decide) rfl) $$ [HG G12]
  · isplitr; · iexact HR
    isplitl [HG]; · iexact HG
    iexact G12
  iintro HG G12
  iapply (outWait I 𝒱₀ K 0 0 (sc 0 0 c) rfl (by rfl)) $$ [W00 HG]
  · isplitr; · iexact HR
    isplitl [W00]; · iexact W00
    iexact HG
  iintro U000 A00 z00 HG
  ihave A00 := (upz (acH 0 0) (sc 0 1 c) (v := outv I c (sc 0 1 c) 0 0)) $$ A00
  iapply (bindW 𝒱₀)
  iapply (ifG 𝒱₀ 0 0 (sc 0 1 c) 0 (j := 0) (j1 := 1) rfl rfl (by revert c; decide) (v := outv I c (sc 0 1 c) 0 0) rfl rfl rfl (by rw [outv_got I 0 0 1 (by decide)]; simp only [k0_pay62, shapeCast_shapeCast]; rfl)) $$ [G12 A00]
  · isplitl [G12]; · iexact G12
    iexact A00
  iintro G12 A00
  iapply (retW 𝒱₀)
  try dsimp only
  iapply (bindW 𝒱₀)
  iapply (ifG 𝒱₀ 0 0 (sc 0 1 c) 1 (j := 1) (j1 := 2) rfl rfl (by revert c; decide) (v := outv I c (sc 0 1 c) 0 0) rfl rfl rfl (by rw [outv_got I 0 0 1 (by decide)]; simp only [k0_pay63, shapeCast_shapeCast]; rfl)) $$ [G12 A00]
  · isplitl [G12]; · iexact G12
    iexact A00
  iintro G12 A00
  iapply (ifG 𝒱₀ 0 0 (sc 0 1 c) 2 (j := 2) (j1 := 3) rfl rfl (by revert c; decide) (v := outv I c (sc 0 1 c) 0 0) rfl rfl rfl (by rw [outv_got I 0 0 1 (by decide)]; simp only [k0_pay64, shapeCast_shapeCast]; rfl)) $$ [G12 A00]
  · isplitl [G12]; · iexact G12
    iexact A00
  iintro G12 A00
  iapply (ifG 𝒱₀ 0 0 (sc 0 1 c) 3 (j := 3) (j1 := 4) rfl rfl (by revert c; decide) (v := outv I c (sc 0 1 c) 0 0) rfl rfl rfl (by rw [outv_got I 0 0 1 (by decide)]; simp only [k0_pay65, shapeCast_shapeCast]; rfl)) $$ [G12 A00]
  · isplitl [G12]; · iexact G12
    iexact A00
  iintro G12 A00
  ihave A00 := (up4 (acH 0 0) (sc 0 1 c)) $$ A00
  iapply (outStart 𝒱₀ 0 0 (sc 0 1 c) (by revert c; decide) rfl rfl) $$ [A00 N001 z00]
  · isplitl [A00]; · iexact A00
    isplitl [N001]; · iexact N001
    iexact z00
  iintro W00
  iapply (recvG I 𝒱₀ K 13 1 0 0 (n := 17) (m := 4) (r := 13) (r1 := 14) rfl (by rfl) rfl (by decide) (by decide) rfl rfl rfl) $$ [HG]
  · isplitr; · iexact HR
    iexact HG
  iintro HG G13
  iapply (retW 𝒱₀)
  try dsimp only
  iapply (sendG I 𝒱₀ K (n := 17) (n1 := 18) (m := 4) (r := 14) 17 1 0 1 (Fin.ext (k0_dev20_eq c)) (by revert c; decide) (by revert c; decide) rfl rfl rfl (by decide) (by decide) (by decide) (by decide) rfl) $$ [HG G13]
  · isplitr; · iexact HR
    isplitl [HG]; · iexact HG
    iexact G13
  iintro HG G13
  iapply (outWait I 𝒱₀ K 1 0 (sc 1 0 c) rfl (by rfl)) $$ [W10 HG]
  · isplitr; · iexact HR
    isplitl [W10]; · iexact W10
    iexact HG
  iintro U100 A10 z10 HG
  ihave A10 := (upz (acH 1 0) (sc 1 1 c) (v := outv I c (sc 1 1 c) 0 1)) $$ A10
  iapply (bindW 𝒱₀)
  iapply (ifG 𝒱₀ 1 0 (sc 1 1 c) 0 (j := 0) (j1 := 1) rfl rfl (by revert c; decide) (v := outv I c (sc 1 1 c) 0 1) rfl rfl rfl (by rw [outv_got I 1 0 1 (by decide)]; simp only [k0_pay66, shapeCast_shapeCast]; rfl)) $$ [G13 A10]
  · isplitl [G13]; · iexact G13
    iexact A10
  iintro G13 A10
  iapply (retW 𝒱₀)
  try dsimp only
  ihave A10 := (show own' c (acH 1 0) fullShare (upTo (sc 1 1 c) 1 (outv I c (sc 1 1 c) 0 1) _) ⊢ OU I c 1 0 1 from exists_intro (Φ := fun z => own' c (acH 1 0) fullShare (upTo (sc 1 1 c) 1 (outv I c (sc 1 1 c) 0 1) z)) _) $$ A10
  iapply HQ $$ HG V1 G12 G13 U000 U100 W00 W01 W11 A10 z10

end

end Cert.KProof

end
-- ==== Proof.PhaseH.lean ====
module

public import proofs.«01_k».proof.Proof.Parts

/-!
# The eighth stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 4000000 in
/-- The eighth stage: the first gathering step of half 1. -/
theorem phH {k : BitVec 32 → BitVec 32 → PP F α} :
    iprop(Rec I K ∗ Ring I c 18 4 14 ∗ OU I c 1 0 1 ∗ zz c (cj 1 0) ∗ GR I c 1 0 1
        ∗ OF I c 0 1 0 ∗ OF I c 1 1 0 ∗ ON F c 1 0 1 ∗ ON F c 0 1 1)
      ⊢ iprop((Ring I c 20 4 16 -∗ GR I c 1 0 1 -∗ GR I c 0 1 1 -∗ GR I c 1 1 1
          -∗ OD I c 0 1 0 -∗ OD I c 1 1 0
          -∗ OF I c 1 0 1 -∗ OF I c 0 1 1 -∗ OU I c 1 1 1 -∗ zz c (cj 1 1)
          -∗ wpc 𝒱₀ c (k (Scalar.remsi (Scalar.addi (Scalar.remsi (Scalar.addi (wd2 c) 3#32) 4#32) 1#32) 4#32) 1#32) Q)
        -∗ wpc 𝒱₀ c (pH c (wd2 c) (wd5 c) (wd7 c) (scl I c) (Scalar.remsi (Scalar.addi (Scalar.remsi (Scalar.addi (wd2 c) 3#32) 4#32) 1#32) 4#32) 1#32 k) Q : sProp 𝕄) := by
  unfold pH
  simp only [k0_part38_eq_skeleton, k0_part39_eq_skeleton, k0_part40_eq_skeleton, k0_part41_eq_skeleton,
    k0_part38_skel, k0_part39_skel, k0_part40_skel, k0_part41_skel,
    smemLoad, smemLoadElt, semSignalWord, semWaitWord, Prog.lift, Prog.bind_op, Prog.bind_ret, Prog.pure_eq_ret, wp_deviceId]
  iintro ⟨#HR, HG, ⟨%zz0, A10⟩, z10, G13, W01, W11, N101, N011⟩ HQ
  iapply (bindW 𝒱₀)
  iapply (ifG 𝒱₀ 1 0 (sc 1 1 c) 1 (j := 1) (j1 := 2) rfl rfl (by revert c; decide) (v := outv I c (sc 1 1 c) 0 1) rfl rfl rfl (by rw [outv_got I 1 0 1 (by decide)]; simp only [k0_pay67, shapeCast_shapeCast]; rfl)) $$ [G13 A10]
  · isplitl [G13]; · iexact G13
    iexact A10
  iintro G13 A10
  iapply (ifG 𝒱₀ 1 0 (sc 1 1 c) 2 (j := 2) (j1 := 3) rfl rfl (by revert c; decide) (v := outv I c (sc 1 1 c) 0 1) rfl rfl rfl (by rw [outv_got I 1 0 1 (by decide)]; simp only [k0_pay68, shapeCast_shapeCast]; rfl)) $$ [G13 A10]
  · isplitl [G13]; · iexact G13
    iexact A10
  iintro G13 A10
  iapply (ifG 𝒱₀ 1 0 (sc 1 1 c) 3 (j := 3) (j1 := 4) rfl rfl (by revert c; decide) (v := outv I c (sc 1 1 c) 0 1) rfl rfl rfl (by rw [outv_got I 1 0 1 (by decide)]; simp only [k0_pay69, shapeCast_shapeCast]; rfl)) $$ [G13 A10]
  · isplitl [G13]; · iexact G13
    iexact A10
  iintro G13 A10
  ihave A10 := (up4 (acH 1 0) (sc 1 1 c)) $$ A10
  iapply (outStart 𝒱₀ 1 0 (sc 1 1 c) (by revert c; decide) rfl rfl) $$ [A10 N101 z10]
  · isplitl [A10]; · iexact A10
    isplitl [N101]; · iexact N101
    iexact z10
  iintro W10
  iapply (recvG I 𝒱₀ K 14 0 1 0 (n := 18) (m := 4) (r := 14) (r1 := 15) rfl (by rfl) rfl (by decide) (by decide) rfl rfl rfl) $$ [HG]
  · isplitr; · iexact HR
    iexact HG
  iintro HG G14
  iapply (retW 𝒱₀)
  try dsimp only
  iapply (sendG I 𝒱₀ K (n := 18) (n1 := 19) (m := 4) (r := 15) 18 0 1 1 (Fin.ext (k0_dev21_eq c)) (by revert c; decide) (by revert c; decide) rfl rfl rfl (by decide) (by decide) (by decide) (by decide) rfl) $$ [HG G14]
  · isplitr; · iexact HR
    isplitl [HG]; · iexact HG
    iexact G14
  iintro HG G14
  iapply (outWait I 𝒱₀ K 0 1 (sc 0 0 c) rfl (by rfl)) $$ [W01 HG]
  · isplitr; · iexact HR
    isplitl [W01]; · iexact W01
    iexact HG
  iintro U010 A01 z01 HG
  ihave A01 := (upz (acH 0 1) (sc 0 1 c) (v := outv I c (sc 0 1 c) 1 0)) $$ A01
  iapply (bindW 𝒱₀)
  iapply (ifG 𝒱₀ 0 1 (sc 0 1 c) 0 (j := 0) (j1 := 1) rfl rfl (by revert c; decide) (v := outv I c (sc 0 1 c) 1 0) rfl rfl rfl (by rw [outv_got I 0 1 1 (by decide)]; simp only [k0_pay70, shapeCast_shapeCast]; rfl)) $$ [G14 A01]
  · isplitl [G14]; · iexact G14
    iexact A01
  iintro G14 A01
  iapply (retW 𝒱₀)
  try dsimp only
  iapply (bindW 𝒱₀)
  iapply (ifG 𝒱₀ 0 1 (sc 0 1 c) 1 (j := 1) (j1 := 2) rfl rfl (by revert c; decide) (v := outv I c (sc 0 1 c) 1 0) rfl rfl rfl (by rw [outv_got I 0 1 1 (by decide)]; simp only [k0_pay71, shapeCast_shapeCast]; rfl)) $$ [G14 A01]
  · isplitl [G14]; · iexact G14
    iexact A01
  iintro G14 A01
  iapply (ifG 𝒱₀ 0 1 (sc 0 1 c) 2 (j := 2) (j1 := 3) rfl rfl (by revert c; decide) (v := outv I c (sc 0 1 c) 1 0) rfl rfl rfl (by rw [outv_got I 0 1 1 (by decide)]; simp only [k0_pay72, shapeCast_shapeCast]; rfl)) $$ [G14 A01]
  · isplitl [G14]; · iexact G14
    iexact A01
  iintro G14 A01
  iapply (ifG 𝒱₀ 0 1 (sc 0 1 c) 3 (j := 3) (j1 := 4) rfl rfl (by revert c; decide) (v := outv I c (sc 0 1 c) 1 0) rfl rfl rfl (by rw [outv_got I 0 1 1 (by decide)]; simp only [k0_pay73, shapeCast_shapeCast]; rfl)) $$ [G14 A01]
  · isplitl [G14]; · iexact G14
    iexact A01
  iintro G14 A01
  ihave A01 := (up4 (acH 0 1) (sc 0 1 c)) $$ A01
  iapply (outStart 𝒱₀ 0 1 (sc 0 1 c) (by revert c; decide) rfl rfl) $$ [A01 N011 z01]
  · isplitl [A01]; · iexact A01
    isplitl [N011]; · iexact N011
    iexact z01
  iintro W01
  iapply (recvG I 𝒱₀ K 15 1 1 0 (n := 19) (m := 4) (r := 15) (r1 := 16) rfl (by rfl) rfl (by decide) (by decide) rfl rfl rfl) $$ [HG]
  · isplitr; · iexact HR
    iexact HG
  iintro HG G15
  iapply (retW 𝒱₀)
  try dsimp only
  iapply (sendG I 𝒱₀ K (n := 19) (n1 := 20) (m := 4) (r := 16) 19 1 1 1 (Fin.ext (k0_dev22_eq c)) (by revert c; decide) (by revert c; decide) rfl rfl rfl (by decide) (by decide) (by decide) (by decide) rfl) $$ [HG G15]
  · isplitr; · iexact HR
    isplitl [HG]; · iexact HG
    iexact G15
  iintro HG G15
  iapply (outWait I 𝒱₀ K 1 1 (sc 1 0 c) rfl (by rfl)) $$ [W11 HG]
  · isplitr; · iexact HR
    isplitl [W11]; · iexact W11
    iexact HG
  iintro U110 A11 z11 HG
  ihave A11 := (upz (acH 1 1) (sc 1 1 c) (v := outv I c (sc 1 1 c) 1 1)) $$ A11
  iapply (bindW 𝒱₀)
  iapply (ifG 𝒱₀ 1 1 (sc 1 1 c) 0 (j := 0) (j1 := 1) rfl rfl (by revert c; decide) (v := outv I c (sc 1 1 c) 1 1) rfl rfl rfl (by rw [outv_got I 1 1 1 (by decide)]; simp only [k0_pay74, shapeCast_shapeCast]; rfl)) $$ [G15 A11]
  · isplitl [G15]; · iexact G15
    iexact A11
  iintro G15 A11
  iapply (retW 𝒱₀)
  try dsimp only
  ihave A11 := (show own' c (acH 1 1) fullShare (upTo (sc 1 1 c) 1 (outv I c (sc 1 1 c) 1 1) _) ⊢ OU I c 1 1 1 from exists_intro (Φ := fun z => own' c (acH 1 1) fullShare (upTo (sc 1 1 c) 1 (outv I c (sc 1 1 c) 1 1) z)) _) $$ A11
  iapply HQ $$ HG G13 G14 G15 U010 U110 W10 W01 A11 z11

end

end Cert.KProof

end
-- ==== Proof.PhaseI.lean ====
module

public import proofs.«01_k».proof.Proof.Parts

/-!
# The ninth stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 4000000 in
/-- The ninth stage: the second gathering step of half 0. -/
theorem phI {k : BitVec 32 → BitVec 32 → PP F α} :
    iprop(Rec I K ∗ Ring I c 20 4 16 ∗ OU I c 1 1 1 ∗ zz c (cj 1 1) ∗ GR I c 1 1 1
        ∗ OF I c 0 0 1 ∗ OF I c 1 0 1 ∗ ON F c 1 1 1 ∗ ON F c 0 0 2)
      ⊢ iprop((Ring I c 22 4 18 -∗ GR I c 1 1 1 -∗ GR I c 0 0 2 -∗ GR I c 1 0 2
          -∗ OD I c 0 0 1 -∗ OD I c 1 0 1
          -∗ OF I c 1 1 1 -∗ OF I c 0 0 2 -∗ OU I c 1 0 2 -∗ zz c (cj 1 0)
          -∗ wpc 𝒱₀ c (k (Scalar.remsi (Scalar.addi (Scalar.remsi (Scalar.addi (wd2 c) 3#32) 4#32) 2#32) 4#32) 1#32) Q)
        -∗ wpc 𝒱₀ c (pI c (wd2 c) (wd5 c) (wd7 c) (scl I c) (Scalar.remsi (Scalar.addi (Scalar.remsi (Scalar.addi (wd2 c) 3#32) 4#32) 1#32) 4#32) 1#32 k) Q : sProp 𝕄) := by
  unfold pI
  simp only [k0_part42_eq_skeleton, k0_part43_eq_skeleton, k0_part44_eq_skeleton, k0_part45_eq_skeleton,
    k0_part42_skel, k0_part43_skel, k0_part44_skel, k0_part45_skel,
    smemLoad, smemLoadElt, semSignalWord, semWaitWord, Prog.lift, Prog.bind_op, Prog.bind_ret, Prog.pure_eq_ret, wp_deviceId]
  iintro ⟨#HR, HG, ⟨%zz0, A11⟩, z11, G15, W00, W10, N111, N002⟩ HQ
  iapply (bindW 𝒱₀)
  iapply (ifG 𝒱₀ 1 1 (sc 1 1 c) 1 (j := 1) (j1 := 2) rfl rfl (by revert c; decide) (v := outv I c (sc 1 1 c) 1 1) rfl rfl rfl (by rw [outv_got I 1 1 1 (by decide)]; simp only [k0_pay75, shapeCast_shapeCast]; rfl)) $$ [G15 A11]
  · isplitl [G15]; · iexact G15
    iexact A11
  iintro G15 A11
  iapply (ifG 𝒱₀ 1 1 (sc 1 1 c) 2 (j := 2) (j1 := 3) rfl rfl (by revert c; decide) (v := outv I c (sc 1 1 c) 1 1) rfl rfl rfl (by rw [outv_got I 1 1 1 (by decide)]; simp only [k0_pay76, shapeCast_shapeCast]; rfl)) $$ [G15 A11]
  · isplitl [G15]; · iexact G15
    iexact A11
  iintro G15 A11
  iapply (ifG 𝒱₀ 1 1 (sc 1 1 c) 3 (j := 3) (j1 := 4) rfl rfl (by revert c; decide) (v := outv I c (sc 1 1 c) 1 1) rfl rfl rfl (by rw [outv_got I 1 1 1 (by decide)]; simp only [k0_pay77, shapeCast_shapeCast]; rfl)) $$ [G15 A11]
  · isplitl [G15]; · iexact G15
    iexact A11
  iintro G15 A11
  ihave A11 := (up4 (acH 1 1) (sc 1 1 c)) $$ A11
  iapply (outStart 𝒱₀ 1 1 (sc 1 1 c) (by revert c; decide) rfl rfl) $$ [A11 N111 z11]
  · isplitl [A11]; · iexact A11
    isplitl [N111]; · iexact N111
    iexact z11
  iintro W11
  iapply (recvG I 𝒱₀ K 16 0 0 1 (n := 20) (m := 4) (r := 16) (r1 := 17) rfl (by rfl) rfl (by decide) (by decide) rfl rfl rfl) $$ [HG]
  · isplitr; · iexact HR
    iexact HG
  iintro HG G16
  iapply (retW 𝒱₀)
  try dsimp only
  iapply (sendG I 𝒱₀ K (n := 20) (n1 := 21) (m := 4) (r := 17) 20 0 0 2 (Fin.ext (k0_dev23_eq c)) (by revert c; decide) (by revert c; decide) rfl rfl rfl (by decide) (by decide) (by decide) (by decide) rfl) $$ [HG G16]
  · isplitr; · iexact HR
    isplitl [HG]; · iexact HG
    iexact G16
  iintro HG G16
  iapply (outWait I 𝒱₀ K 0 0 (sc 0 1 c) rfl (by rfl)) $$ [W00 HG]
  · isplitr; · iexact HR
    isplitl [W00]; · iexact W00
    iexact HG
  iintro U001 A00 z00 HG
  ihave A00 := (upz (acH 0 0) (sc 0 2 c) (v := outv I c (sc 0 2 c) 0 0)) $$ A00
  iapply (bindW 𝒱₀)
  iapply (ifG 𝒱₀ 0 0 (sc 0 2 c) 0 (j := 0) (j1 := 1) rfl rfl (by revert c; decide) (v := outv I c (sc 0 2 c) 0 0) rfl rfl rfl (by rw [outv_got I 0 0 2 (by decide)]; simp only [k0_pay78, shapeCast_shapeCast]; rfl)) $$ [G16 A00]
  · isplitl [G16]; · iexact G16
    iexact A00
  iintro G16 A00
  iapply (retW 𝒱₀)
  try dsimp only
  iapply (bindW 𝒱₀)
  iapply (ifG 𝒱₀ 0 0 (sc 0 2 c) 1 (j := 1) (j1 := 2) rfl rfl (by revert c; decide) (v := outv I c (sc 0 2 c) 0 0) rfl rfl rfl (by rw [outv_got I 0 0 2 (by decide)]; simp only [k0_pay79, shapeCast_shapeCast]; rfl)) $$ [G16 A00]
  · isplitl [G16]; · iexact G16
    iexact A00
  iintro G16 A00
  iapply (ifG 𝒱₀ 0 0 (sc 0 2 c) 2 (j := 2) (j1 := 3) rfl rfl (by revert c; decide) (v := outv I c (sc 0 2 c) 0 0) rfl rfl rfl (by rw [outv_got I 0 0 2 (by decide)]; simp only [k0_pay80, shapeCast_shapeCast]; rfl)) $$ [G16 A00]
  · isplitl [G16]; · iexact G16
    iexact A00
  iintro G16 A00
  iapply (ifG 𝒱₀ 0 0 (sc 0 2 c) 3 (j := 3) (j1 := 4) rfl rfl (by revert c; decide) (v := outv I c (sc 0 2 c) 0 0) rfl rfl rfl (by rw [outv_got I 0 0 2 (by decide)]; simp only [k0_pay81, shapeCast_shapeCast]; rfl)) $$ [G16 A00]
  · isplitl [G16]; · iexact G16
    iexact A00
  iintro G16 A00
  ihave A00 := (up4 (acH 0 0) (sc 0 2 c)) $$ A00
  iapply (outStart 𝒱₀ 0 0 (sc 0 2 c) (by revert c; decide) rfl rfl) $$ [A00 N002 z00]
  · isplitl [A00]; · iexact A00
    isplitl [N002]; · iexact N002
    iexact z00
  iintro W00
  iapply (recvG I 𝒱₀ K 17 1 0 1 (n := 21) (m := 4) (r := 17) (r1 := 18) rfl (by rfl) rfl (by decide) (by decide) rfl rfl rfl) $$ [HG]
  · isplitr; · iexact HR
    iexact HG
  iintro HG G17
  iapply (retW 𝒱₀)
  try dsimp only
  iapply (sendG I 𝒱₀ K (n := 21) (n1 := 22) (m := 4) (r := 18) 21 1 0 2 (Fin.ext (k0_dev24_eq c)) (by revert c; decide) (by revert c; decide) rfl rfl rfl (by decide) (by decide) (by decide) (by decide) rfl) $$ [HG G17]
  · isplitr; · iexact HR
    isplitl [HG]; · iexact HG
    iexact G17
  iintro HG G17
  iapply (outWait I 𝒱₀ K 1 0 (sc 1 1 c) rfl (by rfl)) $$ [W10 HG]
  · isplitr; · iexact HR
    isplitl [W10]; · iexact W10
    iexact HG
  iintro U101 A10 z10 HG
  ihave A10 := (upz (acH 1 0) (sc 1 2 c) (v := outv I c (sc 1 2 c) 0 1)) $$ A10
  iapply (bindW 𝒱₀)
  iapply (ifG 𝒱₀ 1 0 (sc 1 2 c) 0 (j := 0) (j1 := 1) rfl rfl (by revert c; decide) (v := outv I c (sc 1 2 c) 0 1) rfl rfl rfl (by rw [outv_got I 1 0 2 (by decide)]; simp only [k0_pay82, shapeCast_shapeCast]; rfl)) $$ [G17 A10]
  · isplitl [G17]; · iexact G17
    iexact A10
  iintro G17 A10
  iapply (retW 𝒱₀)
  try dsimp only
  ihave A10 := (show own' c (acH 1 0) fullShare (upTo (sc 1 2 c) 1 (outv I c (sc 1 2 c) 0 1) _) ⊢ OU I c 1 0 2 from exists_intro (Φ := fun z => own' c (acH 1 0) fullShare (upTo (sc 1 2 c) 1 (outv I c (sc 1 2 c) 0 1) z)) _) $$ A10
  iapply HQ $$ HG G15 G16 G17 U001 U101 W11 W00 A10 z10

end

end Cert.KProof

end
-- ==== Proof.PhaseJ.lean ====
module

public import proofs.«01_k».proof.Proof.Parts

/-!
# The tenth stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 4000000 in
/-- The tenth stage: the second gathering step of half 1. -/
theorem phJ {k : BitVec 32 → PP F α} :
    iprop(Rec I K ∗ Ring I c 22 4 18 ∗ OU I c 1 0 2 ∗ zz c (cj 1 0) ∗ GR I c 1 0 2
        ∗ OF I c 0 1 1 ∗ OF I c 1 1 1 ∗ ON F c 1 0 2 ∗ ON F c 0 1 2 ∗ ON F c 1 1 2)
      ⊢ iprop((Ring I c 24 4 21 -∗ GR I c 1 0 2 -∗ GR I c 0 1 2 -∗ GR I c 1 1 2 -∗ GW I c 0 0 3
          -∗ OD I c 0 1 1 -∗ OD I c 1 1 1
          -∗ OF I c 1 0 2 -∗ OF I c 0 1 2 -∗ OF I c 1 1 2
          -∗ wpc 𝒱₀ c (k (Scalar.addi (wd2 c) 1#32)) Q)
        -∗ wpc 𝒱₀ c (pJ c (wd2 c) (wd5 c) (wd7 c) (scl I c) (Scalar.remsi (Scalar.addi (Scalar.remsi (Scalar.addi (wd2 c) 3#32) 4#32) 2#32) 4#32) 1#32 k) Q : sProp 𝕄) := by
  unfold pJ
  simp only [k0_part46_eq_skeleton, k0_part47_eq_skeleton, k0_part48_eq_skeleton, k0_part49_eq_skeleton, k0_part50_eq_skeleton,
    k0_part46_skel, k0_part47_skel, k0_part48_skel, k0_part49_skel, k0_part50_skel,
    smemLoad, smemLoadElt, semSignalWord, semWaitWord, Prog.lift, Prog.bind_op, Prog.bind_ret, Prog.pure_eq_ret, wp_deviceId]
  iintro ⟨#HR, HG, ⟨%zz0, A10⟩, z10, G17, W01, W11, N102, N012, N112⟩ HQ
  iapply (bindW 𝒱₀)
  iapply (ifG 𝒱₀ 1 0 (sc 1 2 c) 1 (j := 1) (j1 := 2) rfl rfl (by revert c; decide) (v := outv I c (sc 1 2 c) 0 1) rfl rfl rfl (by rw [outv_got I 1 0 2 (by decide)]; simp only [k0_pay83, shapeCast_shapeCast]; rfl)) $$ [G17 A10]
  · isplitl [G17]; · iexact G17
    iexact A10
  iintro G17 A10
  iapply (ifG 𝒱₀ 1 0 (sc 1 2 c) 2 (j := 2) (j1 := 3) rfl rfl (by revert c; decide) (v := outv I c (sc 1 2 c) 0 1) rfl rfl rfl (by rw [outv_got I 1 0 2 (by decide)]; simp only [k0_pay84, shapeCast_shapeCast]; rfl)) $$ [G17 A10]
  · isplitl [G17]; · iexact G17
    iexact A10
  iintro G17 A10
  iapply (ifG 𝒱₀ 1 0 (sc 1 2 c) 3 (j := 3) (j1 := 4) rfl rfl (by revert c; decide) (v := outv I c (sc 1 2 c) 0 1) rfl rfl rfl (by rw [outv_got I 1 0 2 (by decide)]; simp only [k0_pay85, shapeCast_shapeCast]; rfl)) $$ [G17 A10]
  · isplitl [G17]; · iexact G17
    iexact A10
  iintro G17 A10
  ihave A10 := (up4 (acH 1 0) (sc 1 2 c)) $$ A10
  iapply (outStart 𝒱₀ 1 0 (sc 1 2 c) (by revert c; decide) rfl rfl) $$ [A10 N102 z10]
  · isplitl [A10]; · iexact A10
    isplitl [N102]; · iexact N102
    iexact z10
  iintro W10
  iapply (recvG I 𝒱₀ K 18 0 1 1 (n := 22) (m := 4) (r := 18) (r1 := 19) rfl (by rfl) rfl (by decide) (by decide) rfl rfl rfl) $$ [HG]
  · isplitr; · iexact HR
    iexact HG
  iintro HG G18
  iapply (retW 𝒱₀)
  try dsimp only
  iapply (sendG I 𝒱₀ K (n := 22) (n1 := 23) (m := 4) (r := 19) 22 0 1 2 (Fin.ext (k0_dev25_eq c)) (by revert c; decide) (by revert c; decide) rfl rfl rfl (by decide) (by decide) (by decide) (by decide) rfl) $$ [HG G18]
  · isplitr; · iexact HR
    isplitl [HG]; · iexact HG
    iexact G18
  iintro HG G18
  iapply (outWait I 𝒱₀ K 0 1 (sc 0 1 c) rfl (by rfl)) $$ [W01 HG]
  · isplitr; · iexact HR
    isplitl [W01]; · iexact W01
    iexact HG
  iintro U011 A01 z01 HG
  ihave A01 := (upz (acH 0 1) (sc 0 2 c) (v := outv I c (sc 0 2 c) 1 0)) $$ A01
  iapply (bindW 𝒱₀)
  iapply (ifG 𝒱₀ 0 1 (sc 0 2 c) 0 (j := 0) (j1 := 1) rfl rfl (by revert c; decide) (v := outv I c (sc 0 2 c) 1 0) rfl rfl rfl (by rw [outv_got I 0 1 2 (by decide)]; simp only [k0_pay86, shapeCast_shapeCast]; rfl)) $$ [G18 A01]
  · isplitl [G18]; · iexact G18
    iexact A01
  iintro G18 A01
  iapply (retW 𝒱₀)
  try dsimp only
  iapply (bindW 𝒱₀)
  iapply (ifG 𝒱₀ 0 1 (sc 0 2 c) 1 (j := 1) (j1 := 2) rfl rfl (by revert c; decide) (v := outv I c (sc 0 2 c) 1 0) rfl rfl rfl (by rw [outv_got I 0 1 2 (by decide)]; simp only [k0_pay87, shapeCast_shapeCast]; rfl)) $$ [G18 A01]
  · isplitl [G18]; · iexact G18
    iexact A01
  iintro G18 A01
  iapply (ifG 𝒱₀ 0 1 (sc 0 2 c) 2 (j := 2) (j1 := 3) rfl rfl (by revert c; decide) (v := outv I c (sc 0 2 c) 1 0) rfl rfl rfl (by rw [outv_got I 0 1 2 (by decide)]; simp only [k0_pay88, shapeCast_shapeCast]; rfl)) $$ [G18 A01]
  · isplitl [G18]; · iexact G18
    iexact A01
  iintro G18 A01
  iapply (ifG 𝒱₀ 0 1 (sc 0 2 c) 3 (j := 3) (j1 := 4) rfl rfl (by revert c; decide) (v := outv I c (sc 0 2 c) 1 0) rfl rfl rfl (by rw [outv_got I 0 1 2 (by decide)]; simp only [k0_pay89, shapeCast_shapeCast]; rfl)) $$ [G18 A01]
  · isplitl [G18]; · iexact G18
    iexact A01
  iintro G18 A01
  ihave A01 := (up4 (acH 0 1) (sc 0 2 c)) $$ A01
  iapply (outStart 𝒱₀ 0 1 (sc 0 2 c) (by revert c; decide) rfl rfl) $$ [A01 N012 z01]
  · isplitl [A01]; · iexact A01
    isplitl [N012]; · iexact N012
    iexact z01
  iintro W01
  iapply (recvG I 𝒱₀ K 19 1 1 1 (n := 23) (m := 4) (r := 19) (r1 := 20) rfl (by rfl) rfl (by decide) (by decide) rfl rfl rfl) $$ [HG]
  · isplitr; · iexact HR
    iexact HG
  iintro HG G19
  iapply (retW 𝒱₀)
  try dsimp only
  iapply (sendG I 𝒱₀ K (n := 23) (n1 := 24) (m := 4) (r := 20) 23 1 1 2 (Fin.ext (k0_dev26_eq c)) (by revert c; decide) (by revert c; decide) rfl rfl rfl (by decide) (by decide) (by decide) (by decide) rfl) $$ [HG G19]
  · isplitr; · iexact HR
    isplitl [HG]; · iexact HG
    iexact G19
  iintro HG G19
  iapply (outWait I 𝒱₀ K 1 1 (sc 1 1 c) rfl (by rfl)) $$ [W11 HG]
  · isplitr; · iexact HR
    isplitl [W11]; · iexact W11
    iexact HG
  iintro U111 A11 z11 HG
  ihave A11 := (upz (acH 1 1) (sc 1 2 c) (v := outv I c (sc 1 2 c) 1 1)) $$ A11
  iapply (bindW 𝒱₀)
  iapply (ifG 𝒱₀ 1 1 (sc 1 2 c) 0 (j := 0) (j1 := 1) rfl rfl (by revert c; decide) (v := outv I c (sc 1 2 c) 1 1) rfl rfl rfl (by rw [outv_got I 1 1 2 (by decide)]; simp only [k0_pay90, shapeCast_shapeCast]; rfl)) $$ [G19 A11]
  · isplitl [G19]; · iexact G19
    iexact A11
  iintro G19 A11
  iapply (retW 𝒱₀)
  try dsimp only
  iapply (bindW 𝒱₀)
  iapply (ifG 𝒱₀ 1 1 (sc 1 2 c) 1 (j := 1) (j1 := 2) rfl rfl (by revert c; decide) (v := outv I c (sc 1 2 c) 1 1) rfl rfl rfl (by rw [outv_got I 1 1 2 (by decide)]; simp only [k0_pay91, shapeCast_shapeCast]; rfl)) $$ [G19 A11]
  · isplitl [G19]; · iexact G19
    iexact A11
  iintro G19 A11
  iapply (ifG 𝒱₀ 1 1 (sc 1 2 c) 2 (j := 2) (j1 := 3) rfl rfl (by revert c; decide) (v := outv I c (sc 1 2 c) 1 1) rfl rfl rfl (by rw [outv_got I 1 1 2 (by decide)]; simp only [k0_pay92, shapeCast_shapeCast]; rfl)) $$ [G19 A11]
  · isplitl [G19]; · iexact G19
    iexact A11
  iintro G19 A11
  iapply (ifG 𝒱₀ 1 1 (sc 1 2 c) 3 (j := 3) (j1 := 4) rfl rfl (by revert c; decide) (v := outv I c (sc 1 2 c) 1 1) rfl rfl rfl (by rw [outv_got I 1 1 2 (by decide)]; simp only [k0_pay93, shapeCast_shapeCast]; rfl)) $$ [G19 A11]
  · isplitl [G19]; · iexact G19
    iexact A11
  iintro G19 A11
  ihave A11 := (up4 (acH 1 1) (sc 1 2 c)) $$ A11
  iapply (outStart 𝒱₀ 1 1 (sc 1 2 c) (by revert c; decide) rfl rfl) $$ [A11 N112 z11]
  · isplitl [A11]; · iexact A11
    isplitl [N112]; · iexact N112
    iexact z11
  iintro W11
  iapply (recvG I 𝒱₀ K 20 0 0 2 (n := 24) (m := 4) (r := 20) (r1 := 21) rfl (by rfl) rfl (by decide) (by decide) rfl rfl rfl) $$ [HG]
  · isplitr; · iexact HR
    iexact HG
  iintro HG G20
  iapply (retW 𝒱₀)
  try dsimp only
  iapply HQ $$ HG G17 G18 G19 G20 U011 U111 W10 W01 W11

end

end Cert.KProof

end
-- ==== Proof.PhaseK.lean ====
module

public import proofs.«01_k».proof.Proof.Parts

/-!
# The eleventh stage
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 4000000 in
/-- The eleventh stage: the last gathering step, and the waits for the result on its way out. -/
theorem phK {k : PP F α} :
    iprop(Rec I K ∗ Ring I c 24 4 21 ∗ GW I c 0 0 3 ∗ (OF I c 0 0 2 ∗ OF I c 1 0 2 ∗ OF I c 0 1 2 ∗ OF I c 1 1 2)
        ∗ (ON F c 0 0 3 ∗ ON F c 1 0 3 ∗ ON F c 0 1 3 ∗ ON F c 1 1 3))
      ⊢ iprop((Ring I c 24 4 24 -∗ GW I c 0 0 3 -∗ GW I c 1 0 3 -∗ GW I c 0 1 3 -∗ GW I c 1 1 3
          -∗ (OD I c 0 0 2 ∗ OD I c 1 0 2 ∗ OD I c 0 1 2 ∗ OD I c 1 1 2) -∗ (OD I c 0 0 3 ∗ OD I c 0 1 3 ∗ OD I c 1 0 3)
          -∗ own' c (acH 0 0) fullShare (outv I c (sc 0 3 c) 0 0) -∗ own' c (acH 0 1) fullShare (outv I c (sc 0 3 c) 1 0)
          -∗ own' c (acH 1 0) fullShare (outv I c (sc 1 3 c) 0 1) -∗ zz c (cj 0 0) -∗ zz c (cj 0 1) -∗ zz c (cj 1 0) -∗ OF I c 1 1 3
          -∗ wpc 𝒱₀ c k Q)
        -∗ wpc 𝒱₀ c (pK c (wd2 c) (wd5 c) (wd7 c) (scl I c) (Scalar.addi (wd2 c) 1#32) k) Q : sProp 𝕄) := by
  unfold pK
  simp only [k0_part51_eq_skeleton, k0_part52_eq_skeleton, k0_part53_eq_skeleton, k0_part54_eq_skeleton, k0_part55_eq_skeleton, k0_part56_eq_skeleton,
    k0_part51_skel, k0_part52_skel, k0_part53_skel, k0_part54_skel, k0_part55_skel, k0_part56_skel,
    smemLoad, smemLoadElt, semSignalWord, semWaitWord, Prog.lift, Prog.bind_op, Prog.bind_ret, Prog.pure_eq_ret, wp_deviceId]
  iintro ⟨#HR, HG, G20, ⟨W00, W10, W01, W11⟩, ⟨N003, N103, N013, N113⟩⟩ HQ
  iapply (outWait I 𝒱₀ K 0 0 (sc 0 2 c) rfl (by rfl)) $$ [W00 HG]
  · isplitr; · iexact HR
    isplitl [W00]; · iexact W00
    iexact HG
  iintro U002 A00 z00 HG
  ihave A00 := (upz (acH 0 0) (sc 0 3 c) (v := outv I c (sc 0 3 c) 0 0)) $$ A00
  iapply (bindW 𝒱₀)
  iapply (ifG 𝒱₀ 0 0 (sc 0 3 c) 0 (j := 0) (j1 := 1) rfl rfl (by revert c; decide) (v := outv I c (sc 0 3 c) 0 0) rfl rfl rfl (by rw [outv_got I 0 0 3 (by decide)]; simp only [k0_pay94, shapeCast_shapeCast]; rfl)) $$ [G20 A00]
  · isplitl [G20]; · iexact G20
    iexact A00
  iintro G20 A00
  iapply (ifG 𝒱₀ 0 0 (sc 0 3 c) 1 (j := 1) (j1 := 2) rfl rfl (by revert c; decide) (v := outv I c (sc 0 3 c) 0 0) rfl rfl rfl (by rw [outv_got I 0 0 3 (by decide)]; simp only [k0_pay95, shapeCast_shapeCast]; rfl)) $$ [G20 A00]
  · isplitl [G20]; · iexact G20
    iexact A00
  iintro G20 A00
  iapply (ifG 𝒱₀ 0 0 (sc 0 3 c) 2 (j := 2) (j1 := 3) rfl rfl (by revert c; decide) (v := outv I c (sc 0 3 c) 0 0) rfl rfl rfl (by rw [outv_got I 0 0 3 (by decide)]; simp only [k0_pay96, shapeCast_shapeCast]; rfl)) $$ [G20 A00]
  · isplitl [G20]; · iexact G20
    iexact A00
  iintro G20 A00
  iapply (ifG 𝒱₀ 0 0 (sc 0 3 c) 3 (j := 3) (j1 := 4) rfl rfl (by revert c; decide) (v := outv I c (sc 0 3 c) 0 0) rfl rfl rfl (by rw [outv_got I 0 0 3 (by decide)]; simp only [k0_pay97, shapeCast_shapeCast]; rfl)) $$ [G20 A00]
  · isplitl [G20]; · iexact G20
    iexact A00
  iintro G20 A00
  ihave A00 := (up4 (acH 0 0) (sc 0 3 c)) $$ A00
  iapply (outStart 𝒱₀ 0 0 (sc 0 3 c) (by revert c; decide) rfl rfl) $$ [A00 N003 z00]
  · isplitl [A00]; · iexact A00
    isplitl [N003]; · iexact N003
    iexact z00
  iintro W00
  iapply (retW 𝒱₀)
  try dsimp only
  iapply (recvG I 𝒱₀ K 21 1 0 2 (n := 24) (m := 4) (r := 21) (r1 := 22) rfl (by rfl) rfl (by decide) (by decide) rfl rfl rfl) $$ [HG]
  · isplitr; · iexact HR
    iexact HG
  iintro HG G21
  iapply (outWait I 𝒱₀ K 1 0 (sc 1 2 c) rfl (by rfl)) $$ [W10 HG]
  · isplitr; · iexact HR
    isplitl [W10]; · iexact W10
    iexact HG
  iintro U102 A10 z10 HG
  ihave A10 := (upz (acH 1 0) (sc 1 3 c) (v := outv I c (sc 1 3 c) 0 1)) $$ A10
  iapply (bindW 𝒱₀)
  iapply (ifG 𝒱₀ 1 0 (sc 1 3 c) 0 (j := 0) (j1 := 1) rfl rfl (by revert c; decide) (v := outv I c (sc 1 3 c) 0 1) rfl rfl rfl (by rw [outv_got I 1 0 3 (by decide)]; simp only [k0_pay98, shapeCast_shapeCast]; rfl)) $$ [G21 A10]
  · isplitl [G21]; · iexact G21
    iexact A10
  iintro G21 A10
  iapply (ifG 𝒱₀ 1 0 (sc 1 3 c) 1 (j := 1) (j1 := 2) rfl rfl (by revert c; decide) (v := outv I c (sc 1 3 c) 0 1) rfl rfl rfl (by rw [outv_got I 1 0 3 (by decide)]; simp only [k0_pay99, shapeCast_shapeCast]; rfl)) $$ [G21 A10]
  · isplitl [G21]; · iexact G21
    iexact A10
  iintro G21 A10
  iapply (retW 𝒱₀)
  try dsimp only
  iapply (bindW 𝒱₀)
  iapply (ifG 𝒱₀ 1 0 (sc 1 3 c) 2 (j := 2) (j1 := 3) rfl rfl (by revert c; decide) (v := outv I c (sc 1 3 c) 0 1) rfl rfl rfl (by rw [outv_got I 1 0 3 (by decide)]; simp only [k0_pay100, shapeCast_shapeCast]; rfl)) $$ [G21 A10]
  · isplitl [G21]; · iexact G21
    iexact A10
  iintro G21 A10
  iapply (ifG 𝒱₀ 1 0 (sc 1 3 c) 3 (j := 3) (j1 := 4) rfl rfl (by revert c; decide) (v := outv I c (sc 1 3 c) 0 1) rfl rfl rfl (by rw [outv_got I 1 0 3 (by decide)]; simp only [k0_pay101, shapeCast_shapeCast]; rfl)) $$ [G21 A10]
  · isplitl [G21]; · iexact G21
    iexact A10
  iintro G21 A10
  ihave A10 := (up4 (acH 1 0) (sc 1 3 c)) $$ A10
  iapply (outStart 𝒱₀ 1 0 (sc 1 3 c) (by revert c; decide) rfl rfl) $$ [A10 N103 z10]
  · isplitl [A10]; · iexact A10
    isplitl [N103]; · iexact N103
    iexact z10
  iintro W10
  iapply (recvG I 𝒱₀ K 22 0 1 2 (n := 24) (m := 4) (r := 22) (r1 := 23) rfl (by rfl) rfl (by decide) (by decide) rfl rfl rfl) $$ [HG]
  · isplitr; · iexact HR
    iexact HG
  iintro HG G22
  iapply (retW 𝒱₀)
  try dsimp only
  iapply (outWait I 𝒱₀ K 0 1 (sc 0 2 c) rfl (by rfl)) $$ [W01 HG]
  · isplitr; · iexact HR
    isplitl [W01]; · iexact W01
    iexact HG
  iintro U012 A01 z01 HG
  ihave A01 := (upz (acH 0 1) (sc 0 3 c) (v := outv I c (sc 0 3 c) 1 0)) $$ A01
  iapply (bindW 𝒱₀)
  iapply (ifG 𝒱₀ 0 1 (sc 0 3 c) 0 (j := 0) (j1 := 1) rfl rfl (by revert c; decide) (v := outv I c (sc 0 3 c) 1 0) rfl rfl rfl (by rw [outv_got I 0 1 3 (by decide)]; simp only [k0_pay102, shapeCast_shapeCast]; rfl)) $$ [G22 A01]
  · isplitl [G22]; · iexact G22
    iexact A01
  iintro G22 A01
  iapply (ifG 𝒱₀ 0 1 (sc 0 3 c) 1 (j := 1) (j1 := 2) rfl rfl (by revert c; decide) (v := outv I c (sc 0 3 c) 1 0) rfl rfl rfl (by rw [outv_got I 0 1 3 (by decide)]; simp only [k0_pay103, shapeCast_shapeCast]; rfl)) $$ [G22 A01]
  · isplitl [G22]; · iexact G22
    iexact A01
  iintro G22 A01
  iapply (ifG 𝒱₀ 0 1 (sc 0 3 c) 2 (j := 2) (j1 := 3) rfl rfl (by revert c; decide) (v := outv I c (sc 0 3 c) 1 0) rfl rfl rfl (by rw [outv_got I 0 1 3 (by decide)]; simp only [k0_pay104, shapeCast_shapeCast]; rfl)) $$ [G22 A01]
  · isplitl [G22]; · iexact G22
    iexact A01
  iintro G22 A01
  iapply (ifG 𝒱₀ 0 1 (sc 0 3 c) 3 (j := 3) (j1 := 4) rfl rfl (by revert c; decide) (v := outv I c (sc 0 3 c) 1 0) rfl rfl rfl (by rw [outv_got I 0 1 3 (by decide)]; simp only [k0_pay105, shapeCast_shapeCast]; rfl)) $$ [G22 A01]
  · isplitl [G22]; · iexact G22
    iexact A01
  iintro G22 A01
  ihave A01 := (up4 (acH 0 1) (sc 0 3 c)) $$ A01
  iapply (outStart 𝒱₀ 0 1 (sc 0 3 c) (by revert c; decide) rfl rfl) $$ [A01 N013 z01]
  · isplitl [A01]; · iexact A01
    isplitl [N013]; · iexact N013
    iexact z01
  iintro W01
  iapply (retW 𝒱₀)
  try dsimp only
  iapply (recvG I 𝒱₀ K 23 1 1 2 (n := 24) (m := 4) (r := 23) (r1 := 24) rfl (by rfl) rfl (by decide) (by decide) rfl rfl rfl) $$ [HG]
  · isplitr; · iexact HR
    iexact HG
  iintro HG G23
  iapply (outWait I 𝒱₀ K 1 1 (sc 1 2 c) rfl (by rfl)) $$ [W11 HG]
  · isplitr; · iexact HR
    isplitl [W11]; · iexact W11
    iexact HG
  iintro U112 A11 z11 HG
  ihave A11 := (upz (acH 1 1) (sc 1 3 c) (v := outv I c (sc 1 3 c) 1 1)) $$ A11
  iapply (bindW 𝒱₀)
  iapply (ifG 𝒱₀ 1 1 (sc 1 3 c) 0 (j := 0) (j1 := 1) rfl rfl (by revert c; decide) (v := outv I c (sc 1 3 c) 1 1) rfl rfl rfl (by rw [outv_got I 1 1 3 (by decide)]; simp only [k0_pay106, shapeCast_shapeCast]; rfl)) $$ [G23 A11]
  · isplitl [G23]; · iexact G23
    iexact A11
  iintro G23 A11
  iapply (ifG 𝒱₀ 1 1 (sc 1 3 c) 1 (j := 1) (j1 := 2) rfl rfl (by revert c; decide) (v := outv I c (sc 1 3 c) 1 1) rfl rfl rfl (by rw [outv_got I 1 1 3 (by decide)]; simp only [k0_pay107, shapeCast_shapeCast]; rfl)) $$ [G23 A11]
  · isplitl [G23]; · iexact G23
    iexact A11
  iintro G23 A11
  iapply (ifG 𝒱₀ 1 1 (sc 1 3 c) 2 (j := 2) (j1 := 3) rfl rfl (by revert c; decide) (v := outv I c (sc 1 3 c) 1 1) rfl rfl rfl (by rw [outv_got I 1 1 3 (by decide)]; simp only [k0_pay108, shapeCast_shapeCast]; rfl)) $$ [G23 A11]
  · isplitl [G23]; · iexact G23
    iexact A11
  iintro G23 A11
  iapply (ifG 𝒱₀ 1 1 (sc 1 3 c) 3 (j := 3) (j1 := 4) rfl rfl (by revert c; decide) (v := outv I c (sc 1 3 c) 1 1) rfl rfl rfl (by rw [outv_got I 1 1 3 (by decide)]; simp only [k0_pay109, shapeCast_shapeCast]; rfl)) $$ [G23 A11]
  · isplitl [G23]; · iexact G23
    iexact A11
  iintro G23 A11
  ihave A11 := (up4 (acH 1 1) (sc 1 3 c)) $$ A11
  iapply (retW 𝒱₀)
  try dsimp only
  iapply (outStart 𝒱₀ 1 1 (sc 1 3 c) (by revert c; decide) rfl rfl) $$ [A11 N113 z11]
  · isplitl [A11]; · iexact A11
    isplitl [N113]; · iexact N113
    iexact z11
  iintro W11
  iapply (outWait I 𝒱₀ K 0 0 (sc 0 3 c) rfl (by rfl)) $$ [W00 HG]
  · isplitr; · iexact HR
    isplitl [W00]; · iexact W00
    iexact HG
  iintro U003 A00 z00 HG
  iapply (outWait I 𝒱₀ K 0 1 (sc 0 3 c) rfl (by rfl)) $$ [W01 HG]
  · isplitr; · iexact HR
    isplitl [W01]; · iexact W01
    iexact HG
  iintro U013 A01 z01 HG
  iapply (outWait I 𝒱₀ K 1 0 (sc 1 3 c) rfl (by rfl)) $$ [W10 HG]
  · isplitr; · iexact HR
    isplitl [W10]; · iexact W10
    iexact HG
  iintro U103 A10 z10 HG
  iapply HQ $$ HG G20 G21 G22 G23 [U002 U102 U012 U112] [U003 U013 U103] A00 A01 A10 z00 z01 z10 W11
  · isplitl [U002]; · iexact U002
    isplitl [U102]; · iexact U102
    isplitl [U012]; · iexact U012
    iexact U112
  · isplitl [U003]; · iexact U003
    isplitl [U013]; · iexact U013
    iexact U103

end

end Cert.KProof

end
-- ==== Proof.PhaseL.lean ====
module

public import proofs.«01_k».proof.Proof.Parts

/-!
# The last stages
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

set_option maxHeartbeats 2000000 in
/-- The twelfth stage: the last part of the result is out, and the ends of the reduction's transfers. -/
theorem phL {k : PP F α} :
    iprop(Rec I K ∗ Ring I c 24 4 24 ∗ OF I c 1 1 3 ∗ (sec c 8 ∗ sec c 9 ∗ sec c 10 ∗ sec c 11))
      ⊢ iprop((Ring I c 24 14 24 -∗ OD I c 1 1 3 -∗ own' c (acH 1 1) fullShare (outv I c (sc 1 3 c) 1 1) -∗ zz c (cj 1 1)
          -∗ wpc 𝒱₀ c k Q)
        -∗ wpc 𝒱₀ c (pL c k) Q : sProp 𝕄) := by
  unfold pL
  simp only [k0_part57_eq_skeleton, k0_part58_eq_skeleton, k0_part59_eq_skeleton, k0_part60_eq_skeleton,
    k0_part57_skel, k0_part58_skel, k0_part59_skel, k0_part60_skel,
    smemLoad, smemLoadElt, semSignalWord, semWaitWord, Prog.lift, Prog.bind_op, Prog.bind_ret, Prog.pure_eq_ret, wp_deviceId]
  iintro ⟨#HR, HG, W11, ⟨E8, E9, E10, E11⟩⟩ HQ
  iapply (outWait I 𝒱₀ K 1 1 (sc 1 3 c) rfl (by rfl)) $$ [W11 HG]
  · isplitr; · iexact HR
    isplitl [W11]; · iexact W11
    iexact HG
  iintro U113 A11 z11 HG
  iapply (swaitB I 𝒱₀ K 4 (n := 24) (m := 4) (r := 24) (m1 := 5) rfl (by rfl) rfl (by decide) (by decide) rfl) $$ [HG]
  · isplitr; · iexact HR
    iexact HG
  iintro HG
  iapply (swaitB I 𝒱₀ K 5 (n := 24) (m := 5) (r := 24) (m1 := 6) rfl (by rfl) rfl (by decide) (by decide) rfl) $$ [HG]
  · isplitr; · iexact HR
    iexact HG
  iintro HG
  iapply (swaitB I 𝒱₀ K 6 (n := 24) (m := 6) (r := 24) (m1 := 7) rfl (by rfl) rfl (by decide) (by decide) rfl) $$ [HG]
  · isplitr; · iexact HR
    iexact HG
  iintro HG
  iapply (swaitB I 𝒱₀ K 7 (n := 24) (m := 7) (r := 24) (m1 := 8) rfl (by rfl) rfl (by decide) (by decide) rfl) $$ [HG]
  · isplitr; · iexact HR
    iexact HG
  iintro HG
  iapply (swaitC I 𝒱₀ K 8 (n := 24) (m := 8) (r := 24) (m1 := 9) rfl (by rfl) rfl (by decide) (by decide) rfl) $$ [HG E8]
  · isplitr; · iexact HR
    isplitl [HG]; · iexact HG
    iexact E8
  iintro HG
  iapply (swaitC I 𝒱₀ K 9 (n := 24) (m := 9) (r := 24) (m1 := 10) rfl (by rfl) rfl (by decide) (by decide) rfl) $$ [HG E9]
  · isplitr; · iexact HR
    isplitl [HG]; · iexact HG
    iexact E9
  iintro HG
  iapply (swaitC I 𝒱₀ K 10 (n := 24) (m := 10) (r := 24) (m1 := 11) rfl (by rfl) rfl (by decide) (by decide) rfl) $$ [HG E10]
  · isplitr; · iexact HR
    isplitl [HG]; · iexact HG
    iexact E10
  iintro HG
  iapply (swaitC I 𝒱₀ K 11 (n := 24) (m := 11) (r := 24) (m1 := 12) rfl (by rfl) rfl (by decide) (by decide) rfl) $$ [HG E11]
  · isplitr; · iexact HR
    isplitl [HG]; · iexact HG
    iexact E11
  iintro HG
  iapply (swaitB I 𝒱₀ K 12 (n := 24) (m := 12) (r := 24) (m1 := 13) rfl (by rfl) rfl (by decide) (by decide) rfl) $$ [HG]
  · isplitr; · iexact HR
    iexact HG
  iintro HG
  iapply (swaitB I 𝒱₀ K 13 (n := 24) (m := 13) (r := 24) (m1 := 14) rfl (by rfl) rfl (by decide) (by decide) rfl) $$ [HG]
  · isplitr; · iexact HR
    iexact HG
  iintro HG
  iapply HQ $$ HG U113 A11 z11

set_option maxHeartbeats 2000000 in
/-- The last stage: the ends of the gathering's transfers. -/
theorem phM {Q : PUnit → sProp (MT nD τ sig Unit (Elt F) ℕ UU ℕ)} :
    iprop(Rec I K ∗ Ring I c 24 14 24) ⊢ iprop((Ring I c 24 24 24 -∗ Q ⟨⟩) -∗ wpc 𝒱₀ c (pM c) Q : sProp 𝕄) := by
  unfold pM
  simp only [k0_part61_eq_skeleton, k0_part62_eq_skeleton, k0_part63_eq_skeleton,
    k0_part61_skel, k0_part62_skel, k0_part63_skel,
    smemLoad, smemLoadElt, semSignalWord, semWaitWord, Prog.lift, Prog.bind_op, Prog.bind_ret, Prog.pure_eq_ret, wp_deviceId]
  iintro ⟨#HR, HG⟩ HQ
  iapply (swaitB I 𝒱₀ K 14 (n := 24) (m := 14) (r := 24) (m1 := 15) rfl (by rfl) rfl (by decide) (by decide) rfl) $$ [HG]
  · isplitr; · iexact HR
    iexact HG
  iintro HG
  iapply (swaitB I 𝒱₀ K 15 (n := 24) (m := 15) (r := 24) (m1 := 16) rfl (by rfl) rfl (by decide) (by decide) rfl) $$ [HG]
  · isplitr; · iexact HR
    iexact HG
  iintro HG
  iapply (swaitB I 𝒱₀ K 16 (n := 24) (m := 16) (r := 24) (m1 := 17) rfl (by rfl) rfl (by decide) (by decide) rfl) $$ [HG]
  · isplitr; · iexact HR
    iexact HG
  iintro HG
  iapply (swaitB I 𝒱₀ K 17 (n := 24) (m := 17) (r := 24) (m1 := 18) rfl (by rfl) rfl (by decide) (by decide) rfl) $$ [HG]
  · isplitr; · iexact HR
    iexact HG
  iintro HG
  iapply (swaitB I 𝒱₀ K 18 (n := 24) (m := 18) (r := 24) (m1 := 19) rfl (by rfl) rfl (by decide) (by decide) rfl) $$ [HG]
  · isplitr; · iexact HR
    iexact HG
  iintro HG
  iapply (swaitB I 𝒱₀ K 19 (n := 24) (m := 19) (r := 24) (m1 := 20) rfl (by rfl) rfl (by decide) (by decide) rfl) $$ [HG]
  · isplitr; · iexact HR
    iexact HG
  iintro HG
  iapply (swaitB I 𝒱₀ K 20 (n := 24) (m := 20) (r := 24) (m1 := 21) rfl (by rfl) rfl (by decide) (by decide) rfl) $$ [HG]
  · isplitr; · iexact HR
    iexact HG
  iintro HG
  iapply (swaitB I 𝒱₀ K 21 (n := 24) (m := 21) (r := 24) (m1 := 22) rfl (by rfl) rfl (by decide) (by decide) rfl) $$ [HG]
  · isplitr; · iexact HR
    iexact HG
  iintro HG
  iapply (swaitB I 𝒱₀ K 22 (n := 24) (m := 22) (r := 24) (m1 := 23) rfl (by rfl) rfl (by decide) (by decide) rfl) $$ [HG]
  · isplitr; · iexact HR
    iexact HG
  iintro HG
  iapply (swaitB I 𝒱₀ K 23 (n := 24) (m := 23) (r := 24) (m1 := 24) rfl (by rfl) rfl (by decide) (by decide) rfl) $$ [HG]
  · isplitr; · iexact HR
    iexact HG
  iintro HG
  iapply (retW 𝒱₀)
  iapply HQ $$ HG

end

end Cert.KProof

end
-- ==== Proof.Whole.lean ====
module

public import proofs.«01_k».proof.Proof.PhaseA
public import proofs.«01_k».proof.Proof.PhaseB
public import proofs.«01_k».proof.Proof.PhaseC
public import proofs.«01_k».proof.Proof.PhaseD
public import proofs.«01_k».proof.Proof.PhaseE
public import proofs.«01_k».proof.Proof.PhaseF
public import proofs.«01_k».proof.Proof.PhaseG
public import proofs.«01_k».proof.Proof.PhaseH
public import proofs.«01_k».proof.Proof.PhaseI
public import proofs.«01_k».proof.Proof.PhaseJ
public import proofs.«01_k».proof.Proof.PhaseK
public import proofs.«01_k».proof.Proof.PhaseL

/-!
# The whole kernel on one device
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) (𝒱₀ : Variants) (K : Dev nD × Fin 45 → ℕ) {c : Dev nD} {α : Type} {Q : α → sProp (MT nD τ sig Unit (Elt F) ℕ UU ℕ)}

/-- The blocks of its own that a device starts from. -/
def Own0 (c : Dev nD) : sProp (MT nD τ sig Unit (Elt F) ℕ UU ℕ) :=
  iprop((some' (F := F) c (acM 0) ∗ some' c (acM 1)) ∗ (some' c (x32M 0) ∗ some' c (x32M 1)) ∗ (some' c (wbM 0) ∗ some' c (wbM 1)) ∗ (some' c (xsM 0) ∗ some' c (xsM 1))
    ∗ (some' c (sbM 0 0 0) ∗ some' c (sbM 1 0 0) ∗ some' c (sbM 0 0 1) ∗ some' c (sbM 1 0 1) ∗ some' c (sbM 0 1 0) ∗ some' c (sbM 1 1 0) ∗ some' c (sbM 0 1 1) ∗ some' c (sbM 1 1 1))
    ∗ (some' c (agM 0 0 (sc 0 0 c)) ∗ some' c (agM 1 0 (sc 1 0 c)) ∗ some' c (agM 0 1 (sc 0 0 c)) ∗ some' c (agM 1 1 (sc 1 0 c))))
/-- The semaphores of its own transfers, at rest. -/
def Zer (c : Dev nD) : sProp (MT nD τ sig Unit (Elt F) ℕ UU ℕ) :=
  iprop(zz (F := F) c (2 : Fin 52) ∗ zz c (3 : Fin 52) ∗ zz c (48 : Fin 52) ∗ zz c (49 : Fin 52) ∗ zz c (50 : Fin 52) ∗ zz c (51 : Fin 52))
/-- The arguments' blocks. -/
def Arg (c : Dev nD) : sProp 𝕄 :=
  iprop(scO I c ∗ (wO I c 0 ∗ wO I c 1) ∗ xO I c 0 0 ∗ xO I c 1 0 ∗ xO I c 0 1 ∗ xO I c 1 1 ∗ xO I c 0 2 ∗ xO I c 1 2 ∗ xO I c 0 3 ∗ xO I c 1 3)
/-- The result's places. -/
def Out0 (c : Dev nD) : sProp (MT nD τ sig Unit (Elt F) ℕ UU ℕ) := iprop((ON F c 0 0 0 ∗ ON F c 0 0 1 ∗ ON F c 0 0 2 ∗ ON F c 0 0 3) ∗ (ON F c 0 1 0 ∗ ON F c 0 1 1 ∗ ON F c 0 1 2 ∗ ON F c 0 1 3) ∗ (ON F c 1 0 0 ∗ ON F c 1 0 1 ∗ ON F c 1 0 2 ∗ ON F c 1 0 3) ∗ (ON F c 1 1 0 ∗ ON F c 1 1 1 ∗ ON F c 1 1 2 ∗ ON F c 1 1 3))
/-- The result's parts. -/
def Out1 (c : Dev nD) : sProp 𝕄 := iprop((OD I c 0 0 0 ∗ OD I c 0 0 1 ∗ OD I c 0 0 2 ∗ OD I c 0 0 3) ∗ (OD I c 0 1 0 ∗ OD I c 0 1 1 ∗ OD I c 0 1 2 ∗ OD I c 0 1 3) ∗ (OD I c 1 0 0 ∗ OD I c 1 0 1 ∗ OD I c 1 0 2 ∗ OD I c 1 0 3) ∗ (OD I c 1 1 0 ∗ OD I c 1 1 1 ∗ OD I c 1 1 2 ∗ OD I c 1 1 3))
/-- The blocks of its own that a device ends with. -/
def Own1 (c : Dev nD) : sProp 𝕄 :=
  iprop((some' (F := F) c (acM 0) ∗ some' c (acM 1)) ∗ (some' c (x32M 0) ∗ some' c (x32M 1)) ∗ (some' c (wbM 0) ∗ some' c (wbM 1)) ∗ (some' c (xsM 0) ∗ some' c (xsM 1))
    ∗ ((some' c (rrM 0 0 0) ∗ some' c (rrM 1 0 0) ∗ some' c (rrM 0 0 1) ∗ some' c (rrM 1 0 1)) ∗ (some' c (rrM 0 1 0) ∗ some' c (rrM 1 1 0) ∗ some' c (rrM 0 1 1) ∗ some' c (rrM 1 1 1))
      ∗ some' c (rrP 0 2) ∗ some' c (rrP 1 2))
    ∗ ((GR I c 0 0 0 ∗ GR I c 0 0 1 ∗ GR I c 0 0 2 ∗ GW I c 0 0 3) ∗ (GR I c 0 1 0 ∗ GR I c 0 1 1 ∗ GR I c 0 1 2 ∗ GW I c 0 1 3) ∗ (GR I c 1 0 0 ∗ GR I c 1 0 1 ∗ GR I c 1 0 2 ∗ GW I c 1 0 3) ∗ (GR I c 1 1 0 ∗ GR I c 1 1 1 ∗ GR I c 1 1 2 ∗ GW I c 1 1 3)))

/-- A block at given contents is the block at some contents. -/
theorem some_of {sp : Space} {s : Shape} {e : EltTy} (M : Memref sig .tc sp s e) (v : s.Idx → Elt F e) : own' c M fullShare v ⊢ (some' c M : sProp 𝕄) :=
  exists_intro (Φ := fun v => own' c M fullShare v) v

set_option maxHeartbeats 4000000 in
/-- The reduction, and the start of the gathering. -/
theorem run1 {k : Dev nD → BitVec 32 → BitVec 32 → BitVec 32 → F .f32 → BitVec 32 → PP F α} :
    iprop(Rec I K ∗ Arg I c ∗ Zer c ∗ Own0 c ∗ OW c 26 ∗ Start c)
      ⊢ iprop((Ring I c 16 4 12 -∗ semVal (barCell c) 0 -∗ Arg I c -∗ Zer c -∗ (own' c (acM 0) fullShare (ownOut I 0 c) ∗ own' c (acM 1) fullShare (pr I 3 1 c))
          -∗ (some' c (x32M 0) ∗ some' c (x32M 1)) -∗ (some' c (wbM 0) ∗ some' c (wbM 1)) -∗ (some' c (xsM 0) ∗ some' c (xsM 1))
          -∗ (some' c (rrM 0 0 0) ∗ some' c (rrM 1 0 0) ∗ some' c (rrM 0 0 1) ∗ some' c (rrM 1 0 1)) -∗ (some' c (rrM 0 1 0) ∗ some' c (rrM 1 1 0) ∗ some' c (rrM 0 1 1) ∗ some' c (rrM 1 1 1))
          -∗ some' c (rrP 0 2) -∗ own' c (rrP 1 2) fullShare (vcat fun s => lval I 1 2 s c)
          -∗ (GR I c 0 0 0 ∗ GR I c 1 0 0 ∗ GR I c 0 1 0 ∗ GR I c 1 1 0) -∗ (sec c 8 ∗ sec c 9 ∗ sec c 10 ∗ sec c 11)
          -∗ wpc 𝒱₀ c (k c (wd2 c) (wd5 c) (wd7 c) (scl I c) (Scalar.remsi (Scalar.addi (wd2 c) 1#32) 4#32)) Q)
        -∗ wpc 𝒱₀ c (p1 k) Q : sProp 𝕄) := by
  unfold p1 Arg Zer Own0
  iintro ⟨#HR, ⟨SC, ⟨B0, B1⟩, X00, X10, X01, X11, X02, X12, X03, X13⟩, ⟨z2, z3, z00, z01, z10, z11⟩, ⟨A, ⟨C0, C1⟩, ⟨D0, D1⟩, ⟨P0, P1⟩, ⟨S000, S100, S001, S101, S010, S110, S011, S111⟩, ⟨G00, G10, G01, G11⟩⟩, HO, ST⟩ HQ
  iapply (phA I 𝒱₀ K) $$ [SC B0 B1 X00 X10 z00 z10 z2 z3 A C0 C1 D0 D1 P0 P1 S000 S100 HO ST]
  · isplitr
    · iexact HR
    isplitl [SC]
    · iexact SC
    isplitl [B0 B1]
    · isplitl [B0]
      · iexact B0
      iexact B1
    isplitl [X00 X10]
    · isplitl [X00]
      · iexact X00
      iexact X10
    isplitl [z00 z10 z2 z3]
    · isplitl [z00]
      · iexact z00
      isplitl [z10]
      · iexact z10
      isplitl [z2]
      · iexact z2
      iexact z3
    isplitl [A]
    · iexact A
    isplitl [C0 C1]
    · isplitl [C0]
      · iexact C0
      iexact C1
    isplitl [D0 D1]
    · isplitl [D0]
      · iexact D0
      iexact D1
    isplitl [P0 P1]
    · isplitl [P0]
      · iexact P0
      iexact P1
    isplitl [S000 S100]
    · isplitl [S000]
      · iexact S000
      iexact S100
    isplitl [HO]
    · iexact HO
    iexact ST
  iintro SC B0 B1 X00 X10 ⟨z00, z10, z2, z3⟩ A C D0 D1 P0 P1 S100 HG zb
  iapply (phB I 𝒱₀ K) $$ [HG D0 D1 X01 X11 X02 X12 z2 z3 A C P0 P1 S100 S001 S101]
  · isplitr
    · iexact HR
    isplitl [HG]
    · iexact HG
    isplitl [D0 D1]
    · isplitl [D0]
      · iexact D0
      iexact D1
    isplitl [X01 X11 X02 X12]
    · isplitl [X01]
      · iexact X01
      isplitl [X11]
      · iexact X11
      isplitl [X02]
      · iexact X02
      iexact X12
    isplitl [z2 z3]
    · isplitl [z2]
      · iexact z2
      iexact z3
    isplitl [A]
    · iexact A
    isplitl [C]
    · iexact C
    isplitl [P0 P1]
    · isplitl [P0]
      · iexact P0
      iexact P1
    isplitl [S100]
    · iexact S100
    isplitl [S001]
    · iexact S001
    iexact S101
  iintro HG D0 D1 X01 X11 F02 F12 A0 A1 P0 P1
  iapply (phC I 𝒱₀ K) $$ [HG D0 D1 F02 F12 X03 X13 A0 A1 P0 P1 S010 S110 S011 S111]
  · isplitr
    · iexact HR
    isplitl [HG]
    · iexact HG
    isplitl [D0 D1]
    · isplitl [D0]
      · iexact D0
      iexact D1
    isplitl [F02 F12 X03 X13]
    · isplitl [F02]
      · iexact F02
      isplitl [F12]
      · iexact F12
      isplitl [X03]
      · iexact X03
      iexact X13
    isplitl [A0 A1]
    · isplitl [A0]
      · iexact A0
      iexact A1
    isplitl [P0 P1]
    · isplitl [P0]
      · iexact P0
      iexact P1
    isplitl [S010]
    · iexact S010
    isplitl [S110]
    · iexact S110
    isplitl [S011]
    · iexact S011
    iexact S111
  iintro HG D0 D1 X02 X12 F03 F13 A0 A1 P0 P1 V S E
  iapply (phD I 𝒱₀ K) $$ [HG D0 F03 F13 A0 A1 P0 P1 S E]
  · isplitr
    · iexact HR
    isplitl [HG]
    · iexact HG
    isplitl [D0]
    · iexact D0
    isplitl [F03 F13]
    · isplitl [F03]
      · iexact F03
      iexact F13
    isplitl [A0 A1]
    · isplitl [A0]
      · iexact A0
      iexact A1
    isplitl [P0 P1]
    · isplitl [P0]
      · iexact P0
      iexact P1
    isplitl [S]
    · iexact S
    iexact E
  iintro HG D0 X03 X13 ⟨z2, z3⟩ C A0 A1 P0 P1 U E
  iapply (phE I 𝒱₀ K) $$ [HG D1 A0 A1 P1 G00 G10]
  · isplitr
    · iexact HR
    isplitl [HG]
    · iexact HG
    isplitl [D1]
    · iexact D1
    isplitl [A0 A1]
    · isplitl [A0]
      · iexact A0
      iexact A1
    isplitl [P1]
    · iexact P1
    isplitl [G00]
    · iexact G00
    iexact G10
  iintro HG D1 A0 A1 P1 V0 V1 G00 G10
  iapply (phF I 𝒱₀ K) $$ [HG A0 A1 V0 G01 G11]
  · isplitr
    · iexact HR
    isplitl [HG]
    · iexact HG
    isplitl [A0 A1]
    · isplitl [A0]
      · iexact A0
      iexact A1
    isplitl [V0]
    · iexact V0
    isplitl [G01]
    · iexact G01
    iexact G11
  iintro HG A0 A1 V0 V2 G01 G11
  ihave V1 := (joinR I 1) $$ [V1 V2]
  · isplitl [V1]; · iexact V1
    iexact V2
  ihave D0 := (some_of (wbM 0) (wb I c 0)) $$ D0
  ihave D1 := (some_of (wbM 1) (wb I c 1)) $$ D1
  ihave P0 := (some_of (xsM 0) (xb I c (rsc 0 3 c))) $$ P0
  ihave P1 := (some_of (xsM 1) (xb I c (rsc 1 3 c))) $$ P1
  ihave V0 := (some_of (rrP 0 2) (vcat fun s => lval I 0 2 s c)) $$ V0
  iapply HQ $$ HG zb [SC B0 B1 X00 X10 X01 X11 X02 X12 X03 X13] [z2 z3 z00 z01 z10 z11] [A0 A1] C [D0 D1] [P0 P1] V U V0 V1 [G00 G10 G01 G11] E
  · isplitl [SC]
    · iexact SC
    isplitl [B0 B1]
    · isplitl [B0]
      · iexact B0
      iexact B1
    isplitl [X00]
    · iexact X00
    isplitl [X10]
    · iexact X10
    isplitl [X01]
    · iexact X01
    isplitl [X11]
    · iexact X11
    isplitl [X02]
    · iexact X02
    isplitl [X12]
    · iexact X12
    isplitl [X03]
    · iexact X03
    iexact X13
  · isplitl [z2]
    · iexact z2
    isplitl [z3]
    · iexact z3
    isplitl [z00]
    · iexact z00
    isplitl [z01]
    · iexact z01
    isplitl [z10]
    · iexact z10
    iexact z11
  · isplitl [A0]
    · iexact A0
    iexact A1
  · isplitl [D0]
    · iexact D0
    iexact D1
  · isplitl [P0]
    · iexact P0
    iexact P1
  · isplitl [G00]
    · iexact G00
    isplitl [G10]
    · iexact G10
    isplitl [G01]
    · iexact G01
    iexact G11

set_option maxHeartbeats 4000000 in
/-- The gathering, and the last waits. -/
theorem run2 {Q : PUnit → sProp (MT nD τ sig Unit (Elt F) ℕ UU ℕ)} :
    iprop(Rec I K ∗ Ring I c 16 4 12 ∗ Zer c ∗ (own' c (acM 0) fullShare (ownOut I 0 c) ∗ own' c (acM 1) fullShare (pr I 3 1 c)) ∗ own' c (rrP 1 2) fullShare (vcat fun s => lval I 1 2 s c)
        ∗ (sec c 8 ∗ sec c 9 ∗ sec c 10 ∗ sec c 11) ∗ Out0 c)
      ⊢ iprop((Ring I c 24 24 24 -∗ Zer c -∗ Out1 I c -∗ (some' c (acM 0) ∗ some' c (acM 1)) -∗ some' c (rrP 1 2)
          -∗ ((GR I c 0 0 1 ∗ GR I c 0 0 2 ∗ GW I c 0 0 3) ∗ (GR I c 0 1 1 ∗ GR I c 0 1 2 ∗ GW I c 0 1 3) ∗ (GR I c 1 0 1 ∗ GR I c 1 0 2 ∗ GW I c 1 0 3) ∗ (GR I c 1 1 1 ∗ GR I c 1 1 2 ∗ GW I c 1 1 3)) -∗ Q ⟨⟩)
        -∗ wpc 𝒱₀ c (p2 c (wd2 c) (wd5 c) (wd7 c) (scl I c) (Scalar.remsi (Scalar.addi (wd2 c) 1#32) 4#32) (pM c)) Q : sProp 𝕄) := by
  unfold p2 Zer Out0 Out1
  iintro ⟨#HR, HG, ⟨z2, z3, z00, z01, z10, z11⟩, A, V1, E, ⟨⟨N000, N001, N002, N003⟩, ⟨N010, N011, N012, N013⟩, ⟨N100, N101, N102, N103⟩, ⟨N110, N111, N112, N113⟩⟩⟩ HQ
  iapply (phG I 𝒱₀ K) $$ [HG A V1 z00 z01 z10 z11 N000 N010 N100 N110 N001]
  · isplitr
    · iexact HR
    isplitl [HG]
    · iexact HG
    isplitl [A]
    · iexact A
    isplitl [V1]
    · iexact V1
    isplitl [z00 z01 z10 z11]
    · isplitl [z00]
      · iexact z00
      isplitl [z01]
      · iexact z01
      isplitl [z10]
      · iexact z10
      iexact z11
    isplitl [N000 N010 N100 N110]
    · isplitl [N000]
      · iexact N000
      isplitl [N010]
      · iexact N010
      isplitl [N100]
      · iexact N100
      iexact N110
    iexact N001
  iintro HG V1 G001 G101 U000 U100 W00 W01 W11 O z
  iapply (phH I 𝒱₀ K) $$ [HG O z G101 W01 W11 N101 N011]
  · isplitr
    · iexact HR
    isplitl [HG]
    · iexact HG
    isplitl [O]
    · iexact O
    isplitl [z]
    · iexact z
    isplitl [G101]
    · iexact G101
    isplitl [W01]
    · iexact W01
    isplitl [W11]
    · iexact W11
    isplitl [N101]
    · iexact N101
    iexact N011
  iintro HG G101 G011 G111 U010 U110 W10 W01 O z
  iapply (phI I 𝒱₀ K) $$ [HG O z G111 W00 W10 N111 N002]
  · isplitr
    · iexact HR
    isplitl [HG]
    · iexact HG
    isplitl [O]
    · iexact O
    isplitl [z]
    · iexact z
    isplitl [G111]
    · iexact G111
    isplitl [W00]
    · iexact W00
    isplitl [W10]
    · iexact W10
    isplitl [N111]
    · iexact N111
    iexact N002
  iintro HG G111 G002 G102 U001 U101 W11 W00 O z
  iapply (phJ I 𝒱₀ K) $$ [HG O z G102 W01 W11 N102 N012 N112]
  · isplitr
    · iexact HR
    isplitl [HG]
    · iexact HG
    isplitl [O]
    · iexact O
    isplitl [z]
    · iexact z
    isplitl [G102]
    · iexact G102
    isplitl [W01]
    · iexact W01
    isplitl [W11]
    · iexact W11
    isplitl [N102]
    · iexact N102
    isplitl [N012]
    · iexact N012
    iexact N112
  iintro HG G102 G012 G112 G003 U011 U111 W10 W01 W11
  iapply (phK I 𝒱₀ K) $$ [HG G003 W00 W10 W01 W11 N003 N103 N013 N113]
  · isplitr
    · iexact HR
    isplitl [HG]
    · iexact HG
    isplitl [G003]
    · iexact G003
    isplitl [W00 W10 W01 W11]
    · isplitl [W00]
      · iexact W00
      isplitl [W10]
      · iexact W10
      isplitl [W01]
      · iexact W01
      iexact W11
    isplitl [N003]
    · iexact N003
    isplitl [N103]
    · iexact N103
    isplitl [N013]
    · iexact N013
    iexact N113
  iintro HG G003 G103 G013 G113 ⟨U002, U102, U012, U112⟩ ⟨U003, U013, U103⟩ A00 A01 A10 z00 z01 z10 W11
  iapply (phL I 𝒱₀ K) $$ [HG W11 E]
  · isplitr
    · iexact HR
    isplitl [HG]
    · iexact HG
    isplitl [W11]
    · iexact W11
    iexact E
  iintro HG U113 A11 z11
  iapply (phM I 𝒱₀ K) $$ [HG]
  · isplitr
    · iexact HR
    iexact HG
  iintro HG
  ihave A00 := (some_of (acH 0 0) (outv I c (sc 0 3 c) 0 0)) $$ A00
  ihave A01 := (some_of (acH 0 1) (outv I c (sc 0 3 c) 1 0)) $$ A01
  ihave A10 := (some_of (acH 1 0) (outv I c (sc 1 3 c) 0 1)) $$ A10
  ihave A11 := (some_of (acH 1 1) (outv I c (sc 1 3 c) 1 1)) $$ A11
  ihave A0 := (some_join mAc 0) $$ [A00 A01]
  · isplitl [A00]; · iexact A00
    iexact A01
  ihave A1 := (some_join mAc 1) $$ [A10 A11]
  · isplitl [A10]; · iexact A10
    iexact A11
  ihave V1 := (some_of (rrP 1 2) (vcat fun s => lval I 1 2 s c)) $$ V1
  iapply HQ $$ HG [z2 z3 z00 z01 z10 z11] [U000 U001 U002 U003 U010 U011 U012 U013 U100 U101 U102 U103 U110 U111 U112 U113] [A0 A1] V1 [G001 G002 G003 G011 G012 G013 G101 G102 G103 G111 G112 G113]
  · isplitl [z2]
    · iexact z2
    isplitl [z3]
    · iexact z3
    isplitl [z00]
    · iexact z00
    isplitl [z01]
    · iexact z01
    isplitl [z10]
    · iexact z10
    iexact z11
  · isplitl [U000 U001 U002 U003]
    · isplitl [U000]
      · iexact U000
      isplitl [U001]
      · iexact U001
      isplitl [U002]
      · iexact U002
      iexact U003
    isplitl [U010 U011 U012 U013]
    · isplitl [U010]
      · iexact U010
      isplitl [U011]
      · iexact U011
      isplitl [U012]
      · iexact U012
      iexact U013
    isplitl [U100 U101 U102 U103]
    · isplitl [U100]
      · iexact U100
      isplitl [U101]
      · iexact U101
      isplitl [U102]
      · iexact U102
      iexact U103
    isplitl [U110]
    · iexact U110
    isplitl [U111]
    · iexact U111
    isplitl [U112]
    · iexact U112
    iexact U113
  · isplitl [A0]
    · iexact A0
    iexact A1
  · isplitl [G001 G002 G003]
    · isplitl [G001]
      · iexact G001
      isplitl [G002]
      · iexact G002
      iexact G003
    isplitl [G011 G012 G013]
    · isplitl [G011]
      · iexact G011
      isplitl [G012]
      · iexact G012
      iexact G013
    isplitl [G101 G102 G103]
    · isplitl [G101]
      · iexact G101
      isplitl [G102]
      · iexact G102
      iexact G103
    isplitl [G111]
    · iexact G111
    isplitl [G112]
    · iexact G112
    iexact G113

set_option maxHeartbeats 2000000 in
/-- The whole kernel on one device. -/
theorem run_body {Q : PUnit → sProp (MT nD τ sig Unit (Elt F) ℕ UU ℕ)} :
    iprop(Rec I K ∗ Arg I c ∗ Zer c ∗ Own0 c ∗ OW c 26 ∗ Start c ∗ Out0 c)
      ⊢ iprop((Ring I c 24 24 24 -∗ semVal (barCell c) 0 -∗ Arg I c -∗ Zer c -∗ Own1 I c -∗ Out1 I c -∗ Q ⟨⟩)
        -∗ wpc 𝒱₀ c (ap (cc0_body (F := F))) Q : sProp 𝕄) := by
  rw [show (wpc 𝒱₀ c (ap (cc0_body (F := F))) Q : sProp 𝕄) = wpc 𝒱₀ c (p1 fun d0 v2 v5 v7 v10 v755 => p2 d0 v2 v5 v7 v10 v755 (pM d0)) Q from by rw [body_eq]]
  iintro ⟨#HR, HA, HZ, HO0, HO, ST, HN⟩ HQ
  iapply (run1 I 𝒱₀ K) $$ [HA HZ HO0 HO ST]
  · isplitr
    · iexact HR
    isplitl [HA]
    · iexact HA
    isplitl [HZ]
    · iexact HZ
    isplitl [HO0]
    · iexact HO0
    isplitl [HO]
    · iexact HO
    iexact ST
  iintro HG zb HA HZ A C D P V U V0 V1 ⟨G000, G100, G010, G110⟩ E
  iapply (run2 I 𝒱₀ K) $$ [HG HZ A V1 E HN]
  · isplitr
    · iexact HR
    isplitl [HG]
    · iexact HG
    isplitl [HZ]
    · iexact HZ
    isplitl [A]
    · iexact A
    isplitl [V1]
    · iexact V1
    isplitl [E]
    · iexact E
    iexact HN
  iintro HG HZ HU A V1 ⟨⟨G001, G002, G003⟩, ⟨G011, G012, G013⟩, ⟨G101, G102, G103⟩, ⟨G111, G112, G113⟩⟩
  unfold Own1
  iapply HQ $$ HG zb HA HZ [A C D P V U V0 V1 G000 G001 G002 G003 G010 G011 G012 G013 G100 G101 G102 G103 G110 G111 G112 G113] HU
  · isplitl [A]
    · iexact A
    isplitl [C]
    · iexact C
    isplitl [D]
    · iexact D
    isplitl [P]
    · iexact P
    isplitl [V U V0 V1]
    · isplitl [V]
      · iexact V
      isplitl [U]
      · iexact U
      isplitl [V0]
      · iexact V0
      iexact V1
    isplitl [G000 G001 G002 G003]
    · isplitl [G000]
      · iexact G000
      isplitl [G001]
      · iexact G001
      isplitl [G002]
      · iexact G002
      iexact G003
    isplitl [G010 G011 G012 G013]
    · isplitl [G010]
      · iexact G010
      isplitl [G011]
      · iexact G011
      isplitl [G012]
      · iexact G012
      iexact G013
    isplitl [G100 G101 G102 G103]
    · isplitl [G100]
      · iexact G100
      isplitl [G101]
      · iexact G101
      isplitl [G102]
      · iexact G102
      iexact G103
    isplitl [G110]
    · iexact G110
    isplitl [G111]
    · iexact G111
    isplitl [G112]
    · iexact G112
    iexact G113

end

end Cert.KProof

end
-- ==== Proof.Enter.lean ====
module

public import proofs.«01_k».proof.Proof.Whole
public import Idealize.ShloMosaic.Lib.Pipeline.BigSepL

/-!
# Into the blocks and back

The arguments, the scratch buffers and the result as the blocks that the kernel works on, and the arguments and the result from their blocks.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) {c : Dev nD}

/-- A list's members, conjoined one by one. -/
theorem chainS {T : Type} (i j : T) (l : List T) (Φ : T → sProp (MT nD τ sig Unit (Elt F) ℕ UU ℕ)) : bigSepL (i :: j :: l) Φ = iprop(Φ i ∗ bigSepL (j :: l) Φ) := rfl

/-- The landing blocks of the reduction, in the order of the transfers. -/
theorem lands_lo (c : Dev nD) : (some' c (Memref.whole cc0_scratch5) : sProp 𝕄)
    ⊢ bigSepL [(0 : Fin 24), 1, 2, 3, 4, 5, 6, 7, 8, 9, 10, 11] fun i => some' (F := F) c (landM i c) :=
  BIBase.Entails.trans cut_rr.1 (Entails.of_eq (bigSep_univ_eq_bigSepL [(0, 0, 0), (1, 0, 0), (0, 0, 1), (1, 0, 1), (0, 1, 0), (1, 1, 0), (0, 1, 1), (1, 1, 1), (0, 2, 0), (1, 2, 0), (0, 2, 1), (1, 2, 1)] (by decide) (by decide) _))

/-- The order in which the gathered blocks come: the device's own, then those that land. -/
def agL (c : Dev nD) : List (Fin 2 × Fin 2 × Fin 4) :=
  [(0, 0, sc 0 0 c), (1, 0, sc 1 0 c), (0, 1, sc 0 0 c), (1, 1, sc 1 0 c),
   (0, 0, rsc 0 0 c), (1, 0, rsc 1 0 c), (0, 1, rsc 0 0 c), (1, 1, rsc 1 0 c), (0, 0, rsc 0 1 c), (1, 0, rsc 1 1 c), (0, 1, rsc 0 1 c), (1, 1, rsc 1 1 c), (0, 0, rsc 0 2 c), (1, 0, rsc 1 2 c), (0, 1, rsc 0 2 c), (1, 1, rsc 1 2 c)]
/-- The list of gathered blocks names every block. -/
theorem agL_all (c : Dev nD) : (Finset.univ : Finset (Fin 2 × Fin 2 × Fin 4)) = (agL c).toFinset := by revert c; decide +kernel
/-- The list of gathered blocks names none twice. -/
theorem agL_nodup (c : Dev nD) : (agL c).Nodup := by revert c; decide +kernel

/-- The gathered blocks: the device's own, and the landing blocks of the gathering in the order of the transfers. -/
theorem lands_hi (c : Dev nD) : (some' c (Memref.whole cc0_scratch6) : sProp 𝕄)
    ⊢ iprop((some' c (agM 0 0 (sc 0 0 c)) ∗ some' c (agM 1 0 (sc 1 0 c)) ∗ some' c (agM 0 1 (sc 0 0 c)) ∗ some' c (agM 1 1 (sc 1 0 c)))
      ∗ bigSepL [(12 : Fin 24), 13, 14, 15, 16, 17, 18, 19, 20, 21, 22, 23] fun i => some' (F := F) c (landM i c)) := by
  refine BIBase.Entails.trans cut_ag.1 ?_
  rw [bigSep_univ_eq_bigSepL (agL c) (agL_all c) (agL_nodup c)]
  unfold agL
  simp only [chainS, bigSepL_singleton]
  iintro ⟨O0, O1, O2, O3, LN⟩
  isplitl [O0 O1 O2 O3]
  · isplitl [O0]; · iexact O0
    isplitl [O1]; · iexact O1
    isplitl [O2]; · iexact O2
    iexact O3
  iexact LN

/-- All landing blocks. -/
theorem lands (c : Dev nD) : iprop((bigSepL [(0 : Fin 24), 1, 2, 3, 4, 5, 6, 7, 8, 9, 10, 11] fun i => some' (F := F) c (landM i c))
      ∗ bigSepL [(12 : Fin 24), 13, 14, 15, 16, 17, 18, 19, 20, 21, 22, 23] fun i => some' (F := F) c (landM i c))
    ⊢ (BI.bigSep Finset.univ fun i : Fin 24 => some' (F := F) c (landM i c) : sProp 𝕄) := by
  rw [bigSep_univ_eq_bigSepL ([(0 : Fin 24), 1, 2, 3, 4, 5, 6, 7, 8, 9, 10, 11] ++ [12, 13, 14, 15, 16, 17, 18, 19, 20, 21, 22, 23]) (by decide) (by decide)]
  exact Entails.of_eq (bigSepL_append _ _ _).symm

/-- The order in which direction `d` reads the chunks. -/
theorem rsc_all (d : Fin 2) (c : Dev nD) : (Finset.univ : Finset (Fin 4)) = ([rsc d 0 c, rsc d 1 c, rsc d 2 c, rsc d 3 c] : List (Fin 4)).toFinset := by revert d c; decide
/-- The four steps of a direction take four different chunks. -/
theorem rsc_nodup (d : Fin 2) (c : Dev nD) : ([rsc d 0 c, rsc d 1 c, rsc d 2 c, rsc d 3 c] : List (Fin 4)).Nodup := by revert d c; decide

/-- One share of the activations, as the chunks in the order of direction `d`. -/
theorem chunks (q : PosShare TreeShare) (d : Fin 2) (c : Dev nD) : (own' c (Memref.whole main_arg0) q (I.x c) : sProp 𝕄)
    ⊣⊢ iprop(own' c (xM (rsc d 0 c)) q (xCh (F := F) (I.x c) (rsc d 0 c)) ∗ own' c (xM (rsc d 1 c)) q (xCh (F := F) (I.x c) (rsc d 1 c))
      ∗ own' c (xM (rsc d 2 c)) q (xCh (F := F) (I.x c) (rsc d 2 c)) ∗ own' c (xM (rsc d 3 c)) q (xCh (F := F) (I.x c) (rsc d 3 c))) := by
  have e : (BI.bigSep Finset.univ fun k => (own' c (xM k) q (xCh (F := F) (I.x c) k) : sProp 𝕄)) = _ :=
    bigSep_univ_eq_bigSepL [rsc d 0 c, rsc d 1 c, rsc d 2 c, rsc d 3 c] (rsc_all d c) (rsc_nodup d c) _
  simp only [chainS, bigSepL_singleton] at e
  rw [← e]
  exact cut_x q (I.x c)

/-- The arguments, whole. -/
def Whl (c : Dev nD) : sProp 𝕄 := iprop(scO I c ∗ own' c (Memref.whole main_arg0) fullShare (I.x c) ∗ own' c (Memref.whole main_arg1) fullShare (I.w c))

/-- The whole arguments are cut into the blocks that the body reads. -/
theorem arg_in : Whl I c ⊢ Arg I c := by
  unfold Whl Arg
  iintro ⟨SC, X, W⟩
  ihave X := (own_split (Memref.whole main_arg0) (I.x c)) $$ X
  icases X with ⟨XL, XR⟩
  ihave XL := (chunks I fullShare.left 0 c).1 $$ XL
  icases XL with ⟨X00, X01, X02, X03⟩
  ihave XR := (chunks I fullShare.right 1 c).1 $$ XR
  icases XR with ⟨X10, X11, X12, X13⟩
  ihave W := (cut_w fullShare (I.w c)).1 $$ W
  ihave W := (Entails.of_eq (BI.bigSep_univ_two _)) $$ W
  icases W with ⟨W0, W1⟩
  isplitl [SC]
  · iexact SC
  isplitl [W0 W1]
  · isplitl [W0]
    · iexact W0
    iexact W1
  isplitl [X00]
  · iexact X00
  isplitl [X10]
  · iexact X10
  isplitl [X01]
  · iexact X01
  isplitl [X11]
  · iexact X11
  isplitl [X02]
  · iexact X02
  isplitl [X12]
  · iexact X12
  isplitl [X03]
  · iexact X03
  iexact X13

/-- The blocks that the body read are the whole arguments again. -/
theorem arg_out : Arg I c ⊢ Whl I c := by
  unfold Whl Arg
  iintro ⟨SC, ⟨W0, W1⟩, X00, X10, X01, X11, X02, X12, X03, X13⟩
  isplitl [SC]
  · iexact SC
  isplitr [W0 W1]
  · iapply (own_unsplit (Memref.whole main_arg0) (I.x c) (I.x c))
    isplitl [X00 X01 X02 X03]
    · iapply (chunks I fullShare.left 0 c).2
      isplitl [X00]
      · iexact X00
      isplitl [X01]
      · iexact X01
      isplitl [X02]
      · iexact X02
      iexact X03
    iapply (chunks I fullShare.right 1 c).2
    isplitl [X10]
    · iexact X10
    isplitl [X11]
    · iexact X11
    isplitl [X12]
    · iexact X12
    iexact X13
  iapply (cut_w fullShare (I.w c)).2
  iapply (Entails.of_eq (BI.bigSep_univ_two _).symm)
  isplitl [W0]
  · iexact W0
  iexact W1

/-- The order of the result's parts. -/
def outL (c : Dev nD) : List (Fin 4 × Fin 2 × Fin 2) :=
  [(sc 0 0 c, 0, 0), (sc 0 1 c, 0, 0), (sc 0 2 c, 0, 0), (sc 0 3 c, 0, 0), (sc 0 0 c, 1, 0), (sc 0 1 c, 1, 0), (sc 0 2 c, 1, 0), (sc 0 3 c, 1, 0), (sc 1 0 c, 0, 1), (sc 1 1 c, 0, 1), (sc 1 2 c, 0, 1), (sc 1 3 c, 0, 1), (sc 1 0 c, 1, 1), (sc 1 1 c, 1, 1), (sc 1 2 c, 1, 1), (sc 1 3 c, 1, 1)]
/-- The list of the result's blocks names every block. -/
theorem outL_all (c : Dev nD) : (Finset.univ : Finset (Fin 4 × Fin 2 × Fin 2)) = (outL c).toFinset := by revert c; decide +kernel
/-- The list of the result's blocks names none twice. -/
theorem outL_nodup (c : Dev nD) : (outL c).Nodup := by revert c; decide +kernel

/-- The whole result buffer is cut into its blocks. -/
theorem out_in : (some' c (Memref.whole main_v1) : sProp 𝕄) ⊢ Out0 (F := F) c := by
  refine BIBase.Entails.trans cut_out ?_
  rw [bigSep_univ_eq_bigSepL (outL c) (outL_all c) (outL_nodup c)]
  unfold outL Out0
  simp only [chainS, bigSepL_singleton]
  iintro ⟨R000, R001, R002, R003, R010, R011, R012, R013, R100, R101, R102, R103, R110, R111, R112, R113⟩
  isplitl [R000 R001 R002 R003]
  · isplitl [R000]
    · iexact R000
    isplitl [R001]
    · iexact R001
    isplitl [R002]
    · iexact R002
    iexact R003
  isplitl [R010 R011 R012 R013]
  · isplitl [R010]
    · iexact R010
    isplitl [R011]
    · iexact R011
    isplitl [R012]
    · iexact R012
    iexact R013
  isplitl [R100 R101 R102 R103]
  · isplitl [R100]
    · iexact R100
    isplitl [R101]
    · iexact R101
    isplitl [R102]
    · iexact R102
    iexact R103
  isplitl [R110]
  · iexact R110
  isplitl [R111]
  · iexact R111
  isplitl [R112]
  · iexact R112
  iexact R113

/-- The result of device `c`, its parts put together. -/
def outX (c : Dev nD) : S4096x2048.Idx → F .f32 := fun x =>
  outv I c ⟨(x 0).val / 1024, by have : (x 0).val < 4096 := (x 0).isLt; omega⟩ ⟨(x 0).val % 1024 / 512, by omega⟩
    ⟨(x 1).val / 1024, by have : (x 1).val < 2048 := (x 1).isLt; omega⟩
    (fun a => match a with
      | ⟨0, _⟩ => (⟨(x 0).val % 512, Nat.mod_lt _ (by decide)⟩ : Fin 512)
      | ⟨1, _⟩ => (⟨(x 1).val % 1024, Nat.mod_lt _ (by decide)⟩ : Fin 1024))

/-- A block of the whole result is the result on that block. -/
theorem outX_part (t : Fin 4 × Fin 2 × Fin 2) : (fun j => outX I c ((rOut t).emb j)) = outv I c t.1 t.2.1 t.2.2 := by
  obtain ⟨k, s, d⟩ := t
  funext j
  have h0 : (j 0).val < 512 := (j 0).isLt
  have h1 : (j 1).val < 1024 := (j 1).isLt
  have hk := k.isLt
  have hs := s.isLt
  have hd := d.isLt
  have e0 : (((rOut (k, s, d)).emb j) 0).val = 1024 * k.val + 512 * s.val + 1 * (j 0).val := rfl
  have e1 : (((rOut (k, s, d)).emb j) 1).val = 1024 * d.val + 1 * (j 1).val := rfl
  have key : ∀ (k' : Fin 4) (s' d' : Fin 2) (j' : S512x1024.Idx), k' = k → s' = s → d' = d → j' = j → outv I c k' s' d' j' = outv I c k s d j := by
    intro k' s' d' j' h1 h2 h3 h4; rw [h1, h2, h3, h4]
  apply key
  · apply Fin.ext; show (((rOut (k, s, d)).emb j) 0).val / 1024 = k.val; rw [e0]; omega
  · apply Fin.ext; show (((rOut (k, s, d)).emb j) 0).val % 1024 / 512 = s.val; rw [e0]; omega
  · apply Fin.ext; show (((rOut (k, s, d)).emb j) 1).val / 1024 = d.val; rw [e1]; omega
  · funext a
    match a with
    | ⟨0, _⟩ => apply Fin.ext; show (((rOut (k, s, d)).emb j) 0).val % 512 = (j 0).val; rw [e0]; omega
    | ⟨1, _⟩ => apply Fin.ext; show (((rOut (k, s, d)).emb j) 1).val % 1024 = (j 1).val; rw [e1]; omega

/-- A block of the result buffer holds its block of the whole result. -/
theorem out_part (c : Dev nD) (t : Fin 4 × Fin 2 × Fin 2) : own' c (outM t.1 t.2.1 t.2.2) fullShare (outv I c t.1 t.2.1 t.2.2)
    ⊢ (own' c (outM t.1 t.2.1 t.2.2) fullShare (fun j => outX I c ((rOut t).emb j)) : sProp 𝕄) :=
  Entails.of_eq (congrArg (own' c (outM t.1 t.2.1 t.2.2) fullShare) (outX_part I t).symm)

/-- The written blocks are the whole result. -/
theorem out_out : Out1 I c ⊢ (own' c (Memref.whole main_v1) fullShare (outX I c) : sProp 𝕄) := by
  refine BIBase.Entails.trans ?_ (BIBase.Entails.trans (bigSep_mono fun t _ => out_part I c t) (glue_out (outX I c)))
  rw [bigSep_univ_eq_bigSepL (outL c) (outL_all c) (outL_nodup c)]
  unfold outL Out1
  simp only [chainS, bigSepL_singleton]
  iintro ⟨⟨R000, R001, R002, R003⟩, ⟨R010, R011, R012, R013⟩, ⟨R100, R101, R102, R103⟩, ⟨R110, R111, R112, R113⟩⟩
  isplitl [R000]
  · iexact R000
  isplitl [R001]
  · iexact R001
  isplitl [R002]
  · iexact R002
  isplitl [R003]
  · iexact R003
  isplitl [R010]
  · iexact R010
  isplitl [R011]
  · iexact R011
  isplitl [R012]
  · iexact R012
  isplitl [R013]
  · iexact R013
  isplitl [R100]
  · iexact R100
  isplitl [R101]
  · iexact R101
  isplitl [R102]
  · iexact R102
  isplitl [R103]
  · iexact R103
  isplitl [R110]
  · iexact R110
  isplitl [R111]
  · iexact R111
  isplitl [R112]
  · iexact R112
  iexact R113

/-- The scratch buffers, whole, at some contents. -/
def Scr (c : Dev nD) : sProp (MT nD τ sig Unit (Elt F) ℕ UU ℕ) :=
  iprop(some' (F := F) c (Memref.whole cc0_scratch0) ∗ some' c (Memref.whole cc0_scratch1) ∗ some' c (Memref.whole cc0_scratch2) ∗ some' c (Memref.whole cc0_scratch3)
    ∗ some' c (Memref.whole cc0_scratch4) ∗ some' c (Memref.whole cc0_scratch5) ∗ some' c (Memref.whole cc0_scratch6))

/-- The two halves or planes of a buffer, one after the other. -/
theorem two (Φ : Fin 2 → sProp (MT nD τ sig Unit (Elt F) ℕ UU ℕ)) {P : sProp (MT nD τ sig Unit (Elt F) ℕ UU ℕ)} (h : P ⊣⊢ BI.bigSep Finset.univ Φ) : P ⊣⊢ iprop(Φ 0 ∗ Φ 1) := by
  rw [← BI.bigSep_univ_two Φ]; exact h

/-- The send buffers, block by block. -/
theorem sends (c : Dev nD) : (some' c (Memref.whole cc0_scratch4) : sProp 𝕄)
    ⊣⊢ iprop(some' c (sbM 0 0 0) ∗ some' c (sbM 1 0 0) ∗ some' c (sbM 0 0 1) ∗ some' c (sbM 1 0 1) ∗ some' c (sbM 0 1 0) ∗ some' c (sbM 1 1 0) ∗ some' c (sbM 0 1 1) ∗ some' c (sbM 1 1 1)) := by
  have e : (BI.bigSep Finset.univ fun t : Fin 2 × Fin 2 × Fin 2 => (some' c (sbM t.1 t.2.1 t.2.2) : sProp 𝕄)) = _ :=
    bigSep_univ_eq_bigSepL [(0, 0, 0), (1, 0, 0), (0, 0, 1), (1, 0, 1), (0, 1, 0), (1, 1, 0), (0, 1, 1), (1, 1, 1)] (by decide) (by decide) _
  simp only [chainS, bigSepL_singleton] at e
  rw [← e]
  exact cut_sb

/-- The scratch buffers as the blocks that the device starts from and the blocks that its neighbours fill. -/
theorem scr_in : Scr (F := F) c ⊢ iprop(Own0 (F := F) c ∗ BI.bigSep Finset.univ fun i : Fin 24 => some' (F := F) c (landM i c)) := by
  unfold Scr Own0
  iintro ⟨S0, S1, S2, S3, S4, S5, S6⟩
  ihave D := (two _ cut_wb).1 $$ S0
  ihave P := (two _ (cut_pl mXs)).1 $$ S1
  ihave C := (two _ (cut_pl mX32)).1 $$ S2
  ihave A := (two _ (cut_pl mAc)).1 $$ S3
  ihave S := (sends c).1 $$ S4
  ihave LL := (lands_lo c) $$ S5
  ihave H := (lands_hi c) $$ S6
  icases H with ⟨G, LH⟩
  isplitr [LL LH]
  · isplitl [A]
    · iexact A
    isplitl [C]
    · iexact C
    isplitl [D]
    · iexact D
    isplitl [P]
    · iexact P
    isplitl [S]
    · iexact S
    iexact G
  iapply (lands c)
  isplitl [LL]
  · iexact LL
  iexact LH

end

end Cert.KProof

end
-- ==== Proof.Exit.lean ====
module

public import proofs.«01_k».proof.Proof.Enter

/-!
# The end

What the kernel ends with, put back into whole buffers and semaphores at rest.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F) {c : Dev nD}

/-- The kernel's own semaphores: those of its local transfers, then the ring's. -/
def osem : Fin 6 ⊕ Fin 44 → SemLoc sig
  | .inl k => .dma ((![2, 3, 48, 49, 50, 51] : Fin 6 → Fin 52) k : DmaSem sig)
  | .inr k => .dma ((⟨k.val + 4, by omega⟩ : Fin 52) : DmaSem sig)

/-- The kernel's own semaphores at rest are its local ones and the ring's. -/
theorem own_sems (c : Dev nD) : (Pipeline.ownSems0 (Ix := Unit) (Name := ℕ) (U := UU) (Lvl := ℕ) (Val := Elt F) (τ := τ) osem c : sProp 𝕄)
    = iprop(Zer (F := F) c ∗ BI.bigSep Finset.univ fun k : Fin 44 => zz (F := F) c ((⟨k.val + 4, by omega⟩ : Fin 52) : DmaSem sig)) := by
  unfold Pipeline.ownSems0
  rw [bigSep_univ_sum, bigSep_univ_eq_bigSepL [(0 : Fin 6), 1, 2, 3, 4, 5] (by decide) (by decide)]
  rfl

/-- The transfers whose sending semaphore is in its last round. -/
def sndL : List (Fin 24) := [4, 5, 6, 7, 8, 9, 10, 11, 12, 13, 14, 15, 16, 17, 18, 19, 20, 21, 22, 23]
/-- All transfers. -/
def rcvL : List (Fin 24) := [0, 1, 2, 3, 4, 5, 6, 7, 8, 9, 10, 11, 12, 13, 14, 15, 16, 17, 18, 19, 20, 21, 22, 23]
/-- The place of a semaphore among the ring's. -/
def pl (j : Fin 52) : Fin 44 := ⟨(j.val - 4) % 44, Nat.mod_lt _ (by decide)⟩
/-- The list of places names every transfer semaphore. -/
theorem pl_all : (Finset.univ : Finset (Fin 44)) = (sndL.map (fun i => pl (sSem i)) ++ rcvL.map (fun i => pl (rSem i))).toFinset := by decide
/-- The list of places names no transfer semaphore twice. -/
theorem pl_nodup : (sndL.map (fun i => pl (sSem i)) ++ rcvL.map (fun i => pl (rSem i))).Nodup := by decide

/-- The place of a sending semaphore leads back to it. -/
theorem pl_s (i : Fin 24) : (⟨(pl (sSem i)).val + 4, by omega⟩ : Fin 52) = sSem i := by revert i; decide
/-- The place of a receiving semaphore leads back to it. -/
theorem pl_r (i : Fin 24) : (⟨(pl (rSem i)).val + 4, by omega⟩ : Fin 52) = rSem i := by revert i; decide

/-- The semaphores of the ring, each at rest once its last transfer has been seen to end or to arrive. -/
theorem ring_sems (c : Dev nD) : iprop((bigSepL sndL fun i => semVal (sCell c i) 0) ∗ BI.bigSep Finset.univ fun i : Fin 24 => semVal (rCell c i) 0)
    ⊢ (BI.bigSep Finset.univ fun k : Fin 44 => zz (F := F) c ((⟨k.val + 4, by omega⟩ : Fin 52) : DmaSem sig) : sProp 𝕄) := by
  rw [bigSep_univ_eq_bigSepL _ pl_all pl_nodup, bigSepL_append, bigSepL_map, bigSepL_map, bigSep_univ_eq_bigSepL rcvL (by decide) (by decide)]
  simp only [pl_s, pl_r]
  exact BIBase.Entails.rfl

/-- A list of pairs is a pair of lists. -/
theorem listSep {T : Type} (l : List T) (Φ Ψ : T → sProp (MT nD τ sig Unit (Elt F) ℕ UU ℕ)) :
    bigSepL l (fun i => iprop(Φ i ∗ Ψ i)) ⊢ iprop(bigSepL l Φ ∗ bigSepL l Ψ) := by
  induction l with
  | nil => exact (show _ ⊢ _ from by iintro H; isplitl; · iexact H
                                     iempintro)
  | cons i l ih =>
    rw [bigSepL_cons', bigSepL_cons', bigSepL_cons']
    iintro ⟨⟨H1, H2⟩, HL⟩
    ihave HL := ih $$ HL
    icases HL with ⟨L1, L2⟩
    isplitl [H1 L1]
    · isplitl [H1]
      · iexact H1
      iexact L1
    isplitl [H2]
    · iexact H2
    iexact L2

/-- A transfer that is the last on its sending semaphore leaves it at zero and its source block with the device. -/
theorem done_last (c : Dev nD) (i : Fin 24) (hi : i ∈ sndL) : done I c i ⊢ iprop(semVal (sCell c i) 0 ∗ sendPay I i c) := by
  have h : i.val / 4 ≠ 0 := by revert i; decide
  unfold done
  rw [if_neg h]

/-- What the ends of all transfers leave: semaphores at rest, and the blocks sent. -/
theorem dones (c : Dev nD) : BI.bigSep Finset.univ (done I c)
    ⊢ iprop((bigSepL sndL fun i => semVal (sCell c i) 0) ∗ bigSepL sndL fun i => sendPay I i c) := by
  rw [bigSep_univ_eq_bigSepL ([0, 1, 2, 3] ++ sndL) (by decide) (by decide), bigSepL_append]
  iintro ⟨-, H⟩
  iapply (listSep sndL _ _)
  iapply (show _ ⊢ _ from bigSepL_mono (fun i hi => done_last I c i hi)) $$ H

/-- A block that a partial sum was sent from. -/
theorem pay_lo (i : Fin 24) (d t s : Fin 2) (hi : i.val / 4 < 3) (hd : dd i = d) (hs : ss i = s) (ht : i.val / 4 % 2 = t.val) :
    sendPay I i c ⊢ (some' c (sbM d t s) : sProp 𝕄) := by
  unfold sendPay
  rw [srcM_lo i d t s hi hd hs ht, shr_lo i hi]
  exact some_of _ _

/-- A block that a complete sum was sent from, with the share that stayed. -/
theorem pay_hi (i : Fin 24) (d s : Fin 2) (a : ℕ) (hi : i.val / 4 = a + 3) (hd : dd i = d) (hs : ss i = s) :
    iprop(sendPay I i c ∗ GR I c d s a) ⊢ (some' c (agM d s (sc d a c)) : sProp 𝕄) := by
  unfold sendPay
  rw [srcM_hi i d s a hi hd hs, shr_hi i a hi]
  exact BIBase.Entails.trans (own_unsplit _ _ _) (some_of _ _)

/-- The send buffers, from the blocks sent. -/
theorem sends_out (c : Dev nD) : iprop(bigSepL [(4 : Fin 24), 5, 6, 7, 8, 9, 10, 11] fun i => sendPay I i c) ⊢ (some' c (Memref.whole cc0_scratch4) : sProp 𝕄) := by
  simp only [chainS, bigSepL_singleton]
  iintro ⟨T4, T5, T6, T7, T8, T9, T10, T11⟩
  iapply (sends c).2
  isplitl [T8]
  · iapply (pay_lo I (c := c) 8 0 0 0 (by decide) rfl rfl rfl); iexact T8
  isplitl [T9]
  · iapply (pay_lo I (c := c) 9 1 0 0 (by decide) rfl rfl rfl); iexact T9
  isplitl [T10]
  · iapply (pay_lo I (c := c) 10 0 0 1 (by decide) rfl rfl rfl); iexact T10
  isplitl [T11]
  · iapply (pay_lo I (c := c) 11 1 0 1 (by decide) rfl rfl rfl); iexact T11
  isplitl [T4]
  · iapply (pay_lo I (c := c) 4 0 1 0 (by decide) rfl rfl rfl); iexact T4
  isplitl [T5]
  · iapply (pay_lo I (c := c) 5 1 1 0 (by decide) rfl rfl rfl); iexact T5
  isplitl [T6]
  · iapply (pay_lo I (c := c) 6 0 1 1 (by decide) rfl rfl rfl); iexact T6
  iapply (pay_lo I (c := c) 7 1 1 1 (by decide) rfl rfl rfl); iexact T7

/-- The order of the gathered blocks at the end. -/
def gaL (c : Dev nD) : List (Fin 2 × Fin 2 × Fin 4) :=
  [(0, 0, sc 0 0 c), (0, 0, sc 0 1 c), (0, 0, sc 0 2 c), (0, 0, sc 0 3 c), (0, 1, sc 0 0 c), (0, 1, sc 0 1 c), (0, 1, sc 0 2 c), (0, 1, sc 0 3 c), (1, 0, sc 1 0 c), (1, 0, sc 1 1 c), (1, 0, sc 1 2 c), (1, 0, sc 1 3 c), (1, 1, sc 1 0 c), (1, 1, sc 1 1 c), (1, 1, sc 1 2 c), (1, 1, sc 1 3 c)]
/-- The list of gathered blocks, in the order of their landing, names every block. -/
theorem gaL_all (c : Dev nD) : (Finset.univ : Finset (Fin 2 × Fin 2 × Fin 4)) = (gaL c).toFinset := by revert c; decide +kernel
/-- The list of gathered blocks, in the order of their landing, names none twice. -/
theorem gaL_nodup (c : Dev nD) : (gaL c).Nodup := by revert c; decide +kernel

/-- The gathered buffer, from the blocks sent and the shares that stayed. -/
theorem gathered_out (c : Dev nD) : iprop((bigSepL [(12 : Fin 24), 13, 14, 15, 16, 17, 18, 19, 20, 21, 22, 23] fun i => sendPay I i c) ∗ ((GR I c 0 0 0 ∗ GR I c 0 0 1 ∗ GR I c 0 0 2 ∗ GW I c 0 0 3) ∗ (GR I c 0 1 0 ∗ GR I c 0 1 1 ∗ GR I c 0 1 2 ∗ GW I c 0 1 3) ∗ (GR I c 1 0 0 ∗ GR I c 1 0 1 ∗ GR I c 1 0 2 ∗ GW I c 1 0 3) ∗ (GR I c 1 1 0 ∗ GR I c 1 1 1 ∗ GR I c 1 1 2 ∗ GW I c 1 1 3)))
    ⊢ (some' c (Memref.whole cc0_scratch6) : sProp 𝕄) := by
  refine BIBase.Entails.trans ?_ cut_ag.2
  rw [bigSep_univ_eq_bigSepL (gaL c) (gaL_all c) (gaL_nodup c)]
  unfold gaL
  simp only [chainS, bigSepL_singleton]
  iintro ⟨⟨T12, T13, T14, T15, T16, T17, T18, T19, T20, T21, T22, T23⟩, ⟨G000, G001, G002, G003⟩, ⟨G010, G011, G012, G013⟩, ⟨G100, G101, G102, G103⟩, ⟨G110, G111, G112, G113⟩⟩
  isplitl [T12 G000]
  · iapply (pay_hi I (c := c) 12 0 0 0 (by decide) rfl rfl)
    isplitl [T12]
    · iexact T12
    iexact G000
  isplitl [T16 G001]
  · iapply (pay_hi I (c := c) 16 0 0 1 (by decide) rfl rfl)
    isplitl [T16]
    · iexact T16
    iexact G001
  isplitl [T20 G002]
  · iapply (pay_hi I (c := c) 20 0 0 2 (by decide) rfl rfl)
    isplitl [T20]
    · iexact T20
    iexact G002
  isplitl [G003]
  · iapply (some_of (agM 0 0 (sc 0 3 c)) _); iexact G003
  isplitl [T14 G010]
  · iapply (pay_hi I (c := c) 14 0 1 0 (by decide) rfl rfl)
    isplitl [T14]
    · iexact T14
    iexact G010
  isplitl [T18 G011]
  · iapply (pay_hi I (c := c) 18 0 1 1 (by decide) rfl rfl)
    isplitl [T18]
    · iexact T18
    iexact G011
  isplitl [T22 G012]
  · iapply (pay_hi I (c := c) 22 0 1 2 (by decide) rfl rfl)
    isplitl [T22]
    · iexact T22
    iexact G012
  isplitl [G013]
  · iapply (some_of (agM 0 1 (sc 0 3 c)) _); iexact G013
  isplitl [T13 G100]
  · iapply (pay_hi I (c := c) 13 1 0 0 (by decide) rfl rfl)
    isplitl [T13]
    · iexact T13
    iexact G100
  isplitl [T17 G101]
  · iapply (pay_hi I (c := c) 17 1 0 1 (by decide) rfl rfl)
    isplitl [T17]
    · iexact T17
    iexact G101
  isplitl [T21 G102]
  · iapply (pay_hi I (c := c) 21 1 0 2 (by decide) rfl rfl)
    isplitl [T21]
    · iexact T21
    iexact G102
  isplitl [G103]
  · iapply (some_of (agM 1 0 (sc 1 3 c)) _); iexact G103
  isplitl [T15 G110]
  · iapply (pay_hi I (c := c) 15 1 1 0 (by decide) rfl rfl)
    isplitl [T15]
    · iexact T15
    iexact G110
  isplitl [T19 G111]
  · iapply (pay_hi I (c := c) 19 1 1 1 (by decide) rfl rfl)
    isplitl [T19]
    · iexact T19
    iexact G111
  isplitl [T23 G112]
  · iapply (pay_hi I (c := c) 23 1 1 2 (by decide) rfl rfl)
    isplitl [T23]
    · iexact T23
    iexact G112
  iapply (some_of (agM 1 1 (sc 1 3 c)) _); iexact G113

/-- The landing buffers, block by block. -/
theorem landings (c : Dev nD) : iprop((some' c (rrM 0 0 0) ∗ some' c (rrM 1 0 0) ∗ some' c (rrM 0 0 1) ∗ some' c (rrM 1 0 1)) ∗ (some' c (rrM 0 1 0) ∗ some' c (rrM 1 1 0) ∗ some' c (rrM 0 1 1) ∗ some' c (rrM 1 1 1))
      ∗ some' c (rrP 0 2) ∗ some' c (rrP 1 2))
    ⊢ (some' c (Memref.whole cc0_scratch5) : sProp 𝕄) := by
  refine BIBase.Entails.trans ?_ cut_rr.2
  rw [bigSep_univ_eq_bigSepL [(0, 0, 0), (1, 0, 0), (0, 0, 1), (1, 0, 1), (0, 1, 0), (1, 1, 0), (0, 1, 1), (1, 1, 1), (0, 2, 0), (0, 2, 1), (1, 2, 0), (1, 2, 1)] (by decide) (by decide)]
  simp only [chainS, bigSepL_singleton]
  iintro ⟨⟨A0, A1, A2, A3⟩, ⟨B0, B1, B2, B3⟩, ⟨%v, P0⟩, ⟨%w, P1⟩⟩
  ihave P0 := (halves4 mRr 0 2 fullShare v).1 $$ P0
  icases P0 with ⟨P00, P01⟩
  ihave P1 := (halves4 mRr 1 2 fullShare w).1 $$ P1
  icases P1 with ⟨P10, P11⟩
  ihave P00 := (some_of (rrM 0 2 0) _) $$ P00
  ihave P01 := (some_of (rrM 0 2 1) _) $$ P01
  ihave P10 := (some_of (rrM 1 2 0) _) $$ P10
  ihave P11 := (some_of (rrM 1 2 1) _) $$ P11
  isplitl [A0]
  · iexact A0
  isplitl [A1]
  · iexact A1
  isplitl [A2]
  · iexact A2
  isplitl [A3]
  · iexact A3
  isplitl [B0]
  · iexact B0
  isplitl [B1]
  · iexact B1
  isplitl [B2]
  · iexact B2
  isplitl [B3]
  · iexact B3
  isplitl [P00]
  · iexact P00
  isplitl [P01]
  · iexact P01
  isplitl [P10]
  · iexact P10
  iexact P11

/-- The scratch buffers at the end, from the blocks. -/
theorem scr_out (c : Dev nD) : iprop(Own1 I c ∗ bigSepL sndL fun i => sendPay I i c) ⊢ Scr (F := F) c := by
  unfold Own1 Scr
  rw [show sndL = [4, 5, 6, 7, 8, 9, 10, 11] ++ [12, 13, 14, 15, 16, 17, 18, 19, 20, 21, 22, 23] from rfl, bigSepL_append]
  iintro ⟨⟨A, C, D, P, R, G⟩, SB, SG⟩
  isplitl [D]
  · iapply (two _ cut_wb).2; iexact D
  isplitl [P]
  · iapply (two _ (cut_pl mXs)).2; iexact P
  isplitl [C]
  · iapply (two _ (cut_pl mX32)).2; iexact C
  isplitl [A]
  · iapply (two _ (cut_pl mAc)).2; iexact A
  isplitl [SB]
  · iapply (sends_out I c); iexact SB
  isplitl [R]
  · iapply (landings c); iexact R
  iapply (gathered_out I c)
  isplitl [SG]
  · iexact SG
  iexact G

/-- The state of the ring when all its transfers have been seen to end and to arrive. -/
theorem ring_end (c : Dev nD) : Ring I c 24 24 24 ⊢ iprop(OW c 0 ∗ BI.bigSep Finset.univ (done I c) ∗ BI.bigSep Finset.univ fun i : Fin 24 => semVal (rCell c i) 0) := by
  have e1 : sItem I c 24 24 = done I c := funext fun i => if_pos i.isLt
  have e2 : rItem (F := F) c 24 = fun i => semVal (rCell c i) 0 := funext fun i => if_pos i.isLt
  unfold Ring
  rw [e1, e2]

/-- The end: the scratch buffers whole, the semaphores at rest, nothing owed. -/
theorem leave (c : Dev nD) : iprop(Ring I c 24 24 24 ∗ Zer (F := F) c ∗ Own1 I c)
    ⊢ iprop(OW c 0 ∗ Scr (F := F) c ∗ Pipeline.ownSems0 (Ix := Unit) (Name := ℕ) (U := UU) (Lvl := ℕ) (Val := Elt F) (τ := τ) osem c) := by
  iintro ⟨HG, Z, O⟩
  ihave HG := (ring_end I c) $$ HG
  icases HG with ⟨HO, HD, HV⟩
  ihave HD := (dones I c) $$ HD
  icases HD with ⟨HS, HP⟩
  isplitl [HO]
  · iexact HO
  isplitl [O HP]
  · iapply (scr_out I c)
    isplitl [O]
    · iexact O
    iexact HP
  rw [own_sems]
  isplitl [Z]
  · iexact Z
  iapply (ring_sems c)
  isplitl [HS]
  · iexact HS
  iexact HV

end

end Cert.KProof

end
-- ==== Proof.Deal.lean ====
module

public import proofs.«01_k».proof.Proof.Exit

/-!
# The dealing

The rounds of the ring are set up at launch, and the rights to pay are dealt around to the devices that pay.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (I : Ins F)

/-! ### The cells and the rights of the ring -/

/-- The places after the first of the list of semaphores are the transfer semaphores from the fifth on. -/
theorem csem_succ (k : Fin 44) : csem k.succ = .dma ((⟨k.val + 4, by omega⟩ : Fin 52) : DmaSem sig) := by
  have h : (k.succ : Fin 45).val = k.val + 1 := rfl
  unfold csem
  rw [dif_neg (by rw [h]; omega)]
  exact congrArg SemLoc.dma (Fin.ext (by show (k.succ : Fin 45).val + 3 = k.val + 4; rw [h]))

/-- The list of semaphores names none twice. -/
theorem csem_inj {k k' : Fin 45} (h : csem k = csem k') : k = k' := by
  refine Fin.cases ?_ (fun k => ?_) k k' h <;> refine fun k' => Fin.cases ?_ (fun k' => ?_) k' <;> intro h
  · rfl
  · rw [csem_succ] at h; exact absurd h (by rw [csem_bar]; exact fun h => by cases h)
  · rw [csem_succ] at h; exact absurd h (by rw [csem_bar]; exact fun h => by cases h)
  · rw [csem_succ, csem_succ] at h
    have h1 : (⟨k.val + 4, by omega⟩ : Fin 52) = ⟨k'.val + 4, by omega⟩ := SemLoc.dma.inj h
    have h2 : k.val + 4 = k'.val + 4 := congrArg Fin.val h1
    exact congrArg Fin.succ (Fin.ext (by omega))

/-- No two devices and places share a semaphore cell. -/
theorem kcell_inj : Function.Injective (kcell : Dev nD × Fin 45 → GSem nD τ sig) := by
  rintro ⟨c, k⟩ ⟨c', k'⟩ h
  have h1 : c = c' := congrArg (fun g : GSem nD τ sig => g.1.1) h
  have h2 : k = k' := csem_inj (congrArg Prod.snd h)
  rw [h1, h2]

/-- All cells of the ring. -/
def ringCells : Finset (GSem nD τ sig) := Finset.univ.map ⟨kcell, kcell_inj⟩

/-- The rights to pay into a device's cells: its barrier's two, one for each transfer that its sending semaphores count, one for each arrival. -/
def tokOf (p : Dev nD × (Bool ⊕ Fin 24 ⊕ Fin 24)) : GSem nD τ sig × ℕ × Bool := match p.2 with
  | .inl b => (barCell p.1, 0, b)
  | .inr (.inl i) => (sCell p.1 i, rd i, false)
  | .inr (.inr i) => (rCell p.1 i, 0, false)

/-- Two sending duties on one semaphore in one round are the same. -/
theorem s_inj : ∀ i i' : Fin 24, sSem i = sSem i' → rd i = rd i' → i = i' := by decide
/-- Each receiving semaphore belongs to one transfer. -/
theorem r_inj : ∀ i i' : Fin 24, rSem i = rSem i' → i = i' := by decide

/-- No duty is listed twice. -/
theorem tokOf_inj : Function.Injective tokOf := by
  rintro ⟨c, a⟩ ⟨c', a'⟩ h
  have hc : c = c' := by
    have := congrArg (fun x : GSem nD τ sig × ℕ × Bool => x.1.1.1) h
    rcases a with b | i | i <;> rcases a' with b' | i' | i' <;> exact this
  have hs : (tokOf (c, a)).1.2 = (tokOf (c', a')).1.2 := congrArg (fun x : GSem nD τ sig × ℕ × Bool => x.1.2) h
  have hr : (tokOf (c, a)).2 = (tokOf (c', a')).2 := congrArg (fun x : GSem nD τ sig × ℕ × Bool => x.2) h
  subst hc
  congr 1
  rcases a with b | i | i <;> rcases a' with b' | i' | i'
  · exact congrArg Sum.inl (congrArg Prod.snd hr)
  · exact absurd hs (fun h => by cases h)
  · exact absurd hs (fun h => by cases h)
  · exact absurd hs (fun h => by cases h)
  · exact congrArg (fun i => Sum.inr (Sum.inl i)) (s_inj i i' (SemLoc.dma.inj hs) (congrArg Prod.fst hr))
  · exact absurd (SemLoc.dma.inj hs) (sSem_ne_rSem i i')
  · exact absurd hs (fun h => by cases h)
  · exact absurd (SemLoc.dma.inj hs).symm (sSem_ne_rSem i' i)
  · exact congrArg (fun i => Sum.inr (Sum.inr i)) (r_inj i i' (SemLoc.dma.inj hs))

/-- All rights. -/
def ringToks : Finset (GSem nD τ sig × ℕ × Bool) := Finset.univ.map ⟨tokOf, tokOf_inj⟩

/-- What the launch's ghost element is. -/
def u₀ : UU := (initOf (Pipeline.cells cfgs cellOf_inj) (Pipeline.launchToks cfgs cellOf_inj), (initOf ringCells ringToks, 1))

/-- The rights to pay into device `c`'s own cells. -/
def toks (c : Dev nD) : sProp (MT nD τ sig Unit (Elt F) ℕ UU ℕ) :=
  iprop((BI.bigSep Finset.univ fun b : Bool => dutyTok (ER (F := F)) (barCell c) 0 b)
    ∗ (BI.bigSep Finset.univ fun i : Fin 24 => dutyTok ER (sCell c i) (rd i) false)
    ∗ BI.bigSep Finset.univ fun i : Fin 24 => dutyTok ER (rCell c i) 0 false)

/-- What the launch deals to device `c`. -/
def G (c : Dev nD) : sProp 𝕄 :=
  iprop((BI.bigSep Finset.univ fun k : Fin 45 => roundState ER (Rd I) (kcell (c, k)) 0)
    ∗ (BI.bigSep Finset.univ fun k : Fin 45 => iprop(atPos ER (kcell (c, k)) 0 ∅ 0 ∗ reached ER (kcell (c, k)) 0)) ∗ toks (F := F) c)

/-- A resource for each cell is a resource for each device's places. -/
theorem over_cells (Φ : GSem nD τ sig → sProp (MT nD τ sig Unit (Elt F) ℕ UU ℕ)) :
    BI.bigSep ringCells Φ = BI.bigSep Finset.univ fun c : Dev nD => BI.bigSep Finset.univ fun k : Fin 45 => Φ (kcell (c, k)) := by
  unfold ringCells; rw [bigSep_map, bigSep_univ_prod]; rfl

/-- The duties' tokens are each device's tokens. -/
theorem over_toks : BI.bigSep ringToks (fun x => (dutyTok (ER (F := F)) x.1 x.2.1 x.2.2 : sProp (MT nD τ sig Unit (Elt F) ℕ UU ℕ)))
    = BI.bigSep Finset.univ fun c : Dev nD => toks (F := F) c := by
  unfold ringToks
  rw [bigSep_map, bigSep_univ_prod]
  refine bigSep_congr fun c _ => ?_
  rw [bigSep_univ_sum, bigSep_univ_sum]
  rfl

/-- The ring's ghost element is what each device is dealt. -/
theorem fund_ring : BI.own (ER (F := F) (initOf ringCells ringToks)) ⊢ (|==> BI.bigSep Finset.univ (G I) : sProp 𝕄) := by
  iintro HX
  imod (Rounds.fund ER (Rd I) ringCells ringToks) $$ HX with ⟨Hst, Hr, Hat, Htok⟩
  imodintro
  ihave Hst := (Entails.of_eq (over_cells fun g => roundState ER (Rd I) g 0)) $$ Hst
  ihave Hat := (Entails.of_eq (over_cells fun g => atPos (ER (F := F)) g 0 ∅ 0)) $$ Hat
  ihave Hr := (Entails.of_eq (over_cells fun g => reached (ER (F := F)) g 0)) $$ Hr
  ihave Htok := (Entails.of_eq over_toks) $$ Htok
  unfold G
  simp only [bigSep_sep']
  isplitl [Hst]
  · iexact Hst
  isplitl [Hat Hr]
  · isplitl [Hat]
    · iexact Hat
    iexact Hr
  iexact Htok

/-! ### The semaphores at launch -/

/-- The one semaphore that outlives the call is the barrier. -/
theorem unscoped_sems (c : Dev nD) : (unscopedSems0 c : sProp 𝕄) = semVal (barCell c) 0 := by
  unfold unscopedSems0; rw [bigSep_eq_bigSepL_of_eq [SemLoc.reg barS] (by decide) (by decide)]; rfl

/-- The first place, and the forty-four that follow. -/
theorem fin45 (Φ : Fin 45 → sProp (MT nD τ sig Unit (Elt F) ℕ UU ℕ)) :
    BI.bigSep Finset.univ Φ = iprop(Φ 0 ∗ BI.bigSep Finset.univ fun k : Fin 44 => Φ k.succ) := by
  rw [bigSep_univ_eq_bigSepL (0 :: (List.finRange 44).map Fin.succ) (by decide) (by decide), bigSepL_cons', bigSepL_map,
    bigSep_univ_eq_bigSepL (List.finRange 44) (by decide) (by decide)]

/-- The semaphores at rest are those of the local copies and those of the protocol. -/
theorem sems_in (c : Dev nD) :
    iprop(Pipeline.ownSems0 (Ix := Unit) (Name := ℕ) (U := UU) (Lvl := ℕ) (Val := Elt F) (τ := τ) osem c ∗ unscopedSems0 c)
      ⊢ (iprop(Zer (F := F) c ∗ BI.bigSep Finset.univ fun k : Fin 45 => semVal (kcell (c, k)) 0) : sProp 𝕄) := by
  have e : (fun k : Fin 44 => (semVal (kcell (c, k.succ)) 0 : sProp 𝕄)) = fun k : Fin 44 => zz (F := F) c ((⟨k.val + 4, by omega⟩ : Fin 52) : DmaSem sig) :=
    funext fun k => by show semVal ((c : Thread nD τ), csem k.succ) 0 = _; rw [csem_succ]
  rw [own_sems, unscoped_sems, fin45, e]
  iintro ⟨⟨Z, H⟩, HB⟩
  isplitl [Z]
  · iexact Z
  isplitl [HB]
  · iexact HB
  iexact H

/-- Device `c`'s cells, each with its invariant. -/
theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((BI.bigSep Finset.univ fun k => iprop(∃ κ : ℕ, cellInv ER (Rd I) κ (kcell (c, k))))
          ∗ (BI.bigSep Finset.univ fun k => iprop(atPos ER (kcell (c, k)) 0 ∅ 0 ∗ reached ER (kcell (c, k)) 0)) ∗ toks (F := F) c ∗ Zer (F := F) c) := by
  unfold G
  iintro ⟨Hos, Hus, Hst, Hat, Htok⟩
  ihave Hv := (sems_in (F := F) c) $$ [Hos Hus]
  · isplitl [Hos]
    · iexact Hos
    iexact Hus
  icases Hv with ⟨Z, Hv⟩
  imod (show iprop((BI.bigSep Finset.univ fun k : Fin 45 => semVal (kcell (c, k)) 0) ∗ BI.bigSep Finset.univ fun k : Fin 45 => roundState ER (Rd I) (kcell (c, k)) 0)
      ⊢ (|={Set.univ}=> BI.bigSep Finset.univ fun k => iprop(∃ κ : ℕ, cellInv ER (Rd I) κ (kcell (c, k))) : sProp 𝕄) from by
        rw [← bigSep_sep']
        exact BIBase.Entails.trans (bigSep_mono fun k _ => (Rounds.body_intro ER (Rd I) (kcell (c, k))).trans inv_alloc) (bigSep_fupd _ _)) $$ [Hv Hst] with Hinv
  · isplitl [Hv]
    · iexact Hv
    iexact Hst
  imodintro
  isplitl [Hinv]
  · iexact Hinv
  isplitl [Hat]
  · iexact Hat
  isplitl [Htok]
  · iexact Htok
  iexact Z

/-! ### The dealing -/

/-- The cells' invariants and first rounds, known to all. -/
def Cells (K : Dev nD × Fin 45 → ℕ) : sProp 𝕄 := BI.bigSep Finset.univ fun p => iprop(cellInv ER (Rd I) (K p) (kcell p) ∗ reached ER (kcell p) 0)

instance Cells_persistent (K : Dev nD × Fin 45 → ℕ) : BI.Persistent (Cells I K) := by unfold Cells; infer_instance

/-- The rights that device `c` uses. -/
def pays (c : Dev nD) : sProp (MT nD τ sig Unit (Elt F) ℕ UU ℕ) :=
  iprop((dutyTok (ER (F := F)) (barCell (tgt 1 c)) 0 false ∗ dutyTok ER (barCell (tgt 0 c)) 0 true) ∗ BI.bigSep Finset.univ (kit (F := F) c))

/-- Each device hands its tokens to the devices that pay them. -/
theorem toks_around : (BI.bigSep Finset.univ fun c : Dev nD => toks (F := F) c) ⊢ (BI.bigSep Finset.univ fun c : Dev nD => pays (F := F) c : sProp 𝕄) := by
  have eb : (fun c : Dev nD => (BI.bigSep Finset.univ fun b : Bool => dutyTok (ER (F := F)) (barCell c) 0 b : sProp 𝕄))
      = fun c => iprop(dutyTok (ER (F := F)) (barCell c) 0 false ∗ dutyTok (ER (F := F)) (barCell c) 0 true) :=
    funext fun c => bigSep_univ_eq_bigSepL [false, true] (by decide) (by decide) _
  have er : (BI.bigSep Finset.univ fun c : Dev nD => BI.bigSep Finset.univ fun i : Fin 24 => (dutyTok (ER (F := F)) (rCell c i) 0 false : sProp 𝕄))
      = BI.bigSep Finset.univ fun c : Dev nD => BI.bigSep Finset.univ fun i : Fin 24 => dutyTok (ER (F := F)) (rCell (tgt (dd i) c) i) 0 false := by
    rw [bigSep_univ_comm, bigSep_univ_comm (fun (c : Dev nD) (i : Fin 24) => (dutyTok (ER (F := F)) (rCell (tgt (dd i) c) i) 0 false : sProp 𝕄))]
    exact bigSep_congr fun i _ => bigSep_univ_equiv (ring (dd i)) (fun c : Dev nD => (dutyTok (ER (F := F)) (rCell c i) 0 false : sProp 𝕄))
  unfold toks pays kit
  simp only [bigSep_sep', eb, er]
  rw [bigSep_univ_equiv (ring 1) (fun c : Dev nD => (dutyTok (ER (F := F)) (barCell c) 0 false : sProp 𝕄)),
    bigSep_univ_equiv (ring 0) (fun c : Dev nD => (dutyTok (ER (F := F)) (barCell c) 0 true : sProp 𝕄))]
  exact BIBase.Entails.rfl

/-- The transfers that keep their position on their sending semaphore. -/
def keepL : List (Fin 24) := [0, 1, 2, 3, 4, 5, 6, 7, 12, 13, 14, 15, 16, 17, 18, 19, 20, 21, 22, 23]

/-- The list of places names every place. -/
theorem kdx_all : (Finset.univ : Finset (Fin 45)) = (0 :: (keepL.map (fun i => kdx (sSem i)) ++ rcvL.map (fun i => kdx (rSem i)))).toFinset := by decide
/-- The list of places names none twice. -/
theorem kdx_nodup : (0 :: (keepL.map (fun i => kdx (sSem i)) ++ rcvL.map (fun i => kdx (rSem i)))).Nodup := by decide

/-- The positions of device `c`, each with its transfer. -/
theorem positions (c : Dev nD) : (BI.bigSep Finset.univ fun k : Fin 45 => (atPos (ER (F := F)) (kcell (c, k)) 0 ∅ 0 : sProp 𝕄))
    ⊢ iprop(atPos ER (barCell c) 0 ∅ 0 ∗ BI.bigSep Finset.univ (posS (F := F) c) ∗ BI.bigSep Finset.univ fun i : Fin 24 => atPos ER (rCell c i) 0 ∅ 0) := by
  have ep : posS (F := F) c = fun i => if ¬ i.val / 4 = 2 then (atPos (ER (F := F)) (sCell c i) 0 ∅ 0 : sProp 𝕄) else BI.emp :=
    funext fun i => by
      unfold posS
      by_cases h : i.val / 4 = 2
      · rw [if_pos h, if_neg (fun n => n h)]; rfl
      · rw [if_neg h, if_pos h]
  rw [ep, ← bigSep_filter, bigSep_eq_bigSepL_of_eq keepL (by decide) (by decide), bigSep_univ_eq_bigSepL _ kdx_all kdx_nodup, bigSepL_cons', bigSepL_append, bigSepL_map, bigSepL_map,
    bigSep_univ_eq_bigSepL rcvL (by decide) (by decide)]
  simp only [kcell_s, kcell_r]
  exact BIBase.Entails.rfl

/-- What device `c` holds of its own when the dealing is done. -/
def lin (c : Dev nD) : sProp (MT nD τ sig Unit (Elt F) ℕ UU ℕ) :=
  iprop((BI.bigSep Finset.univ fun k : Fin 45 => atPos (ER (F := F)) (kcell (c, k)) 0 ∅ 0) ∗ pays (F := F) c ∗ Zer (F := F) c)
/-- What device `c` has of the ring when the dealing is done. -/
def G' (c : Dev nD) : sProp 𝕄 := iprop(∃ K, Cells I K ∗ lin (F := F) c)

/-- What the launch deals to a device, put together as the body takes it. -/
theorem g_intro (K : Dev nD × Fin 45 → ℕ) (c : Dev nD) : iprop(Cells I K ∗ lin (F := F) c) ⊢ G' I c := by
  unfold G'
  iintro H; iexists K; iexact H

/-- A lasting resource goes to every member of a family. -/
theorem spread {T : Type} [DecidableEq T] {S : Finset T} {R : sProp 𝕄} [BI.Persistent R] {Φ Ψ : T → sProp (MT nD τ sig Unit (Elt F) ℕ UU ℕ)}
    (h : ∀ i ∈ S, iprop(R ∗ Φ i) ⊢ Ψ i) : iprop(R ∗ BI.bigSep S Φ) ⊢ BI.bigSep S Ψ :=
  BIBase.Entails.trans (sep_mono_left (BI.bigSep_of_persistent S R)) (by rw [← bigSep_sep']; exact bigSep_mono h)

/-- The dealt resources of all devices, gathered as the record of the protocol and one share for each device. -/
theorem regroup :
    (BI.bigSep Finset.univ fun c : Dev nD => iprop((BI.bigSep Finset.univ fun k => iprop(∃ κ : ℕ, cellInv ER (Rd I) κ (kcell (c, k))))
          ∗ (BI.bigSep Finset.univ fun k => iprop(atPos ER (kcell (c, k)) 0 ∅ 0 ∗ reached ER (kcell (c, k)) 0)) ∗ toks (F := F) c ∗ Zer (F := F) c) : sProp 𝕄)
      ⊢ BI.bigSep Finset.univ (G' I) := by
  simp only [bigSep_sep']
  rw [← bigSep_univ_prod (fun p : Dev nD × Fin 45 => iprop(∃ κ : ℕ, cellInv ER (Rd I) κ (kcell p))),
    ← bigSep_univ_prod (fun p : Dev nD × Fin 45 => (reached (ER (F := F)) (kcell p) 0 : sProp 𝕄))]
  iintro ⟨HI, ⟨Hat, HR⟩, Htok, HZ⟩
  ihave HK := (BI.bigSep_exists_pi Finset.univ (fun (p : Dev nD × Fin 45) (κ : ℕ) => (cellInv ER (Rd I) κ (kcell p) : sProp 𝕄))) $$ HI
  icases HK with ⟨%K, HI⟩
  ihave Htk := (toks_around (F := F)) $$ Htok
  iapply (spread (R := Cells I K) fun c _ => g_intro I K c)
  isplitl [HI HR]
  · unfold Cells
    rw [bigSep_sep']
    isplitl [HI]
    · iexact HI
    iexact HR
  unfold lin
  simp only [bigSep_sep']
  isplitl [Hat]
  · iexact Hat
  isplitl [Htk]
  · iexact Htk
  iexact HZ

/-- The whole dealing. -/
theorem glob : (BI.bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> BI.bigSep Finset.univ (G' I) :=
  BIBase.Entails.trans (BIBase.Entails.trans (bigSep_mono fun c _ => core_alloc I c) (bigSep_fupd _ _)) (BI.fupd_mono (regroup I))

end

end Cert.KProof

end
-- ==== Proof.Credit.lean ====
module

public import proofs.«01_k».proof.Proof.Deal

/-!
# What is owed at launch

The devices' debts, summed over the devices, are the credit that each device starts with.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

/-! ### What the devices owe each other at launch -/

/-- What a device owes a semaphore is the sum over its payments still to come. -/
theorem owed_sum (d : Dev nD) (g : GSem nD τ sig) (k : ℕ) : owed d k g () = ∑ j ∈ Finset.range k, if g = ocell d j then oamt j else 0 := by
  induction k with
  | zero => rfl
  | succ k ih =>
    rw [Finset.sum_range_succ, ← ih]
    show owed d k g () + tallyAt (ocell d k) () (oamt k) g () = _
    rw [tallyAt_apply]
    congr 1
    by_cases h : g = ocell d k
    · rw [if_pos ⟨h, rfl⟩, if_pos h]
    · rw [if_neg (fun e => h e.1), if_neg h]

/-- What all devices owe a semaphore at the launch is the sum over every payment of every device. -/
theorem credit_sum (g : GSem nD τ sig) : launchCredit (Pipeline.owing fun d => owed d 26) 0 g ()
    = ∑ j ∈ Finset.range 26, ∑ d : Dev nD, if g = ocell d j then oamt j else 0 := by
  rw [Pipeline.launchCredit_owing, Finset.sum_congr rfl fun d _ => owed_sum d g 26, Finset.sum_comm]

/-- A device's barrier is signalled, in each direction, by the one device before it. -/
theorem bar_iff (d c : Dev nD) (e : Fin 2) : barCell c = barCell (tgt e d) ↔ d = src e c := by
  constructor
  · intro h
    have h' : c = tgt e d := congrArg (fun g : GSem nD τ sig => g.1.1) h
    rw [h', src_tgt]
  · intro h
    rw [h, tgt_src]

/-- A receiving semaphore is paid by its own transfer, from the one device before it. -/
theorem r_iff (d c : Dev nD) (i i' : Fin 24) : rCell c i = rCell (tgt (dd i') d) i' ↔ i' = i ∧ d = src (dd i) c := by
  constructor
  · intro h
    have h1 : c = tgt (dd i') d := congrArg (fun g : GSem nD τ sig => g.1.1) h
    have h2 : i = i' := r_inj i i' (SemLoc.dma.inj (congrArg Prod.snd h))
    subst h2
    exact ⟨rfl, by rw [h1, src_tgt]⟩
  · rintro ⟨rfl, rfl⟩
    rw [tgt_src]

/-- A sum over the devices with one entry is that entry. -/
theorem one_dev (c : Dev nD) (n : ℕ) : (∑ d : Dev nD, if d = c then n else 0) = n := by
  rw [Finset.sum_ite_eq' Finset.univ c fun _ => n, if_pos (Finset.mem_univ _)]

/-- Its two neighbours owe a device's barrier one unit each. -/
theorem launch_bar (c : Dev nD) :
    tallyOn (barCell c) (launchCredit (Pipeline.owing fun d => owed d 26) 0 (barCell c)) = (tallyAt (barCell c) () 2 : CellTallies nD τ sig Unit) := by
  unfold tallyAt
  refine congrArg _ (Finsupp.ext fun u => ?_)
  cases u
  rw [credit_sum, Finsupp.single_eq_same, Finset.sum_range_succ, Finset.sum_range_succ, Finset.sum_eq_zero (s := Finset.range 24)]
  · have e0 : ∀ d : Dev nD, (if barCell c = ocell d 24 then oamt 24 else 0) = if d = src 0 c then 1 else 0 := fun d => if_congr (bar_iff d c 0) rfl rfl
    have e1 : ∀ d : Dev nD, (if barCell c = ocell d 25 then oamt 25 else 0) = if d = src 1 c then 1 else 0 := fun d => if_congr (bar_iff d c 1) rfl rfl
    rw [Finset.sum_congr rfl fun d _ => e0 d, Finset.sum_congr rfl fun d _ => e1 d, one_dev, one_dev]
  · intro j hj
    refine Finset.sum_eq_zero fun d _ => if_neg fun h => ?_
    unfold ocell at h
    rw [dif_pos (Finset.mem_range.mp hj)] at h
    exact absurd (congrArg Prod.snd h) (fun h => by cases h)

/-- One device owes each arrival. -/
theorem launch_r (c : Dev nD) (i : Fin 24) :
    tallyOn (rCell c i) (launchCredit (Pipeline.owing fun d => owed d 26) 0 (rCell c i)) = (tallyAt (rCell c i) () NN : CellTallies nD τ sig Unit) := by
  unfold tallyAt
  refine congrArg _ (Finsupp.ext fun u => ?_)
  cases u
  have hi := i.isLt
  have ei : (⟨23 - (23 - i.val), by omega⟩ : Fin 24) = i := Fin.ext (by show 23 - (23 - i.val) = i.val; omega)
  rw [credit_sum, Finsupp.single_eq_same, Finset.sum_eq_single (23 - i.val)]
  · have e0 : ∀ d : Dev nD, (if rCell c i = ocell d (23 - i.val) then oamt (23 - i.val) else 0) = if d = src (dd i) c then NN else 0 := fun d => by
      unfold ocell oamt
      rw [dif_pos (by omega), if_pos (by omega : 23 - i.val < 24), ei]
      exact if_congr ((r_iff d c i i).trans ⟨fun h => h.2, fun h => ⟨rfl, h⟩⟩) rfl rfl
    rw [Finset.sum_congr rfl fun d _ => e0 d, one_dev]
  · intro j hj hne
    refine Finset.sum_eq_zero fun d _ => if_neg fun h => ?_
    unfold ocell at h
    by_cases h24 : j < 24
    · rw [dif_pos h24] at h
      have h1 := congrArg Fin.val ((r_iff d c i _).mp h).1
      have h2 : 23 - j = i.val := h1
      omega
    · rw [dif_neg h24] at h
      split at h <;> exact absurd (congrArg Prod.snd h) (fun h => by cases h)
  · intro h
    exact absurd (Finset.mem_range.mpr (by omega)) h

/-- A device's launch credit: two units at its barrier, an arrival's bytes at each arrival's semaphore. -/
theorem creds (c : Dev nD) :
    (Pipeline.launchCred (fun d => owed d 26) c : sProp 𝕄) ⊢ iprop(cred (tallyAt (barCell c) () 2) ∗ BI.bigSep Finset.univ fun i : Fin 24 => cred (tallyAt (rCell c i) () NN)) := by
  have hinj : Function.Injective fun i : Fin 24 => (SemLoc.dma (rSem i) : SemLoc sig) := fun i i' h => r_inj i i' (SemLoc.dma.inj h)
  have hsub : (Finset.univ.map ⟨fun i : Fin 24 => (SemLoc.dma (rSem i) : SemLoc sig), hinj⟩) ⊆ Finset.univ.erase (SemLoc.reg barS) := fun x hx => by
    obtain ⟨i, _, rfl⟩ := Finset.mem_map.mp hx
    exact Finset.mem_erase.mpr ⟨fun h => (by cases h), Finset.mem_univ _⟩
  unfold Pipeline.launchCred
  rw [BI.bigSep_univ_at _ (SemLoc.reg barS), launch_bar]
  refine sep_mono_right ?_
  refine BIBase.Entails.trans (Entails.of_eq (BI.bigSep_sdiff_split hsub)) ?_
  rw [bigSep_map]
  have e : (fun i : Fin 24 => (cred (tallyAt (rCell c i) () NN) : sProp 𝕄))
      = fun i => cred (tallyOn (rCell c i) (launchCredit (Pipeline.owing fun d => owed d 26) 0 (rCell c i))) := funext fun i => by rw [launch_r]
  rw [e]
  exact sep_elim_left

end

end Cert.KProof

end
-- ==== Proof.Region.lean ====
module

public import proofs.«01_k».proof.Proof.Credit

/-!
# The region

The body of the kernel meets the obligation of the region that runs it.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

section

variable (m : (ℓ : Loc nD τ sig) → Buf (Elt F) ℓ) (ρ : Dev nD → PrngReg)

/-- The only index of a scale. -/
def i0 : S1.Idx := fun _ => ⟨0, by decide +revert⟩

/-- An array of one element has one index. -/
theorem s1_one (i j : S1.Idx) : i = j := funext fun a => Fin.ext (by
  have hi := (i a).isLt
  have hj := (j a).isLt
  have h : S1.size a = 1 := (by decide : ∀ a : Fin S1.rank, S1.size a = 1) a
  omega)

/-- The launched memory. -/
def start : MemSt nD τ sig (Elt F) := ⟨m, fun _ => 0, ρ⟩

/-- The inputs that the launched memory holds. -/
def ins : Ins F where
  x c := m ((c : Thread nD τ).loc main_arg0)
  w c := m ((c : Thread nD τ).loc main_arg1)
  sx c := m ((c : Thread nD τ).loc main_arg2) i0
  sw c := m ((c : Thread nD τ).loc main_arg3) i0

/-- The two argument arrays that the kernel reads itself. -/
def two_args (c : Dev nD) : sProp (MT nD τ sig Unit (Elt F) ℕ UU ℕ) :=
  iprop(own' c (Memref.whole main_arg0) fullShare ((ins m).x c) ∗ own' c (Memref.whole main_arg1) fullShare ((ins m).w c))

/-- What a device brings into the kernel. -/
def enter (c : Dev nD) : sProp 𝕄 :=
  iprop(G' (ins m) c ∗ levAts L lv ∗ (cred (tallyAt (barCell c) () 2) ∗ BI.bigSep Finset.univ fun i : Fin 24 => cred (tallyAt (rCell c i) () NN))
    ∗ two_args m c ∗ some' c (Memref.whole main_v1))

/-- What a device takes out of it. -/
def away (c : Dev nD) : sProp (MT nD τ sig Unit (Elt F) ℕ UU ℕ) :=
  iprop(semVal (barCell c) 0 ∗ two_args m c ∗ own' c (Memref.whole main_v1) fullShare (outX (ins m) c))

/-- What the body starts from besides the scales. -/
def PhiA (c : Dev nD) : sProp 𝕄 := iprop(enter m c ∗ Scr (F := F) c)
/-- What the body ends with besides the scales. -/
def PhiZ (c : Dev nD) : sProp 𝕄 :=
  iprop(away m c ∗ Pipeline.ownSems0 (Ix := Unit) (Name := ℕ) (U := UU) (Lvl := ℕ) (Val := Elt F) (τ := τ) osem c ∗ Scr (F := F) c)

/-- The proof data of the one region. -/
def dats (_ : Fin 1) (c : Dev nD) : Dat τ (Elt F) Unit ℕ UU ℕ cfg0 c where
  A w := (start m ρ).mem ((cfg0.win w).arr.view.loc (c : Thread nD τ))
  after w _ := match w with
    | ⟨0, _⟩ => fun _ => (ins m).sx c
    | ⟨1, _⟩ => fun _ => (ins m).sw c
  Φ t := match t with
    | ⟨0, _⟩ => PhiA m c
    | ⟨_ + 1, _⟩ => PhiZ m c
  q _ := fullShare
  owed t := match t with
    | ⟨0, _⟩ => owed c 26
    | ⟨_ + 1, _⟩ => 0

/-- The first window holds the activations' scale. -/
theorem before_x (c : Dev nD) (d) : (dats m ρ 0 c).before (0 : Fin 2) t0_0 d = fun _ => (ins m).sx c :=
  ((dats m ρ 0 c).before_in_eq_fetched (0 : Fin 2) rfl (fun _ => rfl) (fun _ _ _ => rfl)
    (fun t => funext fun j => congrArg (m ((c : Thread nD τ).loc main_arg2)) (s1_one _ _)) t0_0 d).trans
    (funext fun j => congrArg (m ((c : Thread nD τ).loc main_arg2)) (s1_one _ _))

/-- The second window holds the weights' scale. -/
theorem before_w (c : Dev nD) (d) : (dats m ρ 0 c).before (1 : Fin 2) t0_0 d = fun _ => (ins m).sw c :=
  ((dats m ρ 0 c).before_in_eq_fetched (1 : Fin 2) rfl (fun _ => rfl) (fun _ _ _ => rfl)
    (fun t => funext fun j => congrArg (m ((c : Thread nD τ).loc main_arg3)) (s1_one _ _)) t0_0 d).trans
    (funext fun j => congrArg (m ((c : Thread nD τ).loc main_arg3)) (s1_one _ _))

/-! ### The kernel meets its obligation -/

/-- What was dealt to a device is what its body starts from. -/
theorem start_of (K : Dev nD × Fin 45 → ℕ) (c : Dev nD) :
    iprop(lin (F := F) c ∗ (cred (tallyAt (barCell c) () 2) ∗ BI.bigSep Finset.univ fun i : Fin 24 => cred (tallyAt (rCell c i) () NN))
        ∗ BI.bigSep Finset.univ fun i : Fin 24 => some' (F := F) c (landM i c))
      ⊢ (iprop(Start (F := F) c ∗ Zer (F := F) c) : sProp 𝕄) := by
  have er : rItem (F := F) c 0 = fun i => iprop(cred (tallyAt (rCell c i) () NN) ∗ atPos ER (rCell c i) 0 ∅ 0) :=
    funext fun i => by unfold rItem; rw [if_neg (Nat.not_lt_zero _)]
  unfold lin pays Start
  rw [er]
  simp only [bigSep_sep']
  iintro ⟨⟨Hp, ⟨⟨T1, T0⟩, Hk⟩, Z⟩, ⟨C0, C⟩, Ls⟩
  ihave Hp := (positions (F := F) c) $$ Hp
  icases Hp with ⟨P0, PS, PR⟩
  isplitr [Z]
  · isplitl [T1]
    · iexact T1
    isplitl [T0]
    · iexact T0
    isplitl [C0]
    · iexact C0
    isplitl [P0]
    · iexact P0
    isplitl [Ls]
    · iexact Ls
    isplitl [Hk PS]
    · isplitl [Hk]
      · iexact Hk
      iexact PS
    isplitl [C]
    · iexact C
    iexact PR
  iexact Z

/-- The body, from what it is given to what it leaves. -/
theorem sound (𝒱 : Variants) (c : Dev nD) :
    iprop(PhiA m c ∗ OW c 26 ∗ scO (ins m) c)
      ⊢ wpc 𝒱 c (ap (cc0_body (F := F))) (fun _ => iprop(PhiZ m c ∗ OW c 0 ∗ scO (ins m) c)) := by
  unfold PhiA enter G' two_args
  iintro ⟨⟨⟨⟨%K, HC, HL⟩, Hlev, Hcr, ⟨X, W⟩, N⟩, S⟩, HO, SC⟩
  ihave S := (scr_in (F := F)) $$ S
  icases S with ⟨O0, LA⟩
  ihave ST := (start_of K c) $$ [HL Hcr LA]
  · isplitl [HL]
    · iexact HL
    isplitl [Hcr]
    · iexact Hcr
    iexact LA
  icases ST with ⟨ST, Z⟩
  ihave N := (out_in (F := F)) $$ N
  ihave A := (arg_in (ins m) (c := c)) $$ [SC X W]
  · unfold Whl
    isplitl [SC]
    · iexact SC
    isplitl [X]
    · iexact X
    iexact W
  iapply (run_body (ins m) 𝒱 K (c := c) (Q := fun _ => iprop(PhiZ m c ∗ OW c 0 ∗ scO (ins m) c))) $$ [HC Hlev A Z O0 HO ST N]
  · isplitl [HC Hlev]
    · unfold Rec Cells
      isplitl [HC]
      · iexact HC
      iexact Hlev
    isplitl [A]
    · iexact A
    isplitl [Z]
    · iexact Z
    isplitl [O0]
    · iexact O0
    isplitl [HO]
    · iexact HO
    isplitl [ST]
    · iexact ST
    iexact N
  iintro HG HB A Z O1 N
  ihave HL := (leave (ins m) c) $$ [HG Z O1]
  · isplitl [HG]
    · iexact HG
    isplitl [Z]
    · iexact Z
    iexact O1
  icases HL with ⟨HO, S, OS⟩
  ihave N := (out_out (ins m) (c := c)) $$ N
  ihave A := (arg_out (ins m) (c := c)) $$ A
  unfold Whl
  icases A with ⟨SC, X, W⟩
  isplitr [HO SC]
  · unfold PhiZ away two_args
    isplitr [OS S]
    · isplitl [HB]
      · iexact HB
      isplitr [N]
      · isplitl [X]
        · iexact X
        iexact W
      iexact N
    isplitl [OS]
    · iexact OS
    iexact S
  isplitl [HO]
  · iexact HO
  iexact SC

/-- What the region hands to the body, -/
def given (c : Dev nD) : sProp 𝕄 :=
  iprop(PhiA m c ∗ (dats m ρ 0 c).owesAt () (t0_0 : Fin cfg0.N).castSucc
    ∗ (∃ d, own' c (Memref.whole cc0_stg0_0) fullShare ((dats m ρ 0 c).before (0 : Fin 2) t0_0 d))
    ∗ (∃ d, own' c (Memref.whole cc0_stg1_0) fullShare ((dats m ρ 0 c).before (1 : Fin 2) t0_0 d)))
/-- and what it takes back. -/
def taken (c : Dev nD) : sProp 𝕄 :=
  iprop(PhiZ m c ∗ (dats m ρ 0 c).owesAt () (t0_0 : Fin cfg0.N).succ
    ∗ own' c (Memref.whole cc0_stg0_0) fullShare (fun _ => (ins m).sx c)
    ∗ own' c (Memref.whole cc0_stg1_0) fullShare (fun _ => (ins m).sw c))

/-- What the point is given is what the body starts from. -/
theorem given_in (c : Dev nD) : given m ρ c ⊢ iprop(PhiA m c ∗ OW c 26 ∗ scO (ins m) c) := by
  unfold given Dat.owesAt Pipeline.owesWithin OW scO
  simp only [before_x, before_w]
  iintro ⟨HP, ⟨%W, -, HO⟩, ⟨%d, H0⟩, ⟨%d', H1⟩⟩
  isplitl [HP]
  · iexact HP
  isplitl [HO]
  · iexists W; iexact HO
  isplitl [H0]
  · iexact H0
  iexact H1

/-- What the body ends with is what the point takes back. -/
theorem taken_out (c : Dev nD) : iprop(PhiZ m c ∗ OW c 0 ∗ scO (ins m) c) ⊢ taken m ρ c := by
  unfold taken Dat.owesAt Pipeline.owesWithin OW scO
  iintro ⟨HP, ⟨%W, HO⟩, H0, H1⟩
  isplitl [HP]
  · iexact HP
  isplitl [HO]
  · iexists W
    isplitr
    · ipureintro; exact fun _ _ => Or.inl trivial
    iexact HO
  isplitl [H0]
  · iexact H0
  iexact H1

/-- The table's one entry is the body on the call's buffers. -/
theorem body_is : ((defs₀ (F := F)) .tc cfg0.body (cfg0.bodyArgs t0_0 (cfg0.slots t0_0)) : Prog (TpuEff nD τ sig (Elt F) Λ₀ .tc) PUnit) = ap (cc0_body (F := F)) := rfl

/-- The body, given the point's resources, gives them back with the result. -/
theorem sound_of (c : Dev nD) {p : Prog (TpuEff nD τ sig (Elt F) Λ₀ .tc) PUnit} (h : p = ap (cc0_body (F := F))) :
    given m ρ c ⊢ wpc Variants.none c p (fun _ => taken m ρ c) := by
  subst h
  exact BIBase.Entails.trans (given_in m ρ c) (BIBase.Entails.trans (sound m Variants.none c) (wp_mono _ _ _ (Q' := fun _ => taken m ρ c) fun _ => taken_out m ρ c))

/-- The region's obligation on device `c`. -/
theorem body_ok (c : Dev nD) : BodyObligation (dats (F := F) m ρ 0 c) (defs₀ (F := F)) Variants.none () Set.univ := fun t => by
  rw [fin_N0 t]
  rw [show (t0_0 : Fin grid0.N) = (t0_0 : Fin cfg0.N) from rfl, bigSep_W0, bigSep_W0]
  refine BIBase.Entails.trans (Q := given m ρ c) BIBase.Entails.rfl ?_
  generalize hp : (defs₀ (F := F)) .tc cfg0.body (cfg0.bodyArgs t0_0 (cfg0.slots t0_0)) = p
  refine BIBase.Entails.trans (sound_of m ρ c (hp.symm.trans (body_is (F := F)))) ?_
  refine wp_mono _ _ _ fun _ => ?_
  exact BIBase.Entails.rfl

end

end Cert.KProof

end
-- ==== Proof.Launch.lean ====
module

public import Idealize.ShloMosaic.Lib.Pipeline.CollectiveSegs
public import proofs.«01_k».proof.Proof.Region

/-!
# The launch

The four devices' program runs to its end, whatever the float values are.
-/

@[expose] public section

set_option maxRecDepth 16384

noncomputable section

namespace Cert.KProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section

variable (m : (ℓ : Loc nD τ sig) → Buf (Elt F) ℓ) (ρ : Dev nD → PrngReg)

/-! ### The conditions of the launch -/

/-- The call's own semaphores are told apart from the windows'. -/
theorem osem_facts : Pipeline.OwnSemFacts cfg0.spec osem := by decide

/-- Each window holds its whole array. -/
theorem share_full (c : Dev nD) (w : Fin cfg0.W) : (dats m ρ 0 c).share w = fullShare := by unfold Pipeline.Dat.share; split <;> rfl

/-- The launch funds the windows and the protocol of every device. -/
theorem fund : (ownU u₀ : sProp 𝕄)
    ⊢ |={Set.univ}=> iprop(BI.own (EP (F := F) (initOf (Pipeline.cells cfgs cellOf_inj) (Pipeline.launchToks cfgs cellOf_inj))) ∗ BI.bigSep Finset.univ (G (ins m))) := by
  unfold u₀
  iintro Hu
  ihave H := (ownU_pair _ _) $$ Hu
  icases H with ⟨HP, HX⟩
  ihave HX := (own_pair_emb embR _ _) $$ HX
  icases HX with ⟨HX, -⟩
  imod (show (BI.own (((Emb.inl : Emb UB (UB × Counters)).trans embR) (initOf ringCells ringToks)) : sProp 𝕄) ⊢ |==> BI.bigSep Finset.univ (G (ins m)) from fund_ring (ins m)) $$ HX with HG
  imodintro
  isplitl [HP]
  · iexact HP
  iexact HG

/-- What the launch leaves outside the windows is what the body enters with. -/
theorem enter_ok (c : Dev nD) :
    iprop(Pipeline.unscopedRestP Pipeline.Prefetch.none cfg0.spec c (fun b => m ((c : Thread nD τ).loc b)) ∗ levAts L lv
        ∗ Pipeline.launchCred (fun d => owed d 26) c ∗ prngReg c (ρ c) ∗ G' (ins m) c)
      ⊢ |={Set.univ}=> (iprop(enter m c ∗ emp) : sProp 𝕄) := by
  have e : (Pipeline.unscopedRestP Pipeline.Prefetch.none cfg0.spec c (fun b => m ((c : Thread nD τ).loc b)) : sProp 𝕄)
      = iprop(own' c (Memref.whole main_arg0) fullShare ((ins m).x c) ∗ own' c (Memref.whole main_arg1) fullShare ((ins m).w c)
          ∗ own' c (Memref.whole main_v1) fullShare (m ((c : Thread nD τ).loc main_v1))) := by
    rw [Pipeline.unscopedRestP_none]
    refine (unscopedRest0_eq c _).trans ?_
    unfold own'
    simp only [owns_whole]
    rfl
  rw [e]
  iintro ⟨⟨X, W, N⟩, Hlev, Hcr, -, HG⟩
  ihave Hcr := (creds (F := F) c) $$ Hcr
  imodintro
  isplitl
  · unfold enter two_args
    isplitl [HG]
    · iexact HG
    isplitl [Hlev]
    · iexact Hlev
    isplitl [Hcr]
    · iexact Hcr
    isplitl [X W]
    · isplitl [X]
      · iexact X
      iexact W
    iapply (some_of (F := F))
    iexact N
  iempintro

/-- The call's own buffers are the scratch buffers. -/
theorem scr_eq (c : Dev nD) : (Pipeline.scopedRest (Ix := Unit) (Name := ℕ) (U := UU) (Lvl := ℕ) (Val := Elt F) cfg0.spec c : sProp 𝕄) = Scr (F := F) c := by
  refine (scopedRest0_eq c).trans ?_
  unfold Scr
  simp only [← whole_some]

/-- The entering resources are what the first point is given. -/
theorem in_ok (c : Dev nD) :
    iprop(enter m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = PhiA m c from rfl, scr_eq]
  unfold PhiA
  iintro ⟨H, -, S⟩
  isplitl [H]
  · iexact H
  iexact S

/-- What the last point leaves is handed back. -/
theorem out_ok (c : Dev nD) :
    (dats m ρ 0 c).Φ (Fin.last cfg0.N) ⊢ iprop(away m c ∗ Pipeline.ownSems0 osem c ∗ Pipeline.scopedRest cfg0.spec c) := by
  rw [show (dats m ρ 0 c).Φ (Fin.last cfg0.N) = PhiZ m c from rfl, scr_eq]
  exact BIBase.Entails.rfl

/-- The windows' semaphores stand at the lowest level. -/
theorem stage_low (w : Fin cfg0.W) (s : Fin (cfg0.win w).nbuf) : lvj ((cfg0.win w).sem s) = 0 := by
  revert s; revert w; decide

/-- The windows may wait whatever a device still owes. -/
theorem waits_ok (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ 26 (stage_low w s)
    · exact mayWait_low c _ 0 (stage_low w s)

/-- What a final memory shows of device `c`: its barrier at zero, its two arrays as launched, its result. -/
def shows (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = outX (ins m) c

/-- A buffer that is held whole shows its contents in memory. -/
theorem read_whole (c : Dev nD) (b : Ref sig .tc) (f : Buf (Elt F) ((c : Thread nD τ).loc b)) (s' : Phys nD τ sig (Elt F)) :
    iprop(SI s' ∗ ((c : Thread nD τ).loc b) ↦{fullShare} f) ⊢ (⌜s'.mem.mem ((c : Thread nD τ).loc b) = f⌝ : sProp 𝕄) :=
  BIBase.Entails.trans SI_pointsTo_agree (BI.pure_mono fun h => funext fun i => h i (Finset.mem_univ i))

/-- What a device ends with shows in memory. -/
theorem shows_ok (c : Dev nD) (s' : Phys nD τ sig (Elt F)) : iprop(away m c ∗ emp ∗ SI s') ⊢ |={Set.univ}=> (iprop(⌜shows m c s'.mem⌝ ∗ SI s') : sProp 𝕄) := by
  have e : away m c = iprop(semVal (barCell c) 0 ∗ (((c : Thread nD τ).loc main_arg0 ↦{fullShare} m ((c : Thread nD τ).loc main_arg0)) ∗ ((c : Thread nD τ).loc main_arg1 ↦{fullShare} m ((c : Thread nD τ).loc main_arg1)))
      ∗ ((c : Thread nD τ).loc main_v1 ↦{fullShare} outX (ins m) c)) := by
    unfold away two_args own'
    simp only [owns_whole]
    rfl
  rw [e]
  iintro ⟨⟨HB, ⟨X, W⟩, N⟩, -, HS⟩
  ihave %hx := (read_whole c main_arg0 _ s') $$ [HS X]
  · isplitl [HS]
    · iexact HS
    iexact X
  ihave %hw := (read_whole c main_arg1 _ s') $$ [HS W]
  · isplitl [HS]
    · iexact HS
    iexact W
  ihave %hn := (read_whole c main_v1 _ s') $$ [HS N]
  · isplitl [HS]
    · iexact HS
    iexact N
  ihave HB := (Entails.of_eq (unscoped_sems (F := F) c).symm) $$ HB
  imod (Pipeline.unscopedSems0_read (X := unscopedSems0 c) (c := c) fupd_intro s') $$ [HB HS] with ⟨%hb, HS⟩
  · isplitl [HB]
    · iexact HB
    iexact HS
  imodintro
  isplitr
  · ipureintro; exact ⟨hb, hx, hw, hn⟩
  iexact HS

/-! ### The run -/

/-- What every run of the kernel's program ends in: each device's arguments as launched, its result the computed one, every semaphore at zero. -/
def Ends (r : PUnit × MemSt nD τ sig (Elt F)) : Prop :=
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_v1) = outX (ins m) c) ∧ r.2.sem = fun _ => 0

/-- For any float values, from any memory with all semaphores at zero, every weakly fair run of the four devices' program ends, and ends so. -/
theorem run_main : θ_run defs (onTc (τ := τ) (main (F := F))) (start m ρ) (Ends m) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ Variants.none m ρ main
    (hmain := fun _ => rfl)
    (hbody := fun c => (body_ok m ρ c).loose) (hne := fun w => block_pos0 w) (harr := arr_whole0) (hstage := stage_whole0) (hshare := share_full m ρ)
    (hdistinct := winFacts0.arr_inj)
    (O₀ := fun d => owed d 26) (howed₀ := fun _ => rfl) (howedN := fun _ => rfl)
    (L := L) (lv := lv) (hL := L_of_ne) (hwaits := waits_ok m ρ)
    (G := G (ins m)) (G' := G' (ins m)) (u₀ := u₀) (hu₀ := fund m) (hglob := glob (ins m))
    (hA := fun _ _ => rfl) (hpf := fun _ k => k.elim0)
    (X := enter m) (Y := away m) (Z := fun _ => iprop(emp))
    (hX := enter_ok m ρ) (hin := in_ok m ρ) (hout := out_ok m ρ)
    (QY := shows m) (hY := shows_ok m)
    (hQ := fun s h hs => ⟨fun c => ⟨(h c).2.2.2.1, (h c).2.2.2.2.1, ((h c).1 (0 : Fin 2)).trans ((dats m ρ 0 c).arrAt_in (0 : Fin 2) rfl _),
        ((h c).1 (1 : Fin 2)).trans ((dats m ρ 0 c).arrAt_in (1 : Fin 2) rfl _), (h c).2.2.2.2.2⟩,
      sem_eq_zero hs fun c => (h c).2.2.1⟩)

end

end Cert.KProof

end
-- ==== Proof.RefRun.lean ====
module
public import proofs.«01_k».proof.Proof.Gen.ReferenceIdeal.Run
public import Idealize.ShloMosaic.Lib.Quiescent

/-! # The reference's run

What the reference's program ends with, as one term of its arguments.
-/

@[expose] public section

noncomputable section

namespace Cert.RefProof

open Cert.ReferenceIdeal Cert.ReferenceIdeal.Gen
open Idealize.ShloMosaic Idealize.ShloMosaic.TcCoe Idealize.SL.Sem

variable {F : FTy → Type} [FloatOps F]

/-- The product of the arrays times the product of the scales. -/
abbrev scaled (X : FVec F S4096x4096 .f32) (W : FVec F S4096x2048 .f32) (a b : FVec F S1 .f32) : FVec F S4096x2048 .f32 :=
  mulf (Host.dotGeneral dot_S4096x4096_S4096x2048_S4096x2048_1_0_0_1_n_n none X W) (broadcastInDim S4096x2048 ![0, 1] bcast_S1x1_S4096x2048_0_1 (broadcastInDim S1x1 ![1] bcast_S1_S1x1_1 (mulf a b)))

/-- The reference's result. -/
abbrev refOut (X : FVec F S4096x4096 .f32) (W : FVec F S4096x2048 .f32) (a b : FVec F S1 .f32) : FVec F S4096x2048 .f32 :=
  Host.divf (scaled X W a b) (addf (broadcastInDim S4096x2048 ![] bcast_S_S4096x2048 (constant S_ .f32 0x3F800000#32)) (Host.exp (Host.negf (minimumf (broadcastInDim S4096x2048 ![] bcast_S_S4096x2048 (id (constant S_ .f32 0x42700000#32))) (maximumf (broadcastInDim S4096x2048 ![] bcast_S_S4096x2048 (id (constant S_ .f32 0xC2700000#32))) (scaled X W a b))))))

variable (m : (ℓ : Loc nD τ sig) → Buf (Elt F) ℓ) (ρ : Dev nD → PrngReg)

/-- What every run of the reference ends in: the result, the arguments as launched, every semaphore at zero. -/
def Ends (r : PUnit × MemSt nD τ sig (Elt F)) : Prop :=
  (∀ c : Dev nD,
    r.2.mem ((c.tc : Thread nD τ).loc main_v10) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0

/-- For any float values, from any memory with all semaphores at zero, every weakly fair run of the reference ends, and ends so. -/
theorem run_ref : θ_run defs (onTc (τ := τ) (main (F := F))) ⟨m, fun _ => 0, ρ⟩ (Ends m) :=
  (θ_run defs _ _).mono (fun r h => ⟨h, sem_eq_zero_of_no_sems (by decide) r.2⟩) (Cert.ReferenceIdeal.Value.run m ρ)

end Cert.RefProof

end
-- ==== Proof.Same.lean ====
module
public import proofs.«01_k».proof.Proof.Gen.Kernel
public import proofs.«01_k».proof.Proof.Gen.KernelIdeal

/-! # The two programs are one

The kernel's program and the program read over the extended reals have the same text: their body tables are equal.
-/

@[expose] public section

set_option maxRecDepth 16384

noncomputable section

namespace Cert.KProof

open Idealize.ShloMosaic

variable {F : FTy → Type} [FloatOps F]

set_option maxHeartbeats 4000000 in
/-- The two kernels' bodies are the same. -/
theorem same_body : @Cert.Kernel.cc0_body F _ _ = @Cert.KernelIdeal.cc0_body F _ _ := rfl

set_option maxHeartbeats 4000000 in
/-- The two tables hold the same body at their one label. -/
theorem same_at (a) : @Cert.Kernel.defs₀ F _ _ .tc (0 : Fin 1) a = @Cert.KernelIdeal.defs₀ F _ _ .tc (0 : Fin 1) a := by
  obtain ⟨t, s⟩ := a
  exact rfl

set_option maxHeartbeats 4000000 in
/-- The kernels' tables are equal. -/
theorem same_defs₀ : @Cert.Kernel.defs₀ F _ _ = @Cert.KernelIdeal.defs₀ F _ _ := by
  funext p ℓ a
  cases p with
  | tc =>
    change Fin 1 at ℓ
    obtain rfl : ℓ = 0 := Subsingleton.elim _ _
    exact same_at a
  | scScalar _ => rfl
  | scVector _ _ => rfl

set_option maxHeartbeats 4000000 in
/-- The programs' tables are equal. -/
theorem same_defs : @Cert.Kernel.defs F _ _ = @Cert.KernelIdeal.defs F _ _ := congrArg (Pipeline.defs Cert.KernelIdeal.pcfgs) same_defs₀

end Cert.KProof

end
-- ==== Proof.Dots.lean ====
module
public import proofs.«01_k».proof.Proof.Launch
public import proofs.«01_k».proof.Proof.Gen.ReferenceIdeal
public import Idealize.ShloMosaic.Lib.Pointwise
public import Idealize.ShloMosaic.Lib.Layout
public import Idealize.ShloMosaic.Lib.Pipeline.ValueKit.Acc

/-! # The products over the extended reals

Each product of the kernel and of the reference, at one index, is a sum over the contracted axis; the sum that travels
round the ring is the sum of the devices' products.
-/

@[expose] public section

noncomputable section

namespace Cert.KProof

open Cert.KernelIdeal Cert.KernelIdeal.Gen
open Idealize.ShloMosaic
open Idealize.ShloMosaic.TcCoe

/-- A product of two matrices at an index. -/
theorem mm_at (a b : Plane Ideal .bf16) (i j : Fin 1024) :
    mm a b (ix2 i j) = ∑ t : Fin 1024, (a (ix2 i t) : EReal) * b (ix2 t j) := by
  pointwise

/-- A product of half a matrix and a matrix at an index. -/
theorem mmh_at (a : Half Ideal .bf16) (b : Plane Ideal .bf16) (i : Fin 512) (j : Fin 1024) :
    mmh a b (ix2 i j) = ∑ t : Fin 1024, (a (ix2 i t) : EReal) * b (ix2 t j) := by
  pointwise

/-- The reference's product at an index. -/
theorem dot_at (a : FVec Ideal Cert.ReferenceIdeal.S4096x4096 .f32) (b : FVec Ideal Cert.ReferenceIdeal.S4096x2048 .f32) (i : Fin 4096) (j : Fin 2048) :
    Host.dotGeneral Cert.ReferenceIdeal.dot_S4096x4096_S4096x2048_S4096x2048_1_0_0_1_n_n none a b (ix2 i j)
      = ∑ t : Fin 4096, (a (ix2 i t) : EReal) * b (ix2 t j) := by
  pointwise

variable (I : Ins Ideal)

/-- The row of the whole result that row `i` of half `s` of chunk `k` is. -/
abbrev rowAt (k : Fin 4) (s : Fin 2) (i : Fin 512) : Fin 4096 := ⟨1024 * k.val + 512 * s.val + i.val, by omega⟩
/-- The column of the whole result that column `j` of half `d` is. -/
abbrev colAt (d : Fin 2) (j : Fin 1024) : Fin 2048 := ⟨1024 * d.val + j.val, by omega⟩

/-- Device `c`'s product at one index of the whole result. -/
def part (c : Dev nD) (r : Fin 4096) (q : Fin 2048) : EReal := ∑ t : Fin 1024, (I.x c (ix2 r t) : EReal) * I.w c (ix2 t q)

/-- The rounded activations are the activations. -/
theorem xb_at (c : Dev nD) (k : Fin 4) (s : Fin 2) (i : Fin 512) (t : Fin 1024) :
    rows s (xb I c k) (ix2 i t) = I.x c (ix2 (rowAt k s i) t) := by
  show I.x c _ = I.x c _
  congr 1
  funext a
  match a with
  | ⟨0, _⟩ =>
    apply Fin.ext
    show 1024 * k.val + 1 * (512 * s.val + 1 * i.val) = 1024 * k.val + 512 * s.val + i.val
    omega
  | ⟨1, _⟩ =>
    apply Fin.ext
    show 0 + 1 * (0 + 1 * t.val) = t.val
    omega

/-- The rounded weights are the weights. -/
theorem wb_at (c : Dev nD) (d : Fin 2) (t j : Fin 1024) : wb I c d (ix2 t j) = I.w c (ix2 t (colAt d j)) := by
  show I.w c _ = I.w c _
  congr 1
  funext a
  match a with
  | ⟨0, _⟩ =>
    apply Fin.ext
    show 0 + 1 * t.val = t.val
    omega
  | ⟨1, _⟩ =>
    apply Fin.ext
    show 1024 * d.val + 1 * j.val = 1024 * d.val + j.val
    omega

/-- A row of half `s`, as a row of the matrix. -/
theorem rows_at {α : Type} (s : Fin 2) (v : S1024x1024.Idx → α) (i : Fin 512) (t : Fin 1024) :
    rows s v (ix2 i t) = v (ix2 ⟨512 * s.val + i.val, by omega⟩ t) := by
  show v _ = v _
  congr 1
  funext a
  match a with
  | ⟨0, _⟩ =>
    apply Fin.ext
    show 512 * s.val + 1 * i.val = 512 * s.val + i.val
    omega
  | ⟨1, _⟩ =>
    apply Fin.ext
    show 0 + 1 * t.val = t.val
    omega

/-- What a device computes at a step is its product there. -/
theorem pr_at (h : ℕ) (d s : Fin 2) (c : Dev nD) (i : Fin 512) (j : Fin 1024) :
    rows s (pr I h d c) (ix2 i j) = part I c (rowAt (rsc d h c) s i) (colAt d j) := by
  rw [rows_at]
  unfold pr part
  rw [mm_at]
  refine Finset.sum_congr rfl fun t _ => ?_
  rw [wb_at, ← rows_at s (xb I c (rsc d h c)), xb_at]

/-- The first partial sum of a chunk is one device's product. -/
theorem SV_zero (d s : Fin 2) (c : Dev nD) (i : Fin 512) (j : Fin 1024) :
    SV I 0 d s c (ix2 i j) = part I c (rowAt (rsc d 0 c) s i) (colAt d j) := by
  show mmh (rows s (xb I c (rsc d 0 c))) (wb I c d) (ix2 i j) = _
  rw [mmh_at]
  refine Finset.sum_congr rfl fun t _ => ?_
  rw [wb_at, xb_at]

/-- Each step adds a device's product to what arrived. -/
theorem SV_succ (h : ℕ) (d s : Fin 2) (c : Dev nD) (i : Fin 512) (j : Fin 1024) :
    (SV I (h + 1) d s c (ix2 i j) : EReal) = part I c (rowAt (rsc d (h + 1) c) s i) (colAt d j) + SV I h d s (src d c) (ix2 i j) := by
  rw [← pr_at]
  rfl

/-- The devices in the order that a ring meets them, from any of them back. -/
theorem ring_list (d : Fin 2) (c : Dev nD) :
    (Finset.univ : Finset (Dev nD)).val = ([c, src d c, src d (src d c), src d (src d (src d c))] : List (Dev nD)) := by
  revert d c; decide

/-- A sum over the devices, in the order that a ring meets them. -/
theorem sum_ring (d : Fin 2) (c : Dev nD) (f : Dev nD → EReal) :
    ∑ b : Dev nD, f b = f c + (f (src d c) + (f (src d (src d c)) + f (src d (src d (src d c))))) := by
  show (Multiset.map f (Finset.univ : Finset (Dev nD)).val).sum = _
  rw [ring_list d c]
  simp

/-- The chunk that a device completes is the one that the devices before it added to, step by step. -/
theorem owner_steps (d : Fin 2) (k : Fin 4) :
    rsc d 3 (owner d k) = k ∧ rsc d 2 (src d (owner d k)) = k ∧ rsc d 1 (src d (src d (owner d k))) = k
      ∧ rsc d 0 (src d (src d (src d (owner d k)))) = k := by
  revert d k; decide

/-- The complete sum of a chunk is the sum of the devices' products. -/
theorem AV_at (d s : Fin 2) (k : Fin 4) (i : Fin 512) (j : Fin 1024) :
    (AV I d s k (ix2 i j) : EReal) = ∑ c : Dev nD, part I c (rowAt k s i) (colAt d j) := by
  obtain ⟨h3, h2, h1, h0⟩ := owner_steps d k
  unfold AV
  rw [SV_succ, SV_succ, SV_succ, SV_zero, sum_ring d (owner d k), h3, h2, h1, h0]

/-- The devices' products of their parts of two matrices add up to the product of the matrices. -/
theorem parts_dot (X : Cert.ReferenceIdeal.S4096x4096.Idx → EReal) (W : S4096x2048.Idx → EReal)
    (hx : ∀ c, I.x c = Layout.block ⟨2, ![4096, 1024]⟩ ⟨2, ![4096, 4096]⟩ 1 4 c X)
    (hw : ∀ c, I.w c = Layout.block ⟨2, ![1024, 2048]⟩ ⟨2, ![4096, 2048]⟩ 0 4 c W) (r : Fin 4096) (q : Fin 2048) :
    ∑ c : Dev nD, part I c r q = ∑ u : Fin 4096, X (ix2 r u) * W (ix2 u q) := by
  rw [← Fin.sum_mul_add_fin 4 1024 (fun u : Fin 4096 => X (ix2 r u) * W (ix2 u q))]
  refine Finset.sum_congr rfl fun c _ => ?_
  refine Finset.sum_congr rfl fun t _ => ?_
  rw [hx, hw, Layout.block_apply, Layout.block_apply]
  congr 1
  · congr 1
    funext a
    match a with
    | ⟨0, _⟩ => rfl
    | ⟨1, _⟩ => rfl
  · congr 1
    funext a
    match a with
    | ⟨0, _⟩ => rfl
    | ⟨1, _⟩ => rfl

end Cert.KProof

end
-- ==== Proof.Equal.lean ====
module
public import proofs.«01_k».proof.Proof.Dots
public import proofs.«01_k».proof.Proof.RefRun

/-! # The kernel's result is the reference's

Over the extended reals every device's result is the reference's result of the whole arrays.
-/

@[expose] public section

noncomputable section

namespace Cert.KProof

open Cert.KernelIdeal Cert.KernelIdeal.Gen
open Idealize.ShloMosaic
open Idealize.ShloMosaic.TcCoe

variable (I : Ins Ideal)

/-- The result on any block, whichever device completed it, is taken from the complete sum. -/
theorem outv_eq (c : Dev nD) (k : Fin 4) (s d : Fin 2) : outv I c k s d = epi (scl I c) (ex (AV I d s k)) := by
  unfold outv
  split
  next h =>
    have ho : owner d k = c := by subst h; revert c d; decide
    have hv : rows s (vcat fun s => lval I d 2 s c) = SV I 2 d s (src d c) := by rw [rows_vcat]; rfl
    unfold AV
    rw [ho]
    show epi (scl I c) (addf (rows s (pr I 3 d c)) (rows s (vcat fun s => lval I d 2 s c))) = _
    rw [hv]
    rfl
  next => rfl

/-- The pattern of one. -/
theorem one_bits : Ideal.ofBits .f32 0x3F800000#32 = 1 := by simp [Ideal.ofBits, Ideal.ieee, -EReal.coe_mul]; norm_num
/-- The pattern of zero. -/
theorem zero_bits : Ideal.ofBits .f32 0x00000000#32 = 0 := by simp [Ideal.ofBits, Ideal.ieee]

/-- An exponential is not negative. -/
theorem exp_nonneg (x : EReal) : 0 ≤ Ideal.exp x := by
  induction x with
  | bot => simp
  | top => simp
  | coe r => rw [Ideal.exp_coe]; exact_mod_cast (Real.exp_pos r).le

/-- Multiplying by the quotient of one by `1 + eˣ` is dividing by it. -/
theorem times_inverse (y x : EReal) : y * Ideal.div 1 (1 + Ideal.exp x) = Ideal.div y (1 + Ideal.exp x) := by
  have h : (1 + Ideal.exp x : EReal) ≠ 0 := by
    have : (0 : EReal) < 1 + Ideal.exp x := lt_of_lt_of_le zero_lt_one (le_add_of_nonneg_right (exp_nonneg x))
    exact this.ne'
  unfold Ideal.div
  rw [if_neg h, if_neg h, one_mul]

/-- The last steps of the kernel and of the reference agree. -/
theorem epi_at (X : FVec Ideal Cert.ReferenceIdeal.S4096x4096 .f32) (W : FVec Ideal Cert.ReferenceIdeal.S4096x2048 .f32)
    (a b : FVec Ideal Cert.ReferenceIdeal.S1 .f32) (z : EReal) (v : Half Ideal .f32) (i : Fin 512) (j : Fin 1024) (r : Fin 4096) (q : Fin 2048)
    (hz : z = (a (ix1 0) : EReal) * b (ix1 0)) (hv : (v (ix2 i j) : EReal) = ∑ u : Fin 4096, (X (ix2 r u) : EReal) * W (ix2 u q)) :
    epi z v (ix2 i j) = Cert.RefProof.refOut X W a b (ix2 r q) := by
  pointwise [Cert.RefProof.refOut, Cert.RefProof.scaled, id]
  rw [zero_sub, ← hv, ← hz]
  exact times_inverse _ _

/-- A result of any device, at a row and a column, by the block it is in. -/
theorem outX_at (c : Dev nD) (k : Fin 4) (s d : Fin 2) (i : Fin 512) (j : Fin 1024) :
    outX I c (ix2 (rowAt k s i) (colAt d j)) = epi (scl I c) (ex (AV I d s k)) (ix2 i j) := by
  rw [← outv_eq]
  have h := congrFun (outX_part I (c := c) (k, s, d)) (ix2 i j)
  rw [← h]
  congr 1
  funext a
  match a with
  | ⟨0, _⟩ =>
    apply Fin.ext
    show 1024 * k.val + 512 * s.val + i.val = 1024 * k.val + 512 * s.val + 1 * i.val
    omega
  | ⟨1, _⟩ =>
    apply Fin.ext
    show 1024 * d.val + j.val = 1024 * d.val + 1 * j.val
    omega

/-- Every device's result is the reference's result of the whole arrays. -/
theorem outX_ref (X : FVec Ideal Cert.ReferenceIdeal.S4096x4096 .f32) (W : FVec Ideal Cert.ReferenceIdeal.S4096x2048 .f32)
    (a b : FVec Ideal Cert.ReferenceIdeal.S1 .f32)
    (hx : ∀ c, I.x c = Layout.block ⟨2, ![4096, 1024]⟩ ⟨2, ![4096, 4096]⟩ 1 4 c X)
    (hw : ∀ c, I.w c = Layout.block ⟨2, ![1024, 2048]⟩ ⟨2, ![4096, 2048]⟩ 0 4 c W)
    (ha : ∀ c, I.sx c = a (ix1 0)) (hb : ∀ c, I.sw c = b (ix1 0)) (c : Dev nD) :
    outX I c = Cert.RefProof.refOut X W a b := by
  funext x
  obtain ⟨r, q, rfl⟩ : ∃ (r : Fin 4096) (q : Fin 2048), x = ix2 r q := ⟨x 0, x 1, eq_ix2 x⟩
  obtain ⟨k, s, i, rfl⟩ : ∃ (k : Fin 4) (s : Fin 2) (i : Fin 512), r = rowAt k s i :=
    ⟨⟨r.val / 1024, by omega⟩, ⟨r.val % 1024 / 512, by omega⟩, ⟨r.val % 512, by omega⟩, Fin.ext (by
      show r.val = 1024 * (r.val / 1024) + 512 * (r.val % 1024 / 512) + r.val % 512
      omega)⟩
  obtain ⟨d, j, rfl⟩ : ∃ (d : Fin 2) (j : Fin 1024), q = colAt d j :=
    ⟨⟨q.val / 1024, by omega⟩, ⟨q.val % 1024, by omega⟩, Fin.ext (by
      show q.val = 1024 * (q.val / 1024) + q.val % 1024
      omega)⟩
  rw [outX_at]
  refine epi_at X W a b _ _ i j _ _ ?_ ?_
  · show (I.sx c : EReal) * I.sw c = _
    rw [ha, hb]
  · exact (AV_at I d s k i j).trans (parts_dot I X W hx hw _ _)

end Cert.KProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.RefRun
public import proofs.«01_k».proof.Proof.Same
public import proofs.«01_k».proof.Proof.Equal
public import Idealize.ShloMosaic.Adequacy
public import Idealize.ShloMosaic.Init

@[expose] public section

noncomputable section

namespace Cert.Proof

open Idealize.ShloMosaic Idealize.ShloMosaic.TcCoe Idealize.SL.Sem

section Frames

open Cert.KernelIdeal

/-- The kernel's frame for any float values. -/
theorem frame_any {F : FTy → Type} [FloatOps F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (Cert.KProof.run_main m g)

end Frames

set_option maxHeartbeats 4000000 in
/-- The kernel's frame at the bit patterns. -/
theorem frame_kernel : Cert.quiescent_Kernel := fun m g _ => by
  rw [Cert.KProof.same_defs]
  exact frame_any (F := Bits) m g

/-- The kernel's frame over the extended reals. -/
theorem frame_ideal : Cert.quiescent_KernelIdeal := fun m g _ => frame_any (F := Ideal) m g

/-- The reference's frame. -/
theorem frame_reference : Cert.quiescent_ReferenceIdeal := fun m g _ =>
  (θ_run (Cert.ReferenceIdeal.defs (F := Ideal)) _ _).mono (fun _ h => ⟨fun c => (h.1 c).2, h.2⟩) (Cert.RefProof.run_ref (F := Ideal) m g)

/-- Over the extended reals every device ends with the reference's result. -/
theorem equal_results : Cert.algebraic_KernelIdeal_ReferenceIdeal := fun m g m' g' _ hagree =>
  ⟨Cert.RefProof.refOut (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)),
    (θ_run (Cert.KernelIdeal.defs (F := Ideal)) _ _).mono
      (fun _ h c => ⟨(h.1 c).2.2.2.2.trans (Cert.KProof.outX_ref (Cert.KProof.ins m) _ _ _ _ (fun c => (hagree c).1) (fun c => (hagree c).2.1)
          (fun c => (congrFun (hagree c).2.2.1 Cert.KProof.i0).trans (congrArg _ (Cert.KProof.s1_one _ _)))
          (fun c => (congrFun (hagree c).2.2.2 Cert.KProof.i0).trans (congrArg _ (Cert.KProof.s1_one _ _))) c),
        (h.1 c).1, (h.1 c).2.1, (h.1 c).2.2.1, (h.1 c).2.2.2.1⟩) (Cert.KProof.run_main (F := Ideal) m g),
    (θ_run (Cert.ReferenceIdeal.defs (F := Ideal)) _ _).mono (fun _ h => h.1 0) (Cert.RefProof.run_ref (F := Ideal) m' g')⟩

/-- Every claim. -/
theorem claim : Cert.Claim :=
  ⟨Cert.Kernel.Gen.facts, Cert.KernelIdeal.Gen.facts, Cert.ReferenceIdeal.Gen.facts,
    frame_kernel, frame_ideal, frame_reference, trivial, equal_results⟩

end Cert.Proof

end
